-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)) (v3 : (c : Dev Cert.Kernel3Ideal.nD) → Buf (Elt Ideal) ((c.tc : Thread Cert.Kernel3Ideal.nD Cert.Kernel3Ideal.τ).loc Cert.Kernel3Ideal.main_v47_3)) (v4 : (c : Dev Cert.Kernel3Ideal.nD) → Buf (Elt Ideal) ((c.tc : Thread Cert.Kernel3Ideal.nD Cert.Kernel3Ideal.τ).loc Cert.Kernel3Ideal.main_v47_4)) (v5 : (c : Dev Cert.Kernel3Ideal.nD) → Buf (Elt Ideal) ((c.tc : Thread Cert.Kernel3Ideal.nD Cert.Kernel3Ideal.τ).loc Cert.Kernel3Ideal.main_v47_5)) (v6 : (c : Dev Cert.Kernel3Ideal.nD) → Buf (Elt Ideal) ((c.tc : Thread Cert.Kernel3Ideal.nD Cert.Kernel3Ideal.τ).loc Cert.Kernel3Ideal.main_v47_6)) (v7 : (c : Dev Cert.Kernel3Ideal.nD) → Buf (Elt Ideal) ((c.tc : Thread Cert.Kernel3Ideal.nD Cert.Kernel3Ideal.τ).loc Cert.Kernel3Ideal.main_v47_7)) (v8 : (c : Dev Cert.Kernel3Ideal.nD) → Buf (Elt Ideal) ((c.tc : Thread Cert.Kernel3Ideal.nD Cert.Kernel3Ideal.τ).loc Cert.Kernel3Ideal.main_v47_8)) (v9 : (c : Dev Cert.Kernel3Ideal.nD) → Buf (Elt Ideal) ((c.tc : Thread Cert.Kernel3Ideal.nD Cert.Kernel3Ideal.τ).loc Cert.Kernel3Ideal.main_v47_9)) (v10 : (c : Dev Cert.Kernel3Ideal.nD) → Buf (Elt Ideal) ((c.tc : Thread Cert.Kernel3Ideal.nD Cert.Kernel3Ideal.τ).loc Cert.Kernel3Ideal.main_v47_10)) (v11 : (c : Dev Cert.Kernel3Ideal.nD) → Buf (Elt Ideal) ((c.tc : Thread Cert.Kernel3Ideal.nD Cert.Kernel3Ideal.τ).loc Cert.Kernel3Ideal.main_v47_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_v47_3) = v3 c
          ∧ r.2.mem ((c.tc : Thread Cert.Kernel3Ideal.nD Cert.Kernel3Ideal.τ).loc Cert.Kernel3Ideal.main_v47_4) = v4 c
          ∧ r.2.mem ((c.tc : Thread Cert.Kernel3Ideal.nD Cert.Kernel3Ideal.τ).loc Cert.Kernel3Ideal.main_v47_5) = v5 c
          ∧ r.2.mem ((c.tc : Thread Cert.Kernel3Ideal.nD Cert.Kernel3Ideal.τ).loc Cert.Kernel3Ideal.main_v47_6) = v6 c
          ∧ r.2.mem ((c.tc : Thread Cert.Kernel3Ideal.nD Cert.Kernel3Ideal.τ).loc Cert.Kernel3Ideal.main_v47_7) = v7 c
          ∧ r.2.mem ((c.tc : Thread Cert.Kernel3Ideal.nD Cert.Kernel3Ideal.τ).loc Cert.Kernel3Ideal.main_v47_8) = v8 c
          ∧ r.2.mem ((c.tc : Thread Cert.Kernel3Ideal.nD Cert.Kernel3Ideal.τ).loc Cert.Kernel3Ideal.main_v47_9) = v9 c
          ∧ r.2.mem ((c.tc : Thread Cert.Kernel3Ideal.nD Cert.Kernel3Ideal.τ).loc Cert.Kernel3Ideal.main_v47_10) = v10 c
          ∧ r.2.mem ((c.tc : Thread Cert.Kernel3Ideal.nD Cert.Kernel3Ideal.τ).loc Cert.Kernel3Ideal.main_v47_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_v125) = v1 c
          ∧ r.2.mem ((c.tc : Thread Cert.Reference3Ideal.nD Cert.Reference3Ideal.τ).loc Cert.Reference3Ideal.main_v126) = v2 c
          ∧ r.2.mem ((c.tc : Thread Cert.Reference3Ideal.nD Cert.Reference3Ideal.τ).loc Cert.Reference3Ideal.main_v146) = v3 c
          ∧ r.2.mem ((c.tc : Thread Cert.Reference3Ideal.nD Cert.Reference3Ideal.τ).loc Cert.Reference3Ideal.main_v147) = v4 c
          ∧ r.2.mem ((c.tc : Thread Cert.Reference3Ideal.nD Cert.Reference3Ideal.τ).loc Cert.Reference3Ideal.main_v167) = v5 c
          ∧ r.2.mem ((c.tc : Thread Cert.Reference3Ideal.nD Cert.Reference3Ideal.τ).loc Cert.Reference3Ideal.main_v168) = v6 c
          ∧ r.2.mem ((c.tc : Thread Cert.Reference3Ideal.nD Cert.Reference3Ideal.τ).loc Cert.Reference3Ideal.main_v83) = v7 c
          ∧ r.2.mem ((c.tc : Thread Cert.Reference3Ideal.nD Cert.Reference3Ideal.τ).loc Cert.Reference3Ideal.main_v190) = v8 c
          ∧ r.2.mem ((c.tc : Thread Cert.Reference3Ideal.nD Cert.Reference3Ideal.τ).loc Cert.Reference3Ideal.main_v191) = v9 c
          ∧ r.2.mem ((c.tc : Thread Cert.Reference3Ideal.nD Cert.Reference3Ideal.τ).loc Cert.Reference3Ideal.main_v192) = v10 c
          ∧ r.2.mem ((c.tc : Thread Cert.Reference3Ideal.nD Cert.Reference3Ideal.τ).loc Cert.Reference3Ideal.main_v76) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
-- ==== Pre_finite.lean ====
abbrev S8x4096x512 : Shape := ⟨3, ![8, 4096, 512]⟩
abbrev S8x16x512 : Shape := ⟨3, ![8, 16, 512]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)

variable [Facts]

def fn {F : FTy → Type} [FloatOps F] (main_arg0 : FVec F S8x4096x512 .bf16) (main_arg1 : FVec F S8x4096x512 .bf16) (main_arg2 : FVec F S8x4096x512 .bf16) (main_arg3 : FVec F S8x16x512 .f32) : IVec S8x4096x512 1 :=
  let main_v0 : FVec F S8x4096x512 .f32 := (extf .f32 · bitsLt_bf16_f32) main_arg0
  let main_v1 : FVec F S8x4096x512 .f32 := (extf .f32 · bitsLt_bf16_f32) main_arg1
  let main_cst : FVec F S_ .f32 := constant S_ .f32 0xFF800000#32
  let main_v2 : FVec F S8x4096x512 .f32 := broadcastInDim S8x4096x512 ![] bcast_S_S8x4096x512 main_cst
  let main_v3 : IVec S8x4096x512 1 := cmpf .ogt main_v0 main_v2
  let main_cst_0 : FVec F S_ .f32 := constant S_ .f32 0x7F800000#32
  let main_v4 : FVec F S8x4096x512 .f32 := broadcastInDim S8x4096x512 ![] bcast_S_S8x4096x512 main_cst_0
  let main_v5 : IVec S8x4096x512 1 := cmpf .olt main_v0 main_v4
  let main_v6 : IVec S8x4096x512 1 := andi main_v3 main_v5
  let main_cst_1 : FVec F S_ .f32 := constant S_ .f32 0xFF800000#32
  let main_v7 : FVec F S8x4096x512 .f32 := broadcastInDim S8x4096x512 ![] bcast_S_S8x4096x512 main_cst_1
  let main_v8 : IVec S8x4096x512 1 := cmpf .ogt main_v1 main_v7
  let main_v9 : IVec S8x4096x512 1 := andi main_v6 main_v8
  let main_cst_2 : FVec F S_ .f32 := constant S_ .f32 0x7F800000#32
  let main_v10 : FVec F S8x4096x512 .f32 := broadcastInDim S8x4096x512 ![] bcast_S_S8x4096x512 main_cst_2
  let main_v11 : IVec S8x4096x512 1 := cmpf .olt main_v1 main_v10
  let main_v12 : IVec S8x4096x512 1 := andi main_v9 main_v11
  main_v12
-- ==== Pre_in_range.lean ====
abbrev S1280 : Shape := ⟨1, ![1280]⟩
abbrev S327680x8x128 : Shape := ⟨3, ![327680, 8, 128]⟩
abbrev S256x1024x256 : Shape := ⟨3, ![256, 1024, 256]⟩
abbrev S256x256x1024 : Shape := ⟨3, ![256, 256, 1024]⟩
abbrev S_ : Shape := ⟨0, ![]⟩

class Facts : Prop where
  bcast_S_S1280 : S_.BroadcastsInDim S1280 (![] : Fin 0 → Fin S1280.rank)

variable [Facts]

def fn {F : FTy → Type} [FloatOps F] (main_arg0 : IVec S1280 32) (main_arg1 : FVec F S327680x8x128 .f32) (main_arg2 : FVec F S256x1024x256 .f32) (main_arg3 : FVec F S256x1024x256 .f32) (main_arg4 : FVec F S256x256x1024 .f32) : IVec S1280 1 :=
  let main_c : IVec S_ 32 := constantI S_ 32 0#32
  let main_v0 : IVec S1280 32 := broadcastInDim S1280 ![] bcast_S_S1280 main_c
  let main_v1 : IVec S1280 1 := cmpi .sge main_arg0 main_v0
  let main_c_0 : IVec S_ 32 := constantI S_ 32 256#32
  let main_v2 : IVec S1280 32 := broadcastInDim S1280 ![] bcast_S_S1280 main_c_0
  let main_v3 : IVec S1280 1 := cmpi .slt main_arg0 main_v2
  let main_v4 : IVec S1280 1 := andi main_v1 main_v3
  main_v4
-- ==== Kernel.lean ====
abbrev S8x4096x512 : Shape := ⟨3, ![8, 4096, 512]⟩
abbrev S8x16x512 : Shape := ⟨3, ![8, 16, 512]⟩
abbrev S1x256x128 : Shape := ⟨3, ![1, 256, 128]⟩
abbrev S1x4096x128 : Shape := ⟨3, ![1, 4096, 128]⟩
abbrev S1x16x128 : Shape := ⟨3, ![1, 16, 128]⟩
abbrev S256x256 : Shape := ⟨2, ![256, 256]⟩
abbrev S256x16 : Shape := ⟨2, ![256, 16]⟩
abbrev S1x256x64 : Shape := ⟨3, ![1, 256, 64]⟩
abbrev S256x64 : Shape := ⟨2, ![256, 64]⟩
abbrev S1x16x64 : Shape := ⟨3, ![1, 16, 64]⟩
abbrev S16x64 : Shape := ⟨2, ![16, 64]⟩
abbrev S256x1 : Shape := ⟨2, ![256, 1]⟩
abbrev S256 : Shape := ⟨1, ![256]⟩
abbrev S256x128 : Shape := ⟨2, ![256, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x16x512, .f32⟩
  | .hbm, ⟨4, _⟩ => ⟨S8x4096x512, .f32⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x128, .f32⟩
  | .local _ .vmem, ⟨7, _⟩ => ⟨S1x16x128, .f32⟩
  | .local _ .vmem, ⟨8, _⟩ => ⟨S1x256x128, .f32⟩
  | .local _ .vmem, ⟨9, _⟩ => ⟨S1x256x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c256_i32 : BitVec 32 := 256#32
  let v198 : BitVec 32 := Scalar.muli arg2 c256_i32
  v198
def k0_off1 (i : grid0.Coords) : Fin 3 → Nat :=
  let c0_8 : Index := 0#32
  let arg2 : BitVec 32 := BitVec.ofNat 32 (i 2).val
  let c256_i32 : BitVec 32 := 256#32
  let v198 : BitVec 32 := Scalar.muli arg2 c256_i32
  let v199 : BitVec 32 := v198
  let v201 : Index := Scalar.indexCast v199
  let c0_9 : Index := 0#32
  ![0, v201.toNat, 0]
@[reducible] def k0_t1_loop (i : grid0.Coords) : Scf.Loop 32 :=
  let c0_i32_17 : BitVec 32 := 0#32
  let arg2 : BitVec 32 := BitVec.ofNat 32 (i 2).val
  let v219 : BitVec 32 := Scalar.subi arg2 c0_i32_17
  let c1_i32_18 : BitVec 32 := 1#32
  let v221 : BitVec 32 := Scalar.divsi v219 c1_i32_18
  let v222 : BitVec 32 := Scalar.muli v221 c1_i32_18
  let v223 : BitVec 32 := Scalar.addi c0_i32_17 v222
  let c1_i32_19 : BitVec 32 := 1#32
  ⟨c0_i32_17, v223, c1_i32_19⟩
def k0_mult2 (i : grid0.Coords) (k0_t1 : Fin (k0_t1_loop i).trips) : BitVec 32 :=
  let c0_i32_17 : BitVec 32 := 0#32
  let c1_i32_19 : BitVec 32 := 1#32
  let arg8 : BitVec 32 := Scf.iv c0_i32_17 c1_i32_19 k0_t1
  let c256_i32_63 : BitVec 32 := 256#32
  let v457 : BitVec 32 := Scalar.muli arg8 c256_i32_63
  v457
def k0_off2 (i : grid0.Coords) (k0_t1 : Fin (k0_t1_loop i).trips) : Fin 3 → Nat :=
  let c0_67 : Index := 0#32
  let c0_i32_17 : BitVec 32 := 0#32
  let c1_i32_19 : BitVec 32 := 1#32
  let arg8 : BitVec 32 := Scf.iv c0_i32_17 c1_i32_19 k0_t1
  let c256_i32_63 : BitVec 32 := 256#32
  let v457 : BitVec 32 := Scalar.muli arg8 c256_i32_63
  let v458 : BitVec 32 := v457
  let v467 : Index := Scalar.indexCast v458
  let c0_68 : Index := 0#32
  ![0, v467.toNat, 0]
@[reducible] def k0_t2_loop (i : grid0.Coords) : Scf.Loop 32 :=
  let c0_i32_17 : BitVec 32 := 0#32
  let arg2 : BitVec 32 := BitVec.ofNat 32 (i 2).val
  let v219 : BitVec 32 := Scalar.subi arg2 c0_i32_17
  let c1_i32_18 : BitVec 32 := 1#32
  let v221 : BitVec 32 := Scalar.divsi v219 c1_i32_18
  let v222 : BitVec 32 := Scalar.muli v221 c1_i32_18
  let v223 : BitVec 32 := Scalar.addi c0_i32_17 v222
  let v220 : BitVec 32 := Scalar.addi c0_i32_17 v219
  let c1_i32_20 : BitVec 32 := 1#32
  ⟨v223, v220, c1_i32_20⟩
def k0_mult3 (i : grid0.Coords) (k0_t2 : Fin (k0_t2_loop i).trips) : BitVec 32 :=
  let c0_i32_17 : BitVec 32 := 0#32
  let arg2 : BitVec 32 := BitVec.ofNat 32 (i 2).val
  let v219 : BitVec 32 := Scalar.subi arg2 c0_i32_17
  let c1_i32_18 : BitVec 32 := 1#32
  let v221 : BitVec 32 := Scalar.divsi v219 c1_i32_18
  let v222 : BitVec 32 := Scalar.muli v221 c1_i32_18
  let v223 : BitVec 32 := Scalar.addi c0_i32_17 v222
  let c1_i32_20 : BitVec 32 := 1#32
  let arg8 : BitVec 32 := Scf.iv v223 c1_i32_20 k0_t2
  let c256_i32_63 : BitVec 32 := 256#32
  let v457 : BitVec 32 := Scalar.muli arg8 c256_i32_63
  v457
def k0_off3 (i : grid0.Coords) (k0_t2 : Fin (k0_t2_loop i).trips) : Fin 3 → Nat :=
  let c0_67 : Index := 0#32
  let c0_i32_17 : BitVec 32 := 0#32
  let arg2 : BitVec 32 := BitVec.ofNat 32 (i 2).val
  let v219 : BitVec 32 := Scalar.subi arg2 c0_i32_17
  let c1_i32_18 : BitVec 32 := 1#32
  let v221 : BitVec 32 := Scalar.divsi v219 c1_i32_18
  let v222 : BitVec 32 := Scalar.muli v221 c1_i32_18
  let v223 : BitVec 32 := Scalar.addi c0_i32_17 v222
  let c1_i32_20 : BitVec 32 := 1#32
  let arg8 : BitVec 32 := Scf.iv v223 c1_i32_20 k0_t2
  let c256_i32_63 : BitVec 32 := 256#32
  let v457 : BitVec 32 := Scalar.muli arg8 c256_i32_63
  let v458 : BitVec 32 := v457
  let v467 : Index := Scalar.indexCast v458
  let c0_68 : Index := 0#32
  ![0, v467.toNat, 0]
def k0_mult4 (i : grid0.Coords) : BitVec 32 :=
  let arg2 : BitVec 32 := BitVec.ofNat 32 (i 2).val
  let c256_i32_46 : BitVec 32 := 256#32
  let v423 : BitVec 32 := Scalar.muli arg2 c256_i32_46
  v423
def k0_off4 (i : grid0.Coords) : Fin 3 → Nat :=
  let c0_47 : Index := 0#32
  let arg2 : BitVec 32 := BitVec.ofNat 32 (i 2).val
  let c256_i32_46 : BitVec 32 := 256#32
  let v423 : BitVec 32 := Scalar.muli arg2 c256_i32_46
  let v424 : BitVec 32 := v423
  let v426 : Index := Scalar.indexCast v424
  let c64_48 : Index := 64#32
  ![0, v426.toNat, 64]
@[reducible] def k0_t3_loop (i : grid0.Coords) : Scf.Loop 32 :=
  let c0_i32_56 : BitVec 32 := 0#32
  let arg2 : BitVec 32 := BitVec.ofNat 32 (i 2).val
  let v444 : BitVec 32 := Scalar.subi arg2 c0_i32_56
  let c1_i32_57 : BitVec 32 := 1#32
  let v446 : BitVec 32 := Scalar.divsi v444 c1_i32_57
  let v447 : BitVec 32 := Scalar.muli v446 c1_i32_57
  let v448 : BitVec 32 := Scalar.addi c0_i32_56 v447
  let c1_i32_58 : BitVec 32 := 1#32
  ⟨c0_i32_56, v448, c1_i32_58⟩
def k0_mult5 (i : grid0.Coords) (k0_t3 : Fin (k0_t3_loop i).trips) : BitVec 32 :=
  let c0_i32_56 : BitVec 32 := 0#32
  let c1_i32_58 : BitVec 32 := 1#32
  let arg8 : BitVec 32 := Scf.iv c0_i32_56 c1_i32_58 k0_t3
  let c256_i32_63 : BitVec 32 := 256#32
  let v457 : BitVec 32 := Scalar.muli arg8 c256_i32_63
  v457
def k0_off5 (i : grid0.Coords) (k0_t3 : Fin (k0_t3_loop i).trips) : Fin 3 → Nat :=
  let c0_67 : Index := 0#32
  let c0_i32_56 : BitVec 32 := 0#32
  let c1_i32_58 : BitVec 32 := 1#32
  let arg8 : BitVec 32 := Scf.iv c0_i32_56 c1_i32_58 k0_t3
  let c256_i32_63 : BitVec 32 := 256#32
  let v457 : BitVec 32 := Scalar.muli arg8 c256_i32_63
  let v458 : BitVec 32 := v457
  let v467 : Index := Scalar.indexCast v458
  let c64_68 : Index := 64#32
  ![0, v467.toNat, 64]
@[reducible] def k0_t4_loop (i : grid0.Coords) : Scf.Loop 32 :=
  let c0_i32_56 : BitVec 32 := 0#32
  let arg2 : BitVec 32 := BitVec.ofNat 32 (i 2).val
  let v444 : BitVec 32 := Scalar.subi arg2 c0_i32_56
  let c1_i32_57 : BitVec 32 := 1#32
  let v446 : BitVec 32 := Scalar.divsi v444 c1_i32_57
  let v447 : BitVec 32 := Scalar.muli v446 c1_i32_57
  let v448 : BitVec 32 := Scalar.addi c0_i32_56 v447
  let v445 : BitVec 32 := Scalar.addi c0_i32_56 v444
  let c1_i32_59 : BitVec 32 := 1#32
  ⟨v448, v445, c1_i32_59⟩
def k0_mult6 (i : grid0.Coords) (k0_t4 : Fin (k0_t4_loop i).trips) : BitVec 32 :=
  let c0_i32_56 : BitVec 32 := 0#32
  let arg2 : BitVec 32 := BitVec.ofNat 32 (i 2).val
  let v444 : BitVec 32 := Scalar.subi arg2 c0_i32_56
  let c1_i32_57 : BitVec 32 := 1#32
  let v446 : BitVec 32 := Scalar.divsi v444 c1_i32_57
  let v447 : BitVec 32 := Scalar.muli v446 c1_i32_57
  let v448 : BitVec 32 := Scalar.addi c0_i32_56 v447
  let c1_i32_59 : BitVec 32 := 1#32
  let arg8 : BitVec 32 := Scf.iv v448 c1_i32_59 k0_t4
  let c256_i32_63 : BitVec 32 := 256#32
  let v457 : BitVec 32 := Scalar.muli arg8 c256_i32_63
  v457
def k0_off6 (i : grid0.Coords) (k0_t4 : Fin (k0_t4_loop i).trips) : Fin 3 → Nat :=
  let c0_67 : Index := 0#32
  let c0_i32_56 : BitVec 32 := 0#32
  let arg2 : BitVec 32 := BitVec.ofNat 32 (i 2).val
  let v444 : BitVec 32 := Scalar.subi arg2 c0_i32_56
  let c1_i32_57 : BitVec 32 := 1#32
  let v446 : BitVec 32 := Scalar.divsi v444 c1_i32_57
  let v447 : BitVec 32 := Scalar.muli v446 c1_i32_57
  let v448 : BitVec 32 := Scalar.addi c0_i32_56 v447
  let c1_i32_59 : BitVec 32 := 1#32
  let arg8 : BitVec 32 := Scf.iv v448 c1_i32_59 k0_t4
  let c256_i32_63 : BitVec 32 := 256#32
  let v457 : BitVec 32 := Scalar.muli arg8 c256_i32_63
  let v458 : BitVec 32 := v457
  let v467 : Index := Scalar.indexCast v458
  let c64_68 : Index := 64#32
  ![0, v467.toNat, 64]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S8x16x512 : Shape := ⟨3, ![8, 16, 512]⟩
abbrev S8x4096x8x64 : Shape := ⟨4, ![8, 4096, 8, 64]⟩
abbrev S8x8x4096x64 : Shape := ⟨4, ![8, 8, 4096, 64]⟩
abbrev S8x16x8x64 : Shape := ⟨4, ![8, 16, 8, 64]⟩
abbrev S8x8x16x64 : Shape := ⟨4, ![8, 8, 16, 64]⟩
abbrev S4096 : Shape := ⟨1, ![4096]⟩
abbrev S_ : Shape := ⟨0, ![]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S8x8x4096x16 : Shape := ⟨4, ![8, 8, 4096, 16]⟩
abbrev S8x8x4096x3 : Shape := ⟨4, ![8, 8, 4096, 3]⟩
abbrev S8x8x4096x3x1 : Shape := ⟨5, ![8, 8, 4096, 3, 1]⟩
abbrev S1x1x1x1x16 : Shape := ⟨5, ![1, 1, 1, 1, 16]⟩
abbrev S8x8x4096x3x16 : Shape := ⟨5, ![8, 8, 4096, 3, 16]⟩
abbrev S1x1x4096x16 : Shape := ⟨4, ![1, 1, 4096, 16]⟩
abbrev S1x4096 : Shape := ⟨2, ![1, 4096]⟩
abbrev S4096x4096 : Shape := ⟨2, ![4096, 4096]⟩
abbrev S8x8x4096x16x256 : Shape := ⟨5, ![8, 8, 4096, 16, 256]⟩
abbrev S8x8x4096x4096 : Shape := ⟨4, ![8, 8, 4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x16x512, .f32⟩
  | .hbm, ⟨4, _⟩ => ⟨S8x4096x512, .f32⟩
  | .hbm, ⟨5, _⟩ => ⟨S8x4096x8x64, .f32⟩
  | .hbm, ⟨6, _⟩ => ⟨S8x8x4096x64, .f32⟩
  | .hbm, ⟨7, _⟩ => ⟨S8x4096x512, .f32⟩
  | .hbm, ⟨8, _⟩ => ⟨S8x4096x8x64, .f32⟩
  | .hbm, ⟨9, _⟩ => ⟨S8x8x4096x64, .f32⟩
  | .hbm, ⟨10, _⟩ => ⟨S8x4096x512, .f32⟩
  | .hbm, ⟨11, _⟩ => ⟨S8x4096x8x64, .f32⟩
  | .hbm, ⟨12, _⟩ => ⟨S8x8x4096x64, .f32⟩
  | .hbm, ⟨13, _⟩ => ⟨S8x16x8x64, .f32⟩
  | .hbm, ⟨14, _⟩ => ⟨S8x8x16x64, .f32⟩
  | .hbm, ⟨15, _⟩ => ⟨S4096, .i32⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S16, .i32⟩
  | .hbm, ⟨35, _⟩ => ⟨S1x16, .i32⟩
  | .hbm, ⟨36, _⟩ => ⟨S4096x1, .i32⟩
  | .hbm, ⟨37, _⟩ => ⟨S4096x16, .i32⟩
  | .hbm, ⟨38, _⟩ => ⟨S4096x16, .i32⟩
  | .hbm, ⟨39, _⟩ => ⟨S4096x16, .i1⟩
  | .hbm, ⟨40, _⟩ => ⟨S8x8x4096x16, .f32⟩
  | .hbm, ⟨41, _⟩ => ⟨S_, .f32⟩
  | .hbm, ⟨42, _⟩ => ⟨S_, .f32⟩
  | .hbm, ⟨43, _⟩ => ⟨S8x8x4096x16, .i1⟩
  | .hbm, ⟨44, _⟩ => ⟨S8x8x4096x16, .f32⟩
  | .hbm, ⟨45, _⟩ => ⟨S8x8x4096x16, .f32⟩
  | .hbm, ⟨46, _⟩ => ⟨S8x8x4096x3, .f32⟩
  | .hbm, ⟨47, _⟩ => ⟨S8x8x4096x3, .i32⟩
  | .hbm, ⟨48, _⟩ => ⟨S8x8x4096x3x1, .i32⟩
  | .hbm, ⟨49, _⟩ => ⟨S1x1x1x1x16, .i32⟩
  | .hbm, ⟨50, _⟩ => ⟨S8x8x4096x3x16, .i32⟩
  | .hbm, ⟨51, _⟩ => ⟨S8x8x4096x3x16, .i32⟩
  | .hbm, ⟨52, _⟩ => ⟨S8x8x4096x3x16, .i1⟩
  | .hbm, ⟨53, _⟩ => ⟨S_, .i1⟩
  | .hbm, ⟨54, _⟩ => ⟨S8x8x4096x16, .i1⟩
  | .hbm, ⟨55, _⟩ => ⟨S1x1x4096x16, .i1⟩
  | .hbm, ⟨56, _⟩ => ⟨S8x8x4096x16, .i1⟩
  | .hbm, ⟨57, _⟩ => ⟨S8x8x4096x16, .i1⟩
  | .hbm, ⟨58, _⟩ => ⟨S4096x1, .i32⟩
  | .hbm, ⟨59, _⟩ => ⟨S1x4096, .i32⟩
  | .hbm, ⟨60, _⟩ => ⟨S4096x4096, .i32⟩
  | .hbm, ⟨61, _⟩ => ⟨S4096x4096, .i32⟩
  | .hbm, ⟨62, _⟩ => ⟨S4096x4096, .i1⟩
  | .hbm, ⟨63, _⟩ => ⟨S1x4096, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S4096x4096, .i1⟩
  | .hbm, ⟨69, _⟩ => ⟨S8x8x4096x16x256, .i1⟩
  | .hbm, ⟨70, _⟩ => ⟨S8x8x4096x4096, .i1⟩
  | .hbm, ⟨71, _⟩ => ⟨S1x1x4096x4096, .i1⟩
  | .hbm, ⟨72, _⟩ => ⟨S8x8x4096x4096, .i1⟩
  | .hbm, ⟨73, _⟩ => ⟨S8x8x4096x4096, .i1⟩
  | .hbm, ⟨74, _⟩ => ⟨S8x8x4096x4096, .f32⟩
  | .hbm, ⟨75, _⟩ => ⟨S_, .f32⟩
  | .hbm, ⟨76, _⟩ => ⟨S_, .f32⟩
  | .hbm, ⟨77, _⟩ => ⟨S8x8x4096x4096, .f32⟩
  | .hbm, ⟨78, _⟩ => ⟨S8x8x4096x4096, .f32⟩
  | .hbm, ⟨79, _⟩ => ⟨S_, .f32⟩
  | .hbm, ⟨80, _⟩ => ⟨S8x8x4096, .f32⟩
  | .hbm, ⟨81, _⟩ => ⟨S_, .f32⟩
  | .hbm, ⟨82, _⟩ => ⟨S8x8x4096, .f32⟩
  | .hbm, ⟨83, _⟩ => ⟨S8x8x4096, .f32⟩
  | .hbm, ⟨84, _⟩ => ⟨S8x8x4096x1, .f32⟩
  | .hbm, ⟨85, _⟩ => ⟨S8x8x4096x4096, .f32⟩
  | .hbm, ⟨86, _⟩ => ⟨S8x8x4096x4096, .f32⟩
  | .hbm, ⟨87, _⟩ => ⟨S8x8x4096x4096, .f32⟩
  | .hbm, ⟨88, _⟩ => ⟨S_, .f32⟩
  | .hbm, ⟨89, _⟩ => ⟨S8x8x4096, .f32⟩
  | .hbm, ⟨90, _⟩ => ⟨S8x8x4096x1, .f32⟩
  | .hbm, ⟨91, _⟩ => ⟨S8x8x4096x4096, .f32⟩
  | .hbm, ⟨92, _⟩ => ⟨S8x8x4096x4096, .f32⟩
  | .hbm, ⟨93, _⟩ => ⟨S8x8x4096x4096, .f32⟩
  | .hbm, ⟨94, _⟩ => ⟨S8x8x4096x4096, .f32⟩
  | .hbm, ⟨95, _⟩ => ⟨S8x8x4096x64, .f32⟩
  | .hbm, ⟨96, _⟩ => ⟨S8x4096x8x64, .f32⟩
  | .hbm, ⟨97, _⟩ => ⟨S8x4096x512, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_values : Ref sig .tc := ⟨.hbm, 46, rfl⟩
abbrev main_indices : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_1 : Ref sig .tc := ⟨.hbm, 75, rfl⟩
abbrev main_call2_v0 : Ref sig .tc := ⟨.hbm, 76, rfl⟩
abbrev main_call2_v1 : Ref sig .tc := ⟨.hbm, 77, rfl⟩
abbrev main_v47 : Ref sig .tc := ⟨.hbm, 78, rfl⟩
abbrev main_cst_2 : Ref sig .tc := ⟨.hbm, 79, rfl⟩
abbrev main_v48 : Ref sig .tc := ⟨.hbm, 80, rfl⟩
abbrev main_cst_3 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_4 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]
-- ==== Kernel2.lean ====
abbrev S1280 : Shape := ⟨1, ![1280]⟩
abbrev S327680x8x128 : Shape := ⟨3, ![327680, 8, 128]⟩
abbrev S256x1024x256 : Shape := ⟨3, ![256, 1024, 256]⟩
abbrev S256x256x1024 : Shape := ⟨3, ![256, 256, 1024]⟩
abbrev S_ : Shape := ⟨0, ![]⟩
abbrev S1 : Shape := ⟨1, ![1]⟩
abbrev S1279 : Shape := ⟨1, ![1279]⟩
abbrev S256x8x128 : Shape := ⟨3, ![256, 8, 128]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S256x1x128 : Shape := ⟨3, ![256, 1, 128]⟩
abbrev S256x128 : Shape := ⟨2, ![256, 128]⟩
abbrev S256x256 : Shape := ⟨2, ![256, 256]⟩

abbrev nBuf : Space → Nat
  | .hbm => 11
  | .vmem => 13
  | .smem => 2
  | _ => 0

abbrev bufTy : (tb : Table) → Fin (tcTables nBuf tb) → BufTy
  | .hbm, ⟨0, _⟩ => ⟨S327680x8x128, .f32⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S_, .i32⟩
  | .hbm, ⟨5, _⟩ => ⟨S1, .i32⟩
  | .hbm, ⟨6, _⟩ => ⟨S1279, .i32⟩
  | .hbm, ⟨7, _⟩ => ⟨S1279, .i32⟩
  | .hbm, ⟨8, _⟩ => ⟨S1279, .i1⟩
  | .hbm, ⟨9, _⟩ => ⟨S1279, .i32⟩
  | .hbm, ⟨10, _⟩ => ⟨S327680x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x8x128, .f32⟩
  | .local _ .vmem, ⟨9, _⟩ => ⟨S256x8x128, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S1280, .i32⟩
  | .local _ .smem, ⟨1, _⟩ => ⟨S1280, .i32⟩
  | _, _ => ⟨S327680x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v6 : Ref sig .tc := ⟨.hbm, 10, rfl⟩
abbrev main_arg0 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1280], ![false]⟩

abbrev pre0 : Pipeline.Prefetch sig := ⟨2, ![main_arg0.idx, main_v5.idx], fun | 0 => main_arg0.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S1280 : Shape := ⟨1, ![1280]⟩
abbrev S327680x8x128 : Shape := ⟨3, ![327680, 8, 128]⟩
abbrev S256x1024x256 : Shape := ⟨3, ![256, 1024, 256]⟩
abbrev S256x256x1024 : Shape := ⟨3, ![256, 256, 1024]⟩
abbrev S1280x256x1024 : Shape := ⟨3, ![1280, 256, 1024]⟩
abbrev S_ : Shape := ⟨0, ![]⟩
abbrev S1280x1 : Shape := ⟨2, ![1280, 1]⟩
abbrev S1280x1024x256 : Shape := ⟨3, ![1280, 1024, 256]⟩
abbrev S1280x256x256 : Shape := ⟨3, ![1280, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S1280, .i32⟩
  | .hbm, ⟨1, _⟩ => ⟨S327680x8x128, .f32⟩
  | .hbm, ⟨2, _⟩ => ⟨S256x1024x256, .f32⟩
  | .hbm, ⟨3, _⟩ => ⟨S256x1024x256, .f32⟩
  | .hbm, ⟨4, _⟩ => ⟨S256x256x1024, .f32⟩
  | .hbm, ⟨5, _⟩ => ⟨S1280x256x1024, .f32⟩
  | .hbm, ⟨6, _⟩ => ⟨S_, .i32⟩
  | .hbm, ⟨7, _⟩ => ⟨S1280, .i32⟩
  | .hbm, ⟨8, _⟩ => ⟨S1280, .i1⟩
  | .hbm, ⟨9, _⟩ => ⟨S_, .i32⟩
  | .hbm, ⟨10, _⟩ => ⟨S1280, .i32⟩
  | .hbm, ⟨11, _⟩ => ⟨S1280, .i32⟩
  | .hbm, ⟨12, _⟩ => ⟨S1280, .i32⟩
  | .hbm, ⟨13, _⟩ => ⟨S1280x1, .i32⟩
  | .hbm, ⟨14, _⟩ => ⟨S1280x1024x256, .f32⟩
  | .hbm, ⟨15, _⟩ => ⟨S_, .i32⟩
  | .hbm, ⟨16, _⟩ => ⟨S1280, .i32⟩
  | .hbm, ⟨17, _⟩ => ⟨S1280, .i1⟩
  | .hbm, ⟨18, _⟩ => ⟨S_, .i32⟩
  | .hbm, ⟨19, _⟩ => ⟨S1280, .i32⟩
  | .hbm, ⟨20, _⟩ => ⟨S1280, .i32⟩
  | .hbm, ⟨21, _⟩ => ⟨S1280, .i32⟩
  | .hbm, ⟨22, _⟩ => ⟨S1280x1, .i32⟩
  | .hbm, ⟨23, _⟩ => ⟨S1280x1024x256, .f32⟩
  | .hbm, ⟨24, _⟩ => ⟨S_, .i32⟩
  | .hbm, ⟨25, _⟩ => ⟨S1280, .i32⟩
  | .hbm, ⟨26, _⟩ => ⟨S1280, .i1⟩
  | .hbm, ⟨27, _⟩ => ⟨S_, .i32⟩
  | .hbm, ⟨28, _⟩ => ⟨S1280, .i32⟩
  | .hbm, ⟨29, _⟩ => ⟨S1280, .i32⟩
  | .hbm, ⟨30, _⟩ => ⟨S1280, .i32⟩
  | .hbm, ⟨31, _⟩ => ⟨S1280x1, .i32⟩
  | .hbm, ⟨32, _⟩ => ⟨S1280x256x1024, .f32⟩
  | .hbm, ⟨33, _⟩ => ⟨S1280x256x256, .f32⟩
  | .hbm, ⟨34, _⟩ => ⟨S1280x256x256, .f32⟩
  | .hbm, ⟨35, _⟩ => ⟨S1280x256x256, .f32⟩
  | .hbm, ⟨36, _⟩ => ⟨S_, .f32⟩
  | .hbm, ⟨37, _⟩ => ⟨S1280x256x256, .f32⟩
  | .hbm, ⟨38, _⟩ => ⟨S1280x256x256, .f32⟩
  | .hbm, ⟨39, _⟩ => ⟨S_, .f32⟩
  | .hbm, ⟨40, _⟩ => ⟨S1280x256x256, .f32⟩
  | .hbm, ⟨41, _⟩ => ⟨S1280x256x256, .f32⟩
  | .hbm, ⟨42, _⟩ => ⟨S1280x256x256, .f32⟩
  | .hbm, ⟨43, _⟩ => ⟨S1280x256x256, .f32⟩
  | .hbm, ⟨44, _⟩ => ⟨S1280x256x256, .f32⟩
  | .hbm, ⟨45, _⟩ => ⟨S1280x256x1024, .f32⟩
  | .hbm, ⟨46, _⟩ => ⟨S327680x8x128, .f32⟩
  | _, _ => ⟨S1280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6x1024 : Shape := ⟨3, ![8, 6, 1024]⟩
abbrev S1024 : Shape := ⟨1, ![1024]⟩
abbrev S1024x2456 : Shape := ⟨2, ![1024, 2456]⟩
abbrev S1024x512 : Shape := ⟨2, ![1024, 512]⟩
abbrev S1024x64 : Shape := ⟨2, ![1024, 64]⟩
abbrev S1024x24 : Shape := ⟨2, ![1024, 24]⟩
abbrev S1024x384 : Shape := ⟨2, ![1024, 384]⟩
abbrev S_ : Shape := ⟨0, ![]⟩
abbrev S1024x128 : Shape := ⟨2, ![1024, 128]⟩
abbrev S1024x2560 : Shape := ⟨2, ![1024, 2560]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S4096x384 : Shape := ⟨2, ![4096, 384]⟩
abbrev S1x1024 : Shape := ⟨2, ![1, 1024]⟩
abbrev S8x4096x512 : Shape := ⟨3, ![8, 4096, 512]⟩
abbrev S8x4096x64 : Shape := ⟨3, ![8, 4096, 64]⟩
abbrev S8x4096x128 : Shape := ⟨3, ![8, 4096, 128]⟩
abbrev S8x16x1x512 : Shape := ⟨4, ![8, 16, 1, 512]⟩
abbrev S1x256x1024 : Shape := ⟨3, ![1, 256, 1024]⟩
abbrev S1x6x1024 : Shape := ⟨3, ![1, 6, 1024]⟩
abbrev S256x512 : Shape := ⟨2, ![256, 512]⟩
abbrev S256x384 : Shape := ⟨2, ![256, 384]⟩
abbrev S1x256x512 : Shape := ⟨3, ![1, 256, 512]⟩
abbrev S1x256x64 : Shape := ⟨3, ![1, 256, 64]⟩
abbrev S1x256x128 : Shape := ⟨3, ![1, 256, 128]⟩
abbrev S1x1x1x512 : Shape := ⟨4, ![1, 1, 1, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2560 : Shape := ⟨2, ![256, 2560]⟩
abbrev S256x64 : Shape := ⟨2, ![256, 64]⟩
abbrev S256x128 : Shape := ⟨2, ![256, 128]⟩
abbrev S512 : Shape := ⟨1, ![512]⟩
abbrev S1x512 : Shape := ⟨2, ![1, 512]⟩

abbrev nBuf : Space → Nat
  | .hbm => 71
  | .vmem => 38
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x2456, .f32⟩
  | .hbm, ⟨4, _⟩ => ⟨S1024x512, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x24, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x384, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x2560, .f32⟩
  | .hbm, ⟨20, _⟩ => ⟨S1024x2560, .bf16⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S4096, .f32⟩
  | .hbm, ⟨36, _⟩ => ⟨S4096x1, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x64, .f32⟩
  | .hbm, ⟨44, _⟩ => ⟨S4096x32, .f32⟩
  | .hbm, ⟨45, _⟩ => ⟨S4096x64, .f32⟩
  | .hbm, ⟨46, _⟩ => ⟨S1x4096x1x64, .f32⟩
  | .hbm, ⟨47, _⟩ => ⟨S1x4096x8x64, .f32⟩
  | .hbm, ⟨48, _⟩ => ⟨S4096x512, .f32⟩
  | .hbm, ⟨49, _⟩ => ⟨S1x4096x1x64, .f32⟩
  | .hbm, ⟨50, _⟩ => ⟨S1x4096x8x64, .f32⟩
  | .hbm, ⟨51, _⟩ => ⟨S4096x512, .f32⟩
  | .hbm, ⟨52, _⟩ => ⟨S_, .f32⟩
  | .hbm, ⟨53, _⟩ => ⟨S4096x64, .f32⟩
  | .hbm, ⟨54, _⟩ => ⟨S_, .f32⟩
  | .hbm, ⟨55, _⟩ => ⟨S4096x64, .f32⟩
  | .hbm, ⟨56, _⟩ => ⟨S4096x384, .f32⟩
  | .hbm, ⟨57, _⟩ => ⟨S4096x384, .f32⟩
  | .hbm, ⟨58, _⟩ => ⟨S1x1024, .f32⟩
  | .hbm, ⟨59, _⟩ => ⟨S8x4096x512, .bf16⟩
  | .hbm, ⟨60, _⟩ => ⟨S8x4096x64, .bf16⟩
  | .hbm, ⟨61, _⟩ => ⟨S8x4096x64, .bf16⟩
  | .hbm, ⟨62, _⟩ => ⟨S8x4096x64, .bf16⟩
  | .hbm, ⟨63, _⟩ => ⟨S8x4096x64, .bf16⟩
  | .hbm, ⟨64, _⟩ => ⟨S8x4096x64, .bf16⟩
  | .hbm, ⟨65, _⟩ => ⟨S8x4096x64, .bf16⟩
  | .hbm, ⟨66, _⟩ => ⟨S8x4096x128, .f32⟩
  | .hbm, ⟨67, _⟩ => ⟨S8x4096x512, .bf16⟩
  | .hbm, ⟨68, _⟩ => ⟨S8x4096x512, .bf16⟩
  | .hbm, ⟨69, _⟩ => ⟨S8x4096x512, .bf16⟩
  | .hbm, ⟨70, _⟩ => ⟨S8x16x1x512, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S1x256x512, .bf16⟩
  | .local _ .vmem, ⟨15, _⟩ => ⟨S1x256x512, .bf16⟩
  | .local _ .vmem, ⟨16, _⟩ => ⟨S1x256x64, .bf16⟩
  | .local _ .vmem, ⟨17, _⟩ => ⟨S1x256x64, .bf16⟩
  | .local _ .vmem, ⟨18, _⟩ => ⟨S1x256x64, .bf16⟩
  | .local _ .vmem, ⟨19, _⟩ => ⟨S1x256x64, .bf16⟩
  | .local _ .vmem, ⟨20, _⟩ => ⟨S1x256x64, .bf16⟩
  | .local _ .vmem, ⟨21, _⟩ => ⟨S1x256x64, .bf16⟩
  | .local _ .vmem, ⟨22, _⟩ => ⟨S1x256x64, .bf16⟩
  | .local _ .vmem, ⟨23, _⟩ => ⟨S1x256x64, .bf16⟩
  | .local _ .vmem, ⟨24, _⟩ => ⟨S1x256x64, .bf16⟩
  | .local _ .vmem, ⟨25, _⟩ => ⟨S1x256x64, .bf16⟩
  | .local _ .vmem, ⟨26, _⟩ => ⟨S1x256x64, .bf16⟩
  | .local _ .vmem, ⟨27, _⟩ => ⟨S1x256x64, .bf16⟩
  | .local _ .vmem, ⟨28, _⟩ => ⟨S1x256x128, .f32⟩
  | .local _ .vmem, ⟨29, _⟩ => ⟨S1x256x128, .f32⟩
  | .local _ .vmem, ⟨30, _⟩ => ⟨S1x256x512, .bf16⟩
  | .local _ .vmem, ⟨31, _⟩ => ⟨S1x256x512, .bf16⟩
  | .local _ .vmem, ⟨32, _⟩ => ⟨S1x256x512, .bf16⟩
  | .local _ .vmem, ⟨33, _⟩ => ⟨S1x256x512, .bf16⟩
  | .local _ .vmem, ⟨34, _⟩ => ⟨S1x256x512, .bf16⟩
  | .local _ .vmem, ⟨35, _⟩ => ⟨S1x256x512, .bf16⟩
  | .local _ .vmem, ⟨36, _⟩ => ⟨S1x1x1x512, .f32⟩
  | .local _ .vmem, ⟨37, _⟩ => ⟨S1x1x1x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev main_v47_3 : Ref sig .tc := ⟨.hbm, 62, rfl⟩
abbrev main_v47_4 : Ref sig .tc := ⟨.hbm, 63, rfl⟩
abbrev main_v47_5 : Ref sig .tc := ⟨.hbm, 64, rfl⟩
abbrev main_v47_6 : Ref sig .tc := ⟨.hbm, 65, rfl⟩
abbrev main_v47_7 : Ref sig .tc := ⟨.hbm, 66, rfl⟩
abbrev main_v47_8 : Ref sig .tc := ⟨.hbm, 67, rfl⟩
abbrev main_v47_9 : Ref sig .tc := ⟨.hbm, 68, rfl⟩
abbrev main_v47_10 : Ref sig .tc := ⟨.hbm, 69, rfl⟩
abbrev main_v47_11 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S8x4096x1024 : Shape := ⟨3, ![8, 4096, 1024]⟩
abbrev S8x6x1024 : Shape := ⟨3, ![8, 6, 1024]⟩
abbrev S1024 : Shape := ⟨1, ![1024]⟩
abbrev S1024x2456 : Shape := ⟨2, ![1024, 2456]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2456 : Shape := ⟨3, ![8, 4096, 2456]⟩
abbrev S8x4096x512 : Shape := ⟨3, ![8, 4096, 512]⟩
abbrev S8x4096x64 : Shape := ⟨3, ![8, 4096, 64]⟩
abbrev S8x4096x24 : Shape := ⟨3, ![8, 4096, 24]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S8x4096x8x64 : Shape := ⟨4, ![8, 4096, 8, 64]⟩
abbrev S8x4096x8x32 : Shape := ⟨4, ![8, 4096, 8, 32]⟩
abbrev S1x4096x1x32 : Shape := ⟨4, ![1, 4096, 1, 32]⟩
abbrev S8x16x256x512 : Shape := ⟨4, ![8, 16, 256, 512]⟩
abbrev S8x16x512 : Shape := ⟨3, ![8, 16, 512]⟩
abbrev S8x16x1x512 : Shape := ⟨4, ![8, 16, 1, 512]⟩
abbrev S8x4096x128 : Shape := ⟨3, ![8, 4096, 128]⟩
abbrev S8x4096x1x64 : Shape := ⟨4, ![8, 4096, 1, 64]⟩
abbrev S8x4096x1x32 : Shape := ⟨4, ![8, 4096, 1, 32]⟩

abbrev nBuf : Space → Nat
  | .hbm => 213
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1024, .f32⟩
  | 3 => ⟨S1024x2456, .f32⟩
  | 4 => ⟨S8x4096x1024, .f32⟩
  | 5 => ⟨S_, .f32⟩
  | 6 => ⟨S8x4096, .f32⟩
  | 7 => ⟨S8x4096x1, .f32⟩
  | 8 => ⟨S_, .f32⟩
  | 9 => ⟨S8x4096x1, .f32⟩
  | 10 => ⟨S8x4096x1, .f32⟩
  | 11 => ⟨S_, .f32⟩
  | 12 => ⟨S8x4096x1, .f32⟩
  | 13 => ⟨S8x4096x1, .f32⟩
  | 14 => ⟨S8x4096x1, .f32⟩
  | 15 => ⟨S8x4096x1024, .f32⟩
  | 16 => ⟨S8x4096x1024, .f32⟩
  | 17 => ⟨S1x1x1024, .f32⟩
  | 18 => ⟨S8x4096x1024, .f32⟩
  | 19 => ⟨S8x4096x1024, .f32⟩
  | 20 => ⟨S8x1x1024, .f32⟩
  | 21 => ⟨S_, .f32⟩
  | 22 => ⟨S8x1x1024, .f32⟩
  | 23 => ⟨S8x1x1024, .f32⟩
  | 24 => ⟨S8x4096x1024, .f32⟩
  | 25 => ⟨S8x4096x1024, .f32⟩
  | 26 => ⟨S8x1x1024, .f32⟩
  | 27 => ⟨S8x4096x1024, .f32⟩
  | 28 => ⟨S8x4096x1024, .f32⟩
  | 29 => ⟨S8x4096x2456, .f32⟩
  | 30 => ⟨S8x4096x512, .f32⟩
  | 31 => ⟨S8x4096x64, .f32⟩
  | 32 => ⟨S8x4096x64, .f32⟩
  | 33 => ⟨S8x4096x64, .f32⟩
  | 34 => ⟨S8x4096x64, .f32⟩
  | 35 => ⟨S8x4096x64, .f32⟩
  | 36 => ⟨S8x4096x64, .f32⟩
  | 37 => ⟨S8x4096x24, .f32⟩
  | 38 => ⟨S8x4096x512, .f32⟩
  | 39 => ⟨S8x4096x512, .f32⟩
  | 40 => ⟨S8x4096x512, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S4096, .f32⟩
  | 56 => ⟨S4096x1, .f32⟩
  | 57 => ⟨S1x32, .f32⟩
  | 58 => ⟨S4096x32, .f32⟩
  | 59 => ⟨S4096x32, .f32⟩
  | 60 => ⟨S4096x32, .f32⟩
  | 61 => ⟨S4096x32, .f32⟩
  | 62 => ⟨S4096x1x32, .f32⟩
  | 63 => ⟨S4096x32, .f32⟩
  | 64 => ⟨S4096x1x32, .f32⟩
  | 65 => ⟨S8x4096x8x64, .f32⟩
  | 66 => ⟨S8x4096x8x32, .f32⟩
  | 67 => ⟨S8x4096x8x32, .f32⟩
  | 68 => ⟨S1x4096x1x32, .f32⟩
  | 69 => ⟨S8x4096x8x32, .f32⟩
  | 70 => ⟨S8x4096x8x32, .f32⟩
  | 71 => ⟨S1x4096x1x32, .f32⟩
  | 72 => ⟨S8x4096x8x32, .f32⟩
  | 73 => ⟨S8x4096x8x32, .f32⟩
  | 74 => ⟨S8x4096x8x32, .f32⟩
  | 75 => ⟨S1x4096x1x32, .f32⟩
  | 76 => ⟨S8x4096x8x32, .f32⟩
  | 77 => ⟨S8x4096x8x32, .f32⟩
  | 78 => ⟨S1x4096x1x32, .f32⟩
  | 79 => ⟨S8x4096x8x32, .f32⟩
  | 80 => ⟨S8x4096x8x32, .f32⟩
  | 81 => ⟨S8x4096x8x32, .f32⟩
  | 82 => ⟨S8x4096x8x64, .f32⟩
  | 83 => ⟨S8x4096x512, .f32⟩
  | 84 => ⟨S8x16x256x512, .f32⟩
  | 85 => ⟨S_, .f32⟩
  | 86 => ⟨S8x16x512, .f32⟩
  | 87 => ⟨S8x16x1x512, .f32⟩
  | 88 => ⟨S_, .f32⟩
  | 89 => ⟨S8x16x1x512, .f32⟩
  | 90 => ⟨S8x16x1x512, .f32⟩
  | 91 => ⟨S_, .i32⟩
  | 92 => ⟨S_, .f32⟩
  | 93 => ⟨S8x4096x128, .f32⟩
  | 94 => ⟨S8x4096x128, .f32⟩
  | 95 => ⟨S8x4096x128, .f32⟩
  | 96 => ⟨S_, .f32⟩
  | 97 => ⟨S8x4096x128, .f32⟩
  | 98 => ⟨S8x4096x128, .f32⟩
  | 99 => ⟨S_, .f32⟩
  | 100 => ⟨S8x4096x128, .f32⟩
  | 101 => ⟨S8x4096x128, .f32⟩
  | 102 => ⟨S8x4096x8x64, .f32⟩
  | 103 => ⟨S8x4096x8x32, .f32⟩
  | 104 => ⟨S8x4096x8x32, .f32⟩
  | 105 => ⟨S1x4096x1x32, .f32⟩
  | 106 => ⟨S8x4096x8x32, .f32⟩
  | 107 => ⟨S8x4096x8x32, .f32⟩
  | 108 => ⟨S1x4096x1x32, .f32⟩
  | 109 => ⟨S8x4096x8x32, .f32⟩
  | 110 => ⟨S8x4096x8x32, .f32⟩
  | 111 => ⟨S8x4096x8x32, .f32⟩
  | 112 => ⟨S1x4096x1x32, .f32⟩
  | 113 => ⟨S8x4096x8x32, .f32⟩
  | 114 => ⟨S8x4096x8x32, .f32⟩
  | 115 => ⟨S1x4096x1x32, .f32⟩
  | 116 => ⟨S8x4096x8x32, .f32⟩
  | 117 => ⟨S8x4096x8x32, .f32⟩
  | 118 => ⟨S8x4096x8x32, .f32⟩
  | 119 => ⟨S8x4096x8x64, .f32⟩
  | 120 => ⟨S8x4096x512, .f32⟩
  | 121 => ⟨S_, .f32⟩
  | 122 => ⟨S8x4096x512, .f32⟩
  | 123 => ⟨S8x4096x512, .f32⟩
  | 124 => ⟨S8x4096x512, .bf16⟩
  | 125 => ⟨S8x4096x1x64, .f32⟩
  | 126 => ⟨S8x4096x1x32, .f32⟩
  | 127 => ⟨S8x4096x1x32, .f32⟩
  | _ => ⟨S8x4096x1024, .f32⟩

abbrev hbmTy0_1 (i : Nat) : BufTy := match i % 128 with
  | 0 => ⟨S1x4096x1x32, .f32⟩
  | 1 => ⟨S8x4096x1x32, .f32⟩
  | 2 => ⟨S8x4096x1x32, .f32⟩
  | 3 => ⟨S1x4096x1x32, .f32⟩
  | 4 => ⟨S8x4096x1x32, .f32⟩
  | 5 => ⟨S8x4096x1x32, .f32⟩
  | 6 => ⟨S8x4096x1x32, .f32⟩
  | 7 => ⟨S1x4096x1x32, .f32⟩
  | 8 => ⟨S8x4096x1x32, .f32⟩
  | 9 => ⟨S8x4096x1x32, .f32⟩
  | 10 => ⟨S1x4096x1x32, .f32⟩
  | 11 => ⟨S8x4096x1x32, .f32⟩
  | 12 => ⟨S8x4096x1x32, .f32⟩
  | 13 => ⟨S8x4096x1x32, .f32⟩
  | 14 => ⟨S8x4096x1x64, .f32⟩
  | 15 => ⟨S8x4096x64, .f32⟩
  | 16 => ⟨S8x4096x64, .bf16⟩
  | 17 => ⟨S8x4096x64, .bf16⟩
  | 18 => ⟨S8x4096x1x64, .f32⟩
  | 19 => ⟨S8x4096x1x32, .f32⟩
  | 20 => ⟨S8x4096x1x32, .f32⟩
  | 21 => ⟨S1x4096x1x32, .f32⟩
  | 22 => ⟨S8x4096x1x32, .f32⟩
  | 23 => ⟨S8x4096x1x32, .f32⟩
  | 24 => ⟨S1x4096x1x32, .f32⟩
  | 25 => ⟨S8x4096x1x32, .f32⟩
  | 26 => ⟨S8x4096x1x32, .f32⟩
  | 27 => ⟨S8x4096x1x32, .f32⟩
  | 28 => ⟨S1x4096x1x32, .f32⟩
  | 29 => ⟨S8x4096x1x32, .f32⟩
  | 30 => ⟨S8x4096x1x32, .f32⟩
  | 31 => ⟨S1x4096x1x32, .f32⟩
  | 32 => ⟨S8x4096x1x32, .f32⟩
  | 33 => ⟨S8x4096x1x32, .f32⟩
  | 34 => ⟨S8x4096x1x32, .f32⟩
  | 35 => ⟨S8x4096x1x64, .f32⟩
  | 36 => ⟨S8x4096x64, .f32⟩
  | 37 => ⟨S8x4096x64, .bf16⟩
  | 38 => ⟨S8x4096x64, .bf16⟩
  | 39 => ⟨S8x4096x1x64, .f32⟩
  | 40 => ⟨S8x4096x1x32, .f32⟩
  | 41 => ⟨S8x4096x1x32, .f32⟩
  | 42 => ⟨S1x4096x1x32, .f32⟩
  | 43 => ⟨S8x4096x1x32, .f32⟩
  | 44 => ⟨S8x4096x1x32, .f32⟩
  | 45 => ⟨S1x4096x1x32, .f32⟩
  | 46 => ⟨S8x4096x1x32, .f32⟩
  | 47 => ⟨S8x4096x1x32, .f32⟩
  | 48 => ⟨S8x4096x1x32, .f32⟩
  | 49 => ⟨S1x4096x1x32, .f32⟩
  | 50 => ⟨S8x4096x1x32, .f32⟩
  | 51 => ⟨S8x4096x1x32, .f32⟩
  | 52 => ⟨S1x4096x1x32, .f32⟩
  | 53 => ⟨S8x4096x1x32, .f32⟩
  | 54 => ⟨S8x4096x1x32, .f32⟩
  | 55 => ⟨S8x4096x1x32, .f32⟩
  | 56 => ⟨S8x4096x1x64, .f32⟩
  | 57 => ⟨S8x4096x64, .f32⟩
  | 58 => ⟨S8x4096x64, .bf16⟩
  | 59 => ⟨S8x4096x64, .bf16⟩
  | 60 => ⟨S8x4096x8x64, .f32⟩
  | 61 => ⟨S8x4096x8x32, .f32⟩
  | 62 => ⟨S8x4096x8x32, .f32⟩
  | 63 => ⟨S1x4096x1x32, .f32⟩
  | 64 => ⟨S8x4096x8x32, .f32⟩
  | 65 => ⟨S8x4096x8x32, .f32⟩
  | 66 => ⟨S1x4096x1x32, .f32⟩
  | 67 => ⟨S8x4096x8x32, .f32⟩
  | 68 => ⟨S8x4096x8x32, .f32⟩
  | 69 => ⟨S8x4096x8x32, .f32⟩
  | 70 => ⟨S1x4096x1x32, .f32⟩
  | 71 => ⟨S8x4096x8x32, .f32⟩
  | 72 => ⟨S8x4096x8x32, .f32⟩
  | 73 => ⟨S1x4096x1x32, .f32⟩
  | 74 => ⟨S8x4096x8x32, .f32⟩
  | 75 => ⟨S8x4096x8x32, .f32⟩
  | 76 => ⟨S8x4096x8x32, .f32⟩
  | 77 => ⟨S8x4096x8x64, .f32⟩
  | 78 => ⟨S8x4096x512, .f32⟩
  | 79 => ⟨S_, .f32⟩
  | 80 => ⟨S8x4096x512, .f32⟩
  | 81 => ⟨S8x4096x512, .f32⟩
  | 82 => ⟨S8x4096x512, .bf16⟩
  | 83 => ⟨S8x4096x512, .bf16⟩
  | 84 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_7 : Ref sig .tc := ⟨.hbm, 85, rfl⟩
abbrev main_v73 : Ref sig .tc := ⟨.hbm, 86, rfl⟩
abbrev main_v74 : Ref sig .tc := ⟨.hbm, 87, rfl⟩
abbrev main_cst_8 : Ref sig .tc := ⟨.hbm, 88, rfl⟩
abbrev main_v75 : Ref sig .tc := ⟨.hbm, 89, rfl⟩
abbrev main_v76 : Ref sig .tc := ⟨.hbm, 90, rfl⟩
abbrev main_c : Ref sig .tc := ⟨.hbm, 91, rfl⟩
abbrev main_call0_v0 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_11 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_cst_12 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩

abbrev nD : Nat := 1
abbrev τ : Topo := Topo.v7x

variable {F : FTy → Type} [FloatOps F]
-- ==== Proof.Experts.Same.lean ====
/- The experts call's program over any floats, before and after its reading over the extended reals: one and the same program. -/
module

public import proofs.«01_k».proof.Proof.Gen.Kernel2
public import proofs.«01_k».proof.Proof.Gen.Kernel2Ideal

@[expose] public section
set_option maxRecDepth 16384
noncomputable section
namespace Cert.Experts
open Idealize.ShloMosaic Idealize.ShloMosaic.TcCoe Idealize.SL.Sem
variable {F : FTy → Type} [FloatOps F]
/-- The two main functions are one. -/
theorem main_eq : Cert.Kernel2.main (F := F) = Cert.Kernel2Ideal.main := rfl
/-- The two kernel bodies are one. -/
theorem body_eq : @Cert.Kernel2.cc0_moe_experts F _ _ = @Cert.Kernel2Ideal.cc0_moe_experts F _ _ := rfl
/-- The two kernels' tables are one. -/
theorem defs₀_eq : @Cert.Kernel2.defs₀ F _ _ = @Cert.Kernel2Ideal.defs₀ F _ _ := by
  unfold Cert.Kernel2.defs₀ Cert.Kernel2Ideal.defs₀
  refine congrArg Defs.onTc ?_
  funext l x
  match l, x with
  | 0, (t, s) => rfl
  | ⟨_ + 1, h⟩, _ => exact absurd h (Nat.not_lt.2 (Nat.le_add_left _ _))
/-- The two body tables are one. -/
theorem defs_eq : Cert.Kernel2.defs (F := F) = Cert.Kernel2Ideal.defs := by
  unfold Cert.Kernel2.defs Cert.Kernel2Ideal.defs
  exact congrArg (Pipeline.defs Cert.Kernel2Ideal.pcfgs) defs₀_eq

/-- A run of one program is a run of an equal one. -/
theorem run_of_eq {D D' : Defs Cert.Kernel2Ideal.nD Cert.Kernel2Ideal.τ Cert.Kernel2Ideal.sig (Elt F) (Pipeline.Sig Cert.Kernel2Ideal.Λ₀ (Fin 1) fun p => (Cert.Kernel2Ideal.pcfgs (F := F) p).Adm)} (hD : D = D')
    {M M' : Dev Cert.Kernel2Ideal.nD → Prog (TpuEff Cert.Kernel2Ideal.nD Cert.Kernel2Ideal.τ Cert.Kernel2Ideal.sig (Elt F) (Pipeline.Sig Cert.Kernel2Ideal.Λ₀ (Fin 1) fun p => (Cert.Kernel2Ideal.pcfgs (F := F) p).Adm) .tc) PUnit} (hM : M = M') {s Q}
    (h : θ_run D' (onTc (τ := Cert.Kernel2Ideal.τ) M') s Q) : θ_run D (onTc (τ := Cert.Kernel2Ideal.τ) M) s Q := by
  subst hD; subst hM; exact h

end Cert.Experts
end
end
-- ==== Proof.Experts.Points.lean ====
/- The experts call: which memrefs the body works on at each grid point, and when its output is written back. -/
module

public import proofs.«01_k».proof.Proof.Gen.Kernel2Ideal
public import Idealize.ShloMosaic.Lib.Pipeline.Kit

@[expose] public section

noncomputable section

namespace Cert.Kernel2Ideal.Experts

open Cert.Kernel2Ideal Cert.Kernel2Ideal.Gen Idealize.ShloMosaic Idealize.ShloMosaic.TcCoe
open Idealize.SL Idealize.SL.Sem

variable {F : FTy → Type} [FloatOps F]
/-! ## custom_call 0 -/

/-- Window 0 (operand 2 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 4 (result 0 (%6)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_v5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.Kernel2Ideal.Experts

end
-- ==== Proof.Experts.Runs.lean ====
/- The experts call: the memory the grid starts from, the two tables, each window's block at a point, and the
   claim about the arguments read off a run. -/
module

public import proofs.«01_k».proof.Proof.Gen.Kernel2Ideal.Launch
public import proofs.«01_k».proof.Proof.Gen.Kernel2Ideal.Skeleton
public import proofs.«01_k».proof.Proof.Experts.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The buffers of core `c` when the grid starts: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations run, then the grid starts. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the grid writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The contents of the two tables when the grid starts. -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- Every block that a table names lies inside its array. -/
abbrev Ok : Prop := ok0 (F := F) (tbl m)
/-- The tables' contents under that condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1280 .i32 := Memref.whole main_arg0
abbrev htbM0_0 : tbM0_0.IsWhole := Memref.isWhole_whole _
abbrev tbM0_1 : Memref sig .tc .smem S1280 .i32 := Memref.whole main_v5
abbrev htbM0_1 : tbM0_1.IsWhole := Memref.isWhole_whole _

/-- A table's buffer on core `c`, held for reading at contents `f`. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The shares of the tables that the body is handed and gives back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the grid finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, fetched there or not, when the body leaves it in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, when the body leaves it in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, when the body leaves it in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, when the body leaves it in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- A run whose data begin at the arrays the grid finds leaves the arguments unchanged. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c))⟩) h

/-! ## The body's branch conditions -/

/-- The body's one condition: the second table's word at the point is 1. -/
abbrev cond0_0 (i : grid0.Coords) (v1 : BitVec 32) : Prop := (Scalar.cmpi .ne (Scalar.extui (Scalar.cmpi .eq v1 1#32)) 0#32) = 1#1

/-! ## The memrefs the kernel body works on -/

/-- Each window's staging memref at point `t`, and that it is a whole buffer. -/
abbrev ms0_0 (hO : Ok m) (t : Fin (cfgM m hO).N) : Memref sig .tc .vmem S256x8x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x8x128 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x256 .bf16 := Memref.whole cc0_scratch0
abbrev scM0_1 : Memref sig .tc .vmem S1024x256 .bf16 := Memref.whole cc0_scratch1
abbrev scM0_2 : Memref sig .tc .vmem S256x1024 .bf16 := Memref.whole cc0_scratch2

/-- What the body keeps from point to point, the scratch held as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel2Ideal.Experts

end
-- ==== Proof.Experts.Body.lean ====
/- The experts call: one grid point of the kernel body, with what its stores leave named. -/
module

public import proofs.«01_k».proof.Proof.Experts.Runs

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point whose expert is a new one: the three weight blocks go to the scratch first. -/
noncomputable def runNew (c : Dev nD) (i : grid0.Coords) (arg3 : Memref sig .tc .vmem S256x8x128 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x8x128 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S256x8x128 .f32) (x1 : Vec F S1x1024x256 .f32) (x2 : Vec F S1x1024x256 .f32) (x3 : Vec F S1x256x1024 .f32) (xt0 : TbBuf0 (F := F) c tbM0_0) (xt1 : TbBuf0 (F := F) c tbM0_1) (hc0 : cond0_0 i (tbM0_1.view.readAt (Elt F) (Rect.unit (s := S1280) (k0_off1 i) S1.size (k0_off1_inb i)).toLoadRect xt1 (Shape.Idx.first (numel1_S1.symm ▸ Nat.one_pos)))) :
    { L : List (View.Piece (Elt F) S256x8x128 .f32) × List (View.Piece (Elt F) S1024x256 .bf16) × List (View.Piece (Elt F) S1024x256 .bf16) × List (View.Piece (Elt F) S256x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2.1) ∗ (∃ f, arg10.view.loc (c : Thread nD τ) ↦[arg10.view.set]{fullShare} arg10.view.writes (Elt F) f L.2.2.2) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨⟨?_, ?_, ?_, ?_⟩, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; iexact HS0
    isplitl [HS1]
    · iexists _; iexact HS1
    isplitl [HS2]
    · iexists _; iexact HS2
    isplitl [HT0]; · iexact HT0
    iexact HT1

set_option maxHeartbeats 1000000 in
/-- A point whose expert is the one before: the scratch is read as it stands. -/
noncomputable def runSame (c : Dev nD) (i : grid0.Coords) (arg3 : Memref sig .tc .vmem S256x8x128 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x8x128 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S256x8x128 .f32) (x1 : Vec F S1x1024x256 .f32) (x2 : Vec F S1x1024x256 .f32) (x3 : Vec F S1x256x1024 .f32) (g : Vec F S1024x256 .bf16) (u : Vec F S1024x256 .bf16) (d : Vec F S256x1024 .bf16) (xt0 : TbBuf0 (F := F) c tbM0_0) (xt1 : TbBuf0 (F := F) c tbM0_1) (hc0 : ¬cond0_0 i (tbM0_1.view.readAt (Elt F) (Rect.unit (s := S1280) (k0_off1 i) S1.size (k0_off1_inb i)).toLoadRect xt1 (Shape.Idx.first (numel1_S1.symm ▸ Nat.one_pos)))) :
    { L : List (View.Piece (Elt F) S256x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare g ∗ owns (c : Thread nD τ) arg9 fullShare u ∗ owns (c : Thread nD τ) arg10 fullShare d ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ owns (c : Thread nD τ) arg8 fullShare g ∗ owns (c : Thread nD τ) arg9 fullShare u ∗ owns (c : Thread nD τ) arg10 fullShare d ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
    obtain rfl := harg3.eq_unread hf0; obtain rfl := harg4.eq_unread hf1; obtain rfl := harg5.eq_unread hf2; obtain rfl := harg6.eq_unread hf3
    obtain rfl := harg8.eq_unread hs0; obtain rfl := harg9.eq_unread hs1; obtain rfl := harg10.eq_unread hs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HT0]; · iexact HT0
    iexact HT1

end Cert.Kernel2Ideal.Experts

end
-- ==== Proof.Experts.Out.lean ====
/- The experts call: what one grid point leaves in the output block, as a function of the blocks it reads. -/
module

public import proofs.«01_k».proof.Proof.Experts.Body
public import Idealize.ShloMosaic.Lib.Pipeline.Value
public import Idealize.ShloMosaic.Lib.Pipeline.ValueKit.Basic
public import Idealize.ShloMosaic.Lib.VecWindow

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight row slices of a block of rows, side by side. -/
def xcat (x0 : Vec F S256x8x128 .f32) : FVec F S256x1024 .f32 :=
  k0_pay6 (View.ld x0 (Rect.unit ![0, 0, 0] S256x1x128.size inb_S256x8x128_S256x1x128_0_0_0))
    (View.ld x0 (Rect.unit ![0, 1, 0] S256x1x128.size inb_S256x8x128_S256x1x128_0_1_0))
    (View.ld x0 (Rect.unit ![0, 2, 0] S256x1x128.size inb_S256x8x128_S256x1x128_0_2_0))
    (View.ld x0 (Rect.unit ![0, 3, 0] S256x1x128.size inb_S256x8x128_S256x1x128_0_3_0))
    (View.ld x0 (Rect.unit ![0, 4, 0] S256x1x128.size inb_S256x8x128_S256x1x128_0_4_0))
    (View.ld x0 (Rect.unit ![0, 5, 0] S256x1x128.size inb_S256x8x128_S256x1x128_0_5_0))
    (View.ld x0 (Rect.unit ![0, 6, 0] S256x1x128.size inb_S256x8x128_S256x1x128_0_6_0))
    (View.ld x0 (Rect.unit ![0, 7, 0] S256x1x128.size inb_S256x8x128_S256x1x128_0_7_0))

/-- The gate of a block of rows: `silu` of its product with the gate weights. -/
def gate (x0 : Vec F S256x8x128 .f32) (g : Vec F S1024x256 .bf16) : FVec F S256x256 .f32 :=
  k0_pay7 (View.ld x0 (Rect.unit ![0, 0, 0] S256x1x128.size inb_S256x8x128_S256x1x128_0_0_0))
    (View.ld x0 (Rect.unit ![0, 1, 0] S256x1x128.size inb_S256x8x128_S256x1x128_0_1_0))
    (View.ld x0 (Rect.unit ![0, 2, 0] S256x1x128.size inb_S256x8x128_S256x1x128_0_2_0))
    (View.ld x0 (Rect.unit ![0, 3, 0] S256x1x128.size inb_S256x8x128_S256x1x128_0_3_0))
    (View.ld x0 (Rect.unit ![0, 4, 0] S256x1x128.size inb_S256x8x128_S256x1x128_0_4_0))
    (View.ld x0 (Rect.unit ![0, 5, 0] S256x1x128.size inb_S256x8x128_S256x1x128_0_5_0))
    (View.ld x0 (Rect.unit ![0, 6, 0] S256x1x128.size inb_S256x8x128_S256x1x128_0_6_0))
    (View.ld x0 (Rect.unit ![0, 7, 0] S256x1x128.size inb_S256x8x128_S256x1x128_0_7_0)) g

/-- The eight stores of a point, the last one first. -/
def pieces (v21 : FVec F S256x1024 .f32) (v26 : FVec F S256x256 .f32) (u : Vec F S1024x256 .bf16) (d : Vec F S256x1024 .bf16) :
    List (View.Piece (Elt F) S256x8x128 .f32) :=
  [⟨Rect.unit ![0, 7, 0] S256x1x128.size inb_S256x8x128_S256x1x128_0_7_0, k0_pay2 (k0_pay8 v21 v26 u d)⟩,
   ⟨Rect.unit ![0, 6, 0] S256x1x128.size inb_S256x8x128_S256x1x128_0_6_0, k0_pay1 (k0_pay15 v21 v26 u d)⟩,
   ⟨Rect.unit ![0, 5, 0] S256x1x128.size inb_S256x8x128_S256x1x128_0_5_0, k0_pay14 v21 v26 u d⟩,
   ⟨Rect.unit ![0, 4, 0] S256x1x128.size inb_S256x8x128_S256x1x128_0_4_0, k0_pay13 v21 v26 u d⟩,
   ⟨Rect.unit ![0, 3, 0] S256x1x128.size inb_S256x8x128_S256x1x128_0_3_0, k0_pay12 v21 v26 u d⟩,
   ⟨Rect.unit ![0, 2, 0] S256x1x128.size inb_S256x8x128_S256x1x128_0_2_0, k0_pay11 v21 v26 u d⟩,
   ⟨Rect.unit ![0, 1, 0] S256x1x128.size inb_S256x8x128_S256x1x128_0_1_0, k0_pay10 v21 v26 u d⟩,
   ⟨Rect.unit ![0, 0, 0] S256x1x128.size inb_S256x8x128_S256x1x128_0_0_0, k0_pay9 v21 v26 u d⟩]

/-- The eight stores cover the block. -/
theorem pieces_cover (v21 : FVec F S256x1024 .f32) (v26 : FVec F S256x256 .f32) (u : Vec F S1024x256 .bf16) (d : Vec F S256x1024 .bf16)
    (y : S256x8x128.Idx) : ∃ p ∈ pieces v21 v26 u d, y ∈ p.1.set :=
  View.cover_of_tiledL (pieces v21 v26 u d) S256x1x128.size (by sl_kernel_rfl) y

/-- What a point leaves in the output block. -/
def out (x0 : Vec F S256x8x128 .f32) (g : Vec F S1024x256 .bf16) (u : Vec F S1024x256 .bf16) (d : Vec F S256x1024 .bf16) :
    Vec F S256x8x128 .f32 :=
  View.canon (pieces (xcat x0) (gate x0 g) u d)

section Runs

variable (c : Dev nD) (i : grid0.Coords) (arg3 : Memref sig .tc .vmem S256x8x128 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x8x128 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S256x8x128 .f32) (x1 : Vec F S1x1024x256 .f32) (x2 : Vec F S1x1024x256 .f32) (x3 : Vec F S1x256x1024 .f32) (xt0 : TbBuf0 (F := F) c tbM0_0) (xt1 : TbBuf0 (F := F) c tbM0_1)

/-- A store over the whole of a buffer leaves its payload. -/
theorem whole_read {S : Shape} {e : EltTy} (v : View sig .tc .vmem S e) (f : v.ty.Contents (Elt F)) {off : Fin S.rank → ℕ}
    (inb : ∀ a, off a + S.size a ≤ S.size a) (w : S.Idx → Elt F e) :
    v.read (Elt F) (v.writes (Elt F) f [⟨Rect.unit off S.size inb, w⟩]) = w :=
  View.read_writes_full v f inb w []

theorem runSame_fst (g : Vec F S1024x256 .bf16) (u : Vec F S1024x256 .bf16) (d : Vec F S256x1024 .bf16) (hc0) :
    (runSame c i arg3 harg3 arg4 harg4 arg5 harg5 arg6 harg6 arg7 harg7 arg8 harg8 arg9 harg9 arg10 harg10 x0 x1 x2 x3 g u d xt0 xt1 hc0).1
      = pieces (xcat x0) (gate x0 g) u d := by
  unfold runSame pieces xcat gate
  dsimp only
  simp only [runSame.sl.r_1, runSame.sl.r_2, runSame.sl.r_3, runSame.sl.r_4]
  simp (disch := decide) only [View.readAt_eq_ld, Memref.IsWhole.read_unread, View.ld_unit_lit]

/-- The output block after a point whose expert is the one before. -/
theorem read_same (f : arg7.view.ty.Contents (Elt F)) (g : Vec F S1024x256 .bf16) (u : Vec F S1024x256 .bf16) (d : Vec F S256x1024 .bf16) (hc0) :
    arg7.view.read (Elt F) (arg7.view.writes (Elt F) f (runSame c i arg3 harg3 arg4 harg4 arg5 harg5 arg6 harg6 arg7 harg7 arg8 harg8 arg9 harg9 arg10 harg10 x0 x1 x2 x3 g u d xt0 xt1 hc0).1)
      = out x0 g u d := by
  rw [runSame_fst, View.read_writes_eq_canon _ _ _ (pieces_cover _ _ _ _)]
  rfl

theorem runNew_fst (hc0) :
    (runNew c i arg3 harg3 arg4 harg4 arg5 harg5 arg6 harg6 arg7 harg7 arg8 harg8 arg9 harg9 arg10 harg10 x0 x1 x2 x3 xt0 xt1 hc0).1.1
      = pieces (xcat x0) (gate x0 (k0_pay3 x1)) (k0_pay4 x2) (k0_pay5 x3) := by
  unfold runNew pieces xcat gate
  dsimp only
  sl_unfold_words
  simp (disch := decide) only [View.readAt_eq_ld, Memref.IsWhole.read_unread, View.ld_unit_lit, View.readCov_unit_lit]

/-- The output block after a point whose expert is a new one. -/
theorem read_new (f : arg7.view.ty.Contents (Elt F)) (hc0) :
    arg7.view.read (Elt F) (arg7.view.writes (Elt F) f (runNew c i arg3 harg3 arg4 harg4 arg5 harg5 arg6 harg6 arg7 harg7 arg8 harg8 arg9 harg9 arg10 harg10 x0 x1 x2 x3 xt0 xt1 hc0).1.1)
      = out x0 (k0_pay3 x1) (k0_pay4 x2) (k0_pay5 x3) := by
  rw [runNew_fst, View.read_writes_eq_canon _ _ _ (pieces_cover _ _ _ _)]
  rfl

theorem read_new8 (f : arg8.view.ty.Contents (Elt F)) (hc0) :
    arg8.view.read (Elt F) (arg8.view.writes (Elt F) f (runNew c i arg3 harg3 arg4 harg4 arg5 harg5 arg6 harg6 arg7 harg7 arg8 harg8 arg9 harg9 arg10 harg10 x0 x1 x2 x3 xt0 xt1 hc0).1.2.1)
      = k0_pay3 x1 := by
  unfold runNew
  dsimp only
  sl_unfold_words
  rw [whole_read]
  simp (disch := decide) only [View.readAt_eq_ld, Memref.IsWhole.read_unread, View.ld_unit_lit]

theorem read_new9 (f : arg9.view.ty.Contents (Elt F)) (hc0) :
    arg9.view.read (Elt F) (arg9.view.writes (Elt F) f (runNew c i arg3 harg3 arg4 harg4 arg5 harg5 arg6 harg6 arg7 harg7 arg8 harg8 arg9 harg9 arg10 harg10 x0 x1 x2 x3 xt0 xt1 hc0).1.2.2.1)
      = k0_pay4 x2 := by
  unfold runNew
  dsimp only
  sl_unfold_words
  rw [whole_read]
  simp (disch := decide) only [View.readAt_eq_ld, Memref.IsWhole.read_unread, View.ld_unit_lit]

theorem read_new10 (f : arg10.view.ty.Contents (Elt F)) (hc0) :
    arg10.view.read (Elt F) (arg10.view.writes (Elt F) f (runNew c i arg3 harg3 arg4 harg4 arg5 harg5 arg6 harg6 arg7 harg7 arg8 harg8 arg9 harg9 arg10 harg10 x0 x1 x2 x3 xt0 xt1 hc0).1.2.2.2)
      = k0_pay5 x3 := by
  unfold runNew
  dsimp only
  sl_unfold_words
  rw [whole_read]
  simp (disch := decide) only [View.readAt_eq_ld, Memref.IsWhole.read_unread, View.ld_unit_lit]

end Runs

end Cert.Kernel2Ideal.Experts

end
-- ==== Proof.Experts.Blocks.lean ====
/- The experts call: the words of the expert table, and the blocks they name. -/
module

public import proofs.«01_k».proof.Proof.Experts.Runs
public import Idealize.ShloMosaic.Lib.Pipeline.Value
public import Idealize.ShloMosaic.Lib.ValueIdx

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The table index a grid point reads. -/
def pos (i : grid0.Coords) : S1280.Idx := ValueIdx.ix1 (⟨(i 0).val, (i 0).isLt⟩ : Fin 1280)

theorem off1_val (i : grid0.Coords) : k0_off1 i 0 = (i 0).val := by
  have h : (i 0).val < 1280 := (i 0).isLt
  show (Scalar.indexCast (BitVec.ofNat 32 (i 0).val) : Index).toNat = _
  first | (simp [Scalar.indexCast, BitVec.toNat_ofNat]; omega) | simp [Scalar.indexCast, BitVec.toNat_ofNat]

theorem emb_pos (i : grid0.Coords) (x : S1.Idx) :
    (Rect.unit (s := S1280) (k0_off1 i) S1.size (k0_off1_inb i)).emb x = pos i := by
  funext a
  obtain rfl : a = 0 := Subsingleton.elim _ _
  refine Fin.ext ?_
  rw [Rect.emb_apply]
  have hx : (x 0).val < 1 := (x 0).isLt
  show k0_off1 i 0 + 1 * (x 0).val = (i 0).val
  rw [off1_val]; omega

/-- The second table's word a grid point reads, as the kernel's branch condition spells it. -/
theorem flag_word (c : Dev nD) (i : grid0.Coords) (f : TbBuf0 (F := F) c tbM0_1) (x : S1.Idx) :
    tbM0_1.view.readAt (Elt F) (Rect.unit (s := S1280) (k0_off1 i) S1.size (k0_off1_inb i)).toLoadRect f x = f (pos i) :=
  congrArg f (emb_pos i x)

theorem tr1 (pf : pre0.Contents (Elt F)) (i : grid0.Coords) :
    cc0_transform_1 k0_off1_inb numel1_S1 pf i = ![(pf 0 (pos i)).toNat, 0, 0] := by
  have e : pf.at 0 (Rect.unit (s := S1280) (k0_off1 i) S1.size (k0_off1_inb i)) numel1_S1 = pf 0 (pos i) :=
    congrArg (pf 0) (emb_pos i _)
  show ![(pf.at 0 (Rect.unit (s := S1280) (k0_off1 i) S1.size (k0_off1_inb i)) numel1_S1).toNat, 0, 0] = _
  rw [e]

theorem tr2 (pf : pre0.Contents (Elt F)) (i : grid0.Coords) :
    cc0_transform_2 k0_off1_inb numel1_S1 pf i = ![(pf 0 (pos i)).toNat, 0, 0] := by
  have e : pf.at 0 (Rect.unit (s := S1280) (k0_off1 i) S1.size (k0_off1_inb i)) numel1_S1 = pf 0 (pos i) :=
    congrArg (pf 0) (emb_pos i _)
  show ![(pf.at 0 (Rect.unit (s := S1280) (k0_off1 i) S1.size (k0_off1_inb i)) numel1_S1).toNat, 0, 0] = _
  rw [e]

theorem tr3 (pf : pre0.Contents (Elt F)) (i : grid0.Coords) :
    cc0_transform_3 k0_off1_inb numel1_S1 pf i = ![(pf 0 (pos i)).toNat, 0, 0] := by
  have e : pf.at 0 (Rect.unit (s := S1280) (k0_off1 i) S1.size (k0_off1_inb i)) numel1_S1 = pf 0 (pos i) :=
    congrArg (pf 0) (emb_pos i _)
  show ![(pf.at 0 (Rect.unit (s := S1280) (k0_off1 i) S1.size (k0_off1_inb i)) numel1_S1).toNat, 0, 0] = _
  rw [e]

/-- Every word of the expert table names an expert. -/
def InRange : Prop := ∀ y : S1280.Idx, (m (((0 : Dev nD) : Thread nD τ).loc main_arg0) y).toNat < 256

theorem tbl0 : tbl m 0 = m (((0 : Dev nD) : Thread nD τ).loc main_arg0) := V_main_arg0 m 0

/-- The blocks the table names lie inside the weight arrays. -/
theorem ok_of_range (h : InRange m) : Ok m := by
  have hw : ∀ i : grid0.Coords, (tbl m 0 (pos i)).toNat < 256 := fun i => by rw [tbl0]; exact h _
  refine ⟨fun i => ⟨?_, .inl rfl⟩, fun i => ⟨?_, .inl rfl⟩, fun i => ⟨?_, .inl rfl⟩⟩
  · rw [tr1]
    have := hw i
    intro a
    match a with
    | ⟨0, _⟩ => show ((tbl m 0 (pos i)).toNat + 1) * 1 ≤ 256; omega
    | ⟨1, _⟩ => exact Nat.le_refl _
    | ⟨2, _⟩ => exact Nat.le_refl _
  · rw [tr2]
    have := hw i
    intro a
    match a with
    | ⟨0, _⟩ => show ((tbl m 0 (pos i)).toNat + 1) * 1 ≤ 256; omega
    | ⟨1, _⟩ => exact Nat.le_refl _
    | ⟨2, _⟩ => exact Nat.le_refl _
  · rw [tr3]
    have := hw i
    intro a
    match a with
    | ⟨0, _⟩ => show ((tbl m 0 (pos i)).toNat + 1) * 1 ≤ 256; omega
    | ⟨1, _⟩ => exact Nat.le_refl _
    | ⟨2, _⟩ => exact Nat.le_refl _

theorem coords_val (t : Fin grid0.N) : (grid0.coords t 0).val = t.val := by
  have h := Pipeline.Grid.coords_val (G := grid0) t 0 (S := 1) (B := 1280) (by decide) rfl
  have ht : t.val < 1280 := t.isLt
  rw [h]; omega

/-- The table of changes computed from the expert table. -/
def flags (x : IVec S1280 32) : IVec S1280 32 :=
    concatenate S1280 0 [⟨S1, broadcastInDim S1 ![] bcast_S_S1 (constantI S_ 32 1#32)⟩,
      ⟨S1279, extui 32 (cmpi .ne (extractStridedSlice S1279 ![1] x slices_S1280_S1279_1)
        (extractStridedSlice S1279 ![0] x slices_S1280_S1279_0)) natLt_1_32⟩] concatenates_S1_S1279_S1280_d0

theorem flags_zero (x : IVec S1280 32) (j : S1280.Idx) (hj : (j 0).val = 0) : flags x j = 1#32 := by
  refine (concatenate_pair_apply_left (s₁ := S1) (s₂ := S1279) (t := S1280) 0 _ _ concatenates_S1_S1279_S1280_d0 j rfl
    (ValueIdx.ix1 (0 : Fin 1)) (fun b => ?_)).trans rfl
  obtain rfl : b = 0 := Subsingleton.elim _ _
  exact hj.symm

theorem flags_succ (x : IVec S1280 32) (j : S1280.Idx) (k : Fin 1279) (hj : (j 0).val = k.val + 1) :
    flags x j = BitVec.setWidth 32 (IntOp.cmpi .ne (x (ValueIdx.ix1 (⟨1 + k.val, by omega⟩ : Fin 1280))) (x (ValueIdx.ix1 (⟨0 + k.val, by omega⟩ : Fin 1280)))) := by
  refine (concatenate_pair_apply_right (s₁ := S1) (s₂ := S1279) (t := S1280) 0 _ _ concatenates_S1_S1279_S1280_d0 j rfl rfl
    (ValueIdx.ix1 k) (fun b hb => ?_) ?_).trans ?_
  · obtain rfl : b = 0 := Subsingleton.elim _ _
    exact absurd rfl hb
  · exact hj.symm
  · show BitVec.setWidth 32 (IntOp.cmpi .ne _ _) = _
    congr 2
    · refine congrArg x (funext fun a => ?_)
      obtain rfl : a = 0 := Subsingleton.elim _ _
      rfl
    · refine congrArg x (funext fun a => ?_)
      obtain rfl : a = 0 := Subsingleton.elim _ _
      rfl

/-- The second table: 1 at the first word and wherever the expert differs from the one before, else 0. -/
theorem V_flag (c : Dev nD) : V m c main_v5 = flags (m ((c : Thread nD τ).loc main_arg0)) := by
  unfold flags
  show StableHlo.after hostOps0 _ (Proc.devRef .tc main_v5) = _
  after_results

/-- A point that does not load weights is not the first, and its expert is the one before. -/
theorem same_of_not_cond (t : Fin grid0.N)
    (h : ¬cond0_0 (grid0.coords t) (tbM0_1.view.readAt (Elt F) (Rect.unit (s := S1280) (k0_off1 (grid0.coords t)) S1.size (k0_off1_inb (grid0.coords t))).toLoadRect (tbl m 1) (Shape.Idx.first (numel1_S1.symm ▸ Nat.one_pos)))) :
    ∃ s : Fin grid0.N, s.val + 1 = t.val ∧ tbl m 0 (pos (grid0.coords s)) = tbl m 0 (pos (grid0.coords t)) := by
  replace h : ¬cond0_0 (grid0.coords t) (V m 0 main_v5 (pos (grid0.coords t))) := fun hc =>
    h ((congrArg (cond0_0 (grid0.coords t)) (flag_word (F := F) 0 (grid0.coords t) (tbl m 1) _)).mpr hc)
  rw [V_flag] at h
  have ht := coords_val t
  have htl : t.val < 1280 := t.isLt
  by_cases h0 : t.val = 0
  · exfalso
    apply h
    rw [flags_zero _ (pos (grid0.coords t)) (show (grid0.coords t 0).val = 0 by omega)]
    show (Scalar.cmpi .ne (Scalar.extui (Scalar.cmpi .eq 1#32 1#32)) 0#32) = 1#1
    decide
  · have hk : t.val - 1 < 1279 := by omega
    have hN : t.val - 1 < grid0.N := lt_of_le_of_lt (Nat.sub_le _ _) t.isLt
    refine ⟨⟨t.val - 1, hN⟩, by show t.val - 1 + 1 = t.val; omega, ?_⟩
    rw [flags_succ _ (pos (grid0.coords t)) ⟨t.val - 1, hk⟩ (show (grid0.coords t 0).val = t.val - 1 + 1 by omega)] at h
    by_contra hne
    apply h
    rw [tbl0] at hne
    have hs := coords_val ⟨t.val - 1, hN⟩
    have key : ∀ x y : BitVec 32, x ≠ y → IntOp.cmpi .ne x y = 1#1 := fun x y hxy => by
      show BitVec.ofBool (x != y) = 1#1
      rw [bne_iff_ne.mpr hxy]; rfl
    rw [key]
    · show (Scalar.cmpi .ne (Scalar.extui (Scalar.cmpi .eq (BitVec.setWidth 32 1#1) 1#32)) 0#32) = 1#1
      decide
    · intro e
      apply hne
      refine Eq.trans (Eq.trans ?_ e.symm) ?_
      · refine congrArg (m (((0 : Dev nD) : Thread nD τ).loc main_arg0)) (congrArg ValueIdx.ix1 (Fin.ext ?_))
        show (grid0.coords ⟨t.val - 1, hN⟩ 0).val = 0 + (t.val - 1)
        rw [hs]; simp
      · refine congrArg (m (((0 : Dev nD) : Thread nD τ).loc main_arg0)) (congrArg ValueIdx.ix1 (Fin.ext ?_))
        show 1 + (t.val - 1) = (grid0.coords t 0).val
        omega

/-- The weight block a point reads, element by element. -/
theorem iblk1 (hO : Ok m) (c : Dev nD) (t : Fin (cfgM m hO).N) (y : S1x1024x256.Idx) (e : Fin 256)
    (he : (tbl m 0 (pos (grid0.coords t))).toNat = e.val) :
    iblk m hO c 1 t y = m ((c : Thread nD τ).loc main_arg2) (ValueIdx.ix3 e (y 1) (y 2)) := by
  refine (show iblk m hO c 1 t y = V m c main_arg2 ((((cfgM m hO).win 1).rect t).emb y) from rfl).trans ?_
  refine (congrFun (V_main_arg2 m c) _).trans (congrArg (m ((c : Thread nD τ).loc main_arg2)) (funext fun a => Fin.ext ?_))
  have hi : ((cfgM m hO).win 1).index t = ![(tbl m 0 (pos (grid0.coords t))).toNat, 0, 0] := tr1 _ _
  have h0 : (y 0).val < 1 := (y 0).isLt
  refine (Pipeline.Window.rect_emb_val ((cfgM m hO).win 1) t y a).trans ?_
  rw [hi]
  match a with
  | ⟨0, _⟩ => show (tbl m 0 (pos (grid0.coords t))).toNat * 1 + (y 0).val = e.val; omega
  | ⟨1, _⟩ => show 0 * 1024 + (y 1).val = (y 1).val; omega
  | ⟨2, _⟩ => show 0 * 256 + (y 2).val = (y 2).val; omega

theorem iblk2 (hO : Ok m) (c : Dev nD) (t : Fin (cfgM m hO).N) (y : S1x1024x256.Idx) (e : Fin 256)
    (he : (tbl m 0 (pos (grid0.coords t))).toNat = e.val) :
    iblk m hO c 2 t y = m ((c : Thread nD τ).loc main_arg3) (ValueIdx.ix3 e (y 1) (y 2)) := by
  refine (show iblk m hO c 2 t y = V m c main_arg3 ((((cfgM m hO).win 2).rect t).emb y) from rfl).trans ?_
  refine (congrFun (V_main_arg3 m c) _).trans (congrArg (m ((c : Thread nD τ).loc main_arg3)) (funext fun a => Fin.ext ?_))
  have hi : ((cfgM m hO).win 2).index t = ![(tbl m 0 (pos (grid0.coords t))).toNat, 0, 0] := tr2 _ _
  have h0 : (y 0).val < 1 := (y 0).isLt
  refine (Pipeline.Window.rect_emb_val ((cfgM m hO).win 2) t y a).trans ?_
  rw [hi]
  match a with
  | ⟨0, _⟩ => show (tbl m 0 (pos (grid0.coords t))).toNat * 1 + (y 0).val = e.val; omega
  | ⟨1, _⟩ => show 0 * 1024 + (y 1).val = (y 1).val; omega
  | ⟨2, _⟩ => show 0 * 256 + (y 2).val = (y 2).val; omega

theorem iblk3 (hO : Ok m) (c : Dev nD) (t : Fin (cfgM m hO).N) (y : S1x256x1024.Idx) (e : Fin 256)
    (he : (tbl m 0 (pos (grid0.coords t))).toNat = e.val) :
    iblk m hO c 3 t y = m ((c : Thread nD τ).loc main_arg4) (ValueIdx.ix3 e (y 1) (y 2)) := by
  refine (show iblk m hO c 3 t y = V m c main_arg4 ((((cfgM m hO).win 3).rect t).emb y) from rfl).trans ?_
  refine (congrFun (V_main_arg4 m c) _).trans (congrArg (m ((c : Thread nD τ).loc main_arg4)) (funext fun a => Fin.ext ?_))
  have hi : ((cfgM m hO).win 3).index t = ![(tbl m 0 (pos (grid0.coords t))).toNat, 0, 0] := tr3 _ _
  have h0 : (y 0).val < 1 := (y 0).isLt
  refine (Pipeline.Window.rect_emb_val ((cfgM m hO).win 3) t y a).trans ?_
  rw [hi]
  match a with
  | ⟨0, _⟩ => show (tbl m 0 (pos (grid0.coords t))).toNat * 1 + (y 0).val = e.val; omega
  | ⟨1, _⟩ => show 0 * 256 + (y 1).val = (y 1).val; omega
  | ⟨2, _⟩ => show 0 * 1024 + (y 2).val = (y 2).val; omega

/-- The block of rows a point reads, element by element. -/
theorem iblk0 (hO : Ok m) (c : Dev nD) (t : Fin (cfgM m hO).N) (y : S256x8x128.Idx) (r : Fin 327680)
    (hr : t.val * 256 + (y 0).val = r.val) :
    iblk m hO c 0 t y = m ((c : Thread nD τ).loc main_arg1) (ValueIdx.ix3 r (y 1) (y 2)) := by
  refine (show iblk m hO c 0 t y = V m c main_arg1 ((((cfgM m hO).win 0).rect t).emb y) from rfl).trans ?_
  refine (congrFun (V_main_arg1 m c) _).trans (congrArg (m ((c : Thread nD τ).loc main_arg1)) (funext fun a => Fin.ext ?_))
  have hc := coords_val t
  have htl : t.val < 1280 := t.isLt
  refine (Pipeline.Window.rect_emb_val ((cfgM m hO).win 0) t y a).trans ?_
  match a with
  | ⟨0, _⟩ =>
    show (BitVec.ofNat 32 (grid0.coords t 0).val).toNat * 256 + (y 0).val = r.val
    rw [hc, BitVec.toNat_ofNat, Nat.mod_eq_of_lt (by omega)]; exact hr
  | ⟨1, _⟩ => show 0 * 8 + (y 1).val = (y 1).val; omega
  | ⟨2, _⟩ => show 0 * 128 + (y 2).val = (y 2).val; omega

/-- Where an element of the output block of a point lies in the output array. -/
theorem emb4 (hO : Ok m) (t : Fin (cfgM m hO).N) (y : S256x8x128.Idx) (r : Fin 327680)
    (hr : t.val * 256 + (y 0).val = r.val) :
    (((cfgM m hO).win 4).rect t).emb y = ValueIdx.ix3 r (y 1) (y 2) := by
  funext a
  refine Fin.ext ?_
  have hc := coords_val t
  have htl : t.val < 1280 := t.isLt
  refine (Pipeline.Window.rect_emb_val ((cfgM m hO).win 4) t y a).trans ?_
  match a with
  | ⟨0, _⟩ =>
    show (BitVec.ofNat 32 (grid0.coords t 0).val).toNat * 256 + (y 0).val = r.val
    rw [hc, BitVec.toNat_ofNat, Nat.mod_eq_of_lt (by omega)]; exact hr
  | ⟨1, _⟩ => show 0 * 8 + (y 1).val = (y 1).val; omega
  | ⟨2, _⟩ => show 0 * 128 + (y 2).val = (y 2).val; omega

end Cert.Kernel2Ideal.Experts

end
-- ==== Proof.Experts.Frame.lean ====
/- The experts call: the run of the whole call, with what every grid point leaves in the output array. -/
module

public import proofs.«01_k».proof.Proof.Experts.Out
public import proofs.«01_k».proof.Proof.Experts.Blocks
public import Idealize.ShloMosaic.Lib.Claim

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three weights of a point's expert, as the scratch holds them. -/
abbrev wg (hO : Ok m) (c : Dev nD) (t : Fin (cfgM m hO).N) : Vec F S1024x256 .bf16 := k0_pay3 (iblk m hO c 1 t)
abbrev wu (hO : Ok m) (c : Dev nD) (t : Fin (cfgM m hO).N) : Vec F S1024x256 .bf16 := k0_pay4 (iblk m hO c 2 t)
abbrev wd (hO : Ok m) (c : Dev nD) (t : Fin (cfgM m hO).N) : Vec F S256x1024 .bf16 := k0_pay5 (iblk m hO c 3 t)

/-- What a point leaves in its output block. -/
def after4 (hO : Ok m) (c : Dev nD) (t : Fin (cfgM m hO).N) : Vec F S256x8x128 .f32 :=
  out (iblk m hO c 0 t) (wg m hO c t) (wu m hO c t) (wd m hO c t)

/-- The scratch before point `t`: the weights of the point before, when there is one. -/
def scratch (hO : Ok m) (c : Dev nD) (t : Fin ((cfgM m hO).N + 1)) : sProp 𝕄 :=
  iprop(∃ g u d, ⌜∀ s : Fin (cfgM m hO).N, s.val + 1 = t.val → g = wg m hO c s ∧ u = wu m hO c s ∧ d = wd m hO c s⌝
    ∗ owns (c : Thread nD τ) scM0_0 fullShare g ∗ owns (c : Thread nD τ) scM0_1 fullShare u ∗ owns (c : Thread nD τ) scM0_2 fullShare d)

/-- The proof data of the call: the inputs' blocks stay, the output block is the point's, and the scratch is followed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => after4 m hO c t
  Φ t := iprop((scratch m hO c t ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = after4 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- Two points with one expert read the same weights. -/
theorem weights_eq (hI : InRange m) (hO : Ok m) (c : Dev nD) (s t : Fin (cfgM m hO).N)
    (h : tbl m 0 (pos (grid0.coords s)) = tbl m 0 (pos (grid0.coords t))) :
    wg m hO c s = wg m hO c t ∧ wu m hO c s = wu m hO c t ∧ wd m hO c s = wd m hO c t := by
  have hr : (tbl m 0 (pos (grid0.coords t))).toNat < 256 := by rw [tbl0]; exact hI _
  refine ⟨congrArg k0_pay3 (funext fun y => ?_), congrArg k0_pay4 (funext fun y => ?_), congrArg k0_pay5 (funext fun y => ?_)⟩
  · exact (iblk1 m hO c s y ⟨_, hr⟩ (by rw [h])).trans (iblk1 m hO c t y ⟨_, hr⟩ rfl).symm
  · exact (iblk2 m hO c s y ⟨_, hr⟩ (by rw [h])).trans (iblk2 m hO c t y ⟨_, hr⟩ rfl).symm
  · exact (iblk3 m hO c s y ⟨_, hr⟩ (by rw [h])).trans (iblk3 m hO c t y ⟨_, hr⟩ rfl).symm

set_option maxHeartbeats 1600000 in
/-- The body at any point. -/
theorem sound_body (hI : InRange m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.castSucc = iprop((scratch m hO c t.castSucc ∗ (∃ r, prngReg c r)) ∗ Pipeline.ΦT pre0 (tbl m) c) from rfl,
    show (dats m hO 0 c).Φ t.succ = iprop((scratch m hO c t.succ ∗ (∃ r, prngReg c r)) ∗ Pipeline.ΦT pre0 (tbl m) c) from rfl, PhiT0_eq]
  unfold scratch
  by_cases h0 : cond0_0 (grid0.coords t) (tbM0_1.view.readAt (Elt F) (Rect.unit (s := S1280) (k0_off1 (grid0.coords t)) S1.size (k0_off1_inb (grid0.coords t))).toLoadRect (tbl m 1) (Shape.Idx.first (numel1_S1.symm ▸ Nat.one_pos)))
  · iintro ⟨⟨⟨⟨%g, %u, %d, -, HS0, HS1, HS2⟩, Hg⟩, ⟨HT0, HT1⟩⟩, Ho, ⟨%d0, H0⟩, ⟨%d1, H1⟩, ⟨%d2, H2⟩, ⟨%d3, H3⟩, ⟨%d4, H4⟩⟩
    iapply ((runNew c (grid0.coords t) _ _ _ _ _ _ _ _ _ (hs0_4 m hO t) _ (Memref.isWhole_whole _) _ (Memref.isWhole_whole _) _ (Memref.isWhole_whole _) (iblk m hO c 0 t) (iblk m hO c 1 t) (iblk m hO c 2 t) (iblk m hO c 3 t) (tbl m 0) (tbl m 1) h0).2 Set.univ _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexists _; iexact HS1
    isplitl [HS2]; · iexists _; iexact HS2
    isplitl [HT0]; · iexact HT0
    isplitl [HT1]; · iexact HT1
    iintro ⟨H0, H1, H2, H3, ⟨%f4, H4⟩, ⟨%f8, HS0⟩, ⟨%f9, HS1⟩, ⟨%f10, HS2⟩, HT0, HT1⟩
    isplitl [HS0 HS1 HS2 Hg HT0 HT1]
    · isplitl [HS0 HS1 HS2 Hg]
      · isplitl [HS0 HS1 HS2]
        · iexists (wg m hO c t); iexists (wu m hO c t); iexists (wd m hO c t)
          isplitr
          · ipureintro
            intro s hs
            obtain rfl : s = t := Fin.ext (Nat.succ.inj hs)
            exact ⟨rfl, rfl, rfl⟩
          isplitl [HS0]
          · unfold owns
            iexists _; isplitr; swap
            · iexact HS0
            ipureintro
            exact read_new8 c (grid0.coords t) _ _ _ _ _ _ _ _ _ _ _ _ _ _ _ _ _ _ _ _ _ _ f8 h0
          isplitl [HS1]
          · unfold owns
            iexists _; isplitr; swap
            · iexact HS1
            ipureintro
            exact read_new9 c (grid0.coords t) _ _ _ _ _ _ _ _ _ _ _ _ _ _ _ _ _ _ _ _ _ _ f9 h0
          unfold owns
          iexists _; isplitr; swap
          · iexact HS2
          ipureintro
          exact read_new10 c (grid0.coords t) _ _ _ _ _ _ _ _ _ _ _ _ _ _ _ _ _ _ _ _ _ _ f10 h0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold owns
    iexists _; isplitr; swap
    · iexact H4
    ipureintro
    exact read_new c (grid0.coords t) _ _ _ _ _ _ _ _ _ _ _ _ _ _ _ _ _ _ _ _ _ _ f4 h0
  · obtain ⟨s, hs, hst⟩ := same_of_not_cond m t h0
    obtain ⟨eg, eu, ed⟩ := weights_eq m hI hO c s t hst
    iintro ⟨⟨⟨⟨%g, %u, %d, %hsc, HS0, HS1, HS2⟩, Hg⟩, ⟨HT0, HT1⟩⟩, Ho, ⟨%d0, H0⟩, ⟨%d1, H1⟩, ⟨%d2, H2⟩, ⟨%d3, H3⟩, ⟨%d4, H4⟩⟩
    obtain ⟨rfl, rfl, rfl⟩ := hsc s hs
    iapply ((runSame c (grid0.coords t) _ _ _ _ _ _ _ _ _ (hs0_4 m hO t) _ (Memref.isWhole_whole _) _ (Memref.isWhole_whole _) _ (Memref.isWhole_whole _) (iblk m hO c 0 t) (iblk m hO c 1 t) (iblk m hO c 2 t) (iblk m hO c 3 t) (wg m hO c s) (wu m hO c s) (wd m hO c s) (tbl m 0) (tbl m 1) h0).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, ⟨%f4, H4⟩, HS0, HS1, HS2, HT0, HT1⟩
    isplitl [HS0 HS1 HS2 Hg HT0 HT1]
    · isplitl [HS0 HS1 HS2 Hg]
      · isplitl [HS0 HS1 HS2]
        · iexists (wg m hO c s); iexists (wu m hO c s); iexists (wd m hO c s)
          isplitr
          · ipureintro
            intro s' hs'
            obtain rfl : s' = t := Fin.ext (Nat.succ.inj hs')
            exact ⟨eg, eu, ed⟩
          isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold owns
    iexists _; isplitr; swap
    · iexact H4
    ipureintro
    refine (read_same c (grid0.coords t) _ _ _ _ _ _ _ _ _ _ _ _ _ _ _ _ _ _ _ _ _ _ f4 _ _ _ h0).trans ?_
    unfold after4
    rw [eg, eu, ed]

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body at every point, in the form the launch takes it. -/
theorem body_obligation (hI : InRange m) (hO : Ok m) (c : Dev nD) : BodyObligation (dats (F := F) m hO 0 c) (defs₀ (F := F)) Variants.none () Set.univ := fun t => by
  rw [bigSep_W0, bigSep_W0, defs₀_row m hO]
  exact triple_restated (sound_body m hI hO c t) rfl .rfl fun _ => .rfl

set_option backward.isDefEq.respectTransparency.types false in
/-- The whole call: it ends with every array of the pipeline as the proof data says, and every counter at zero. -/
theorem run_main (hI : InRange m) (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hI hO c).loose) (hshare := fun c => (dats m hO 0 c).share_full fun _ => rfl)
    (howed := fun _ _ => rfl) (V := V m) (hmain := hmain m Variants.none) (hA := A_eq m hO) (hpf := V_pre m)
    (hin := fun c => by
      rw [show (dats m hO 0 c).Φ 0 = iprop((scratch m hO c 0 ∗ (∃ r, prngReg c r)) ∗ Pipeline.ΦT pre0 (tbl m) c) from rfl]
      rw [show Pipeline.ΦA _ c = _ from PhiA0_eq c]
      unfold scratch
      iintro ⟨⟨⟨⟨%g, HS0⟩, ⟨%u, HS1⟩, ⟨%d, HS2⟩⟩, Hg⟩, HT⟩
      isplitl [HS0 HS1 HS2 Hg]
      · isplitl [HS0 HS1 HS2]
        · iexists g; iexists u; iexists d
          isplitr
          · ipureintro
            intro s hs
            exact absurd hs (Nat.succ_ne_zero _)
          isplitl [HS0]; · iexact HS0
          isplitl [HS1]; · iexact HS1
          iexact HS2
        iexact Hg
      iexact HT)
    (hout := fun c => by
      rw [show (dats m hO 0 c).Φ (Fin.last _) = iprop((scratch m hO c (Fin.last _) ∗ (∃ r, prngReg c r)) ∗ Pipeline.ΦT pre0 (tbl m) c) from rfl]
      rw [show Pipeline.ΦA _ c = _ from PhiA0_eq c]
      unfold scratch
      iintro ⟨⟨⟨%g, %u, %d, -, HS0, HS1, HS2⟩, Hg⟩, -⟩
      isplitl [HS0 HS1 HS2]
      · isplitl [HS0]; · iexists _; iexact HS0
        isplitl [HS1]; · iexists _; iexact HS1
        iexists _; iexact HS2
      iexact Hg)

/-- The call's run, with nothing said of its result: the arguments unchanged, every counter back at zero. -/
theorem frame (hI : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  have hO : Ok m := ok_of_range m hI
  (θ_run defs _ _).mono (fun _ h => ⟨fun c => ⟨((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).1 2).trans (((dats m hO 0 c).arrAt_in 2 rfl _).trans ((A_eq m hO c 2).trans (V_main_arg3 m c))),
      ((h.1 c).1 3).trans (((dats m hO 0 c).arrAt_in 3 rfl _).trans ((A_eq m hO c 3).trans (V_main_arg4 m c)))⟩, h.2⟩) (run_main m ρ hI hO)

end Cert.Kernel2Ideal.Experts

end
-- ==== Proof.Experts.OutValue.lean ====
/- The experts call: what a grid point leaves in its output block, element by element, over the extended reals. -/
module

public import proofs.«01_k».proof.Proof.Experts.Out
public import Idealize.ShloMosaic.Lib.Pipeline.ValueKit.Tiles
public import Idealize.ShloMosaic.Lib.ValueIdx
public import Idealize.ShloMosaic.Lib.MatmulPlain
public import Idealize.ShloMosaic.Lib.Pointwise
public import Idealize.ShloMosaic.PureOps.Ideal.Laws

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One row through one expert, at output column `n`: `silu(x·gate) * (x·up)`, times the down weights. -/
def row (x : Fin 1024 → EReal) (g u : Fin 1024 → Fin 256 → EReal) (d : Fin 256 → Fin 1024 → EReal) (n : Fin 1024) : EReal :=
  ∑ e : Fin 256, ((∑ k, x k * g k e) * Ideal.logistic (∑ k, x k * g k e) * ∑ k, x k * u k e) * d e n

/-- The tile and the lane of a column. -/
abbrev hi (k : Fin 1024) : Fin 8 := ⟨k.val / 128, by omega⟩
abbrev lo (k : Fin 1024) : Fin 128 := ⟨k.val % 128, by omega⟩

theorem slice_apply (x0 : Vec Ideal S256x8x128 .f32) (o : ℕ) (inb) (r : Fin 256) (l : Fin 128) (j : Fin 8) (hj : o = j.val)
    (h : S256x1x128.ShapeCasts S256x128) :
    shapeCast S256x128 (View.ld x0 (Rect.unit ![0, o, 0] S256x1x128.size inb)) h (ValueIdx.ix2 r l) = x0 (ValueIdx.ix3 r j l) := by
  subst hj
  refine (shapeCast_apply _ h (ValueIdx.ix2 r l) (ValueIdx.ix3 r (0 : Fin 1) l) ?_).trans ?_
  · rewrite [Shape.rowMajor_val_three, Shape.rowMajor_val_two]
    show (r.val * 1 + 0) * 128 + l.val = r.val * 128 + l.val
    omega
  · refine congrArg x0 (funext fun a => Fin.ext ?_)
    rw [Rect.idx_unit_val]
    match a with
    | ⟨0, _⟩ => show 0 + r.val = r.val; omega
    | ⟨1, _⟩ => show j.val + 0 = j.val; omega
    | ⟨2, _⟩ => show 0 + l.val = l.val; omega

theorem xcat_apply (x0 : Vec Ideal S256x8x128 .f32) (r : Fin 256) (k : Fin 1024) :
    xcat x0 (ValueIdx.ix2 r k) = x0 (ValueIdx.ix3 r (hi k) (lo k)) := by
  unfold xcat k0_pay6
  have hk := k.isLt
  obtain h | h | h | h | h | h | h | h : k.val / 128 = 0 ∨ k.val / 128 = 1 ∨ k.val / 128 = 2 ∨ k.val / 128 = 3 ∨ k.val / 128 = 4 ∨ k.val / 128 = 5 ∨ k.val / 128 = 6 ∨ k.val / 128 = 7 := by omega
  all_goals
    refine (concatenate_apply_piece (t := S256x1024) 1 _ _ (ValueIdx.ix2 r k) (k.val / 128) (by show _ < 8; omega) S256x128 _ (by simp only [h]; rfl) rfl (k.val / 128 * 128) (by simp only [h]; rfl) (ValueIdx.ix2 r (lo k)) (fun b hb => ?_) ?_).trans (slice_apply x0 _ _ r (lo k) (hi k) h.symm _)
    · match b with
      | ⟨0, _⟩ => rfl
      | ⟨1, _⟩ => exact absurd rfl hb
    · show k.val / 128 * 128 + k.val % 128 = k.val
      omega

theorem mm1 (a : FVec Ideal S256x1024 .bf16) (b : FVec Ideal S1024x256 .bf16) (r : Fin 256) (e : Fin 256) :
    matmul dot_S256x1024_S1024x256_S256x256_1_0_0_1_n_n none a b (constant S256x256 .f32 0x00000000#32) (ValueIdx.ix2 r e)
      = ∑ k : Fin 1024, a (ValueIdx.ix2 r k) * b (ValueIdx.ix2 k e) := by
  show FloatOps.matmul (DotDims.plain 256 1024 256) none a b _ (ValueIdx.ix2 r e) = _
  rw [Ideal.matmul_plain_apply]
  show Ideal.ofBits .f32 0x00000000#32 + _ = _
  rw [Ideal.ofBits_zero_f32, zero_add]

theorem mm2 (a : FVec Ideal S256x256 .bf16) (b : FVec Ideal S256x1024 .bf16) (r : Fin 256) (n : Fin 1024) :
    matmul dot_S256x256_S256x1024_S256x1024_1_0_0_1_n_n none a b (constant S256x1024 .f32 0x00000000#32) (ValueIdx.ix2 r n)
      = ∑ k : Fin 256, a (ValueIdx.ix2 r k) * b (ValueIdx.ix2 k n) := by
  show FloatOps.matmul (DotDims.plain 256 256 1024) none a b _ (ValueIdx.ix2 r n) = _
  rw [Ideal.matmul_plain_apply]
  show Ideal.ofBits .f32 0x00000000#32 + _ = _
  rw [Ideal.ofBits_zero_f32, zero_add]

theorem gate_apply (x0 : Vec Ideal S256x8x128 .f32) (g : Vec Ideal S1024x256 .bf16) (r e : Fin 256) :
    gate x0 g (ValueIdx.ix2 r e) = (∑ k : Fin 1024, x0 (ValueIdx.ix3 r (hi k) (lo k)) * g (ValueIdx.ix2 k e)) * Ideal.logistic (∑ k : Fin 1024, x0 (ValueIdx.ix3 r (hi k) (lo k)) * g (ValueIdx.ix2 k e)) := by
  have hm : matmul (φ₂ := .bf16) dot_S256x1024_S1024x256_S256x256_1_0_0_1_n_n none (truncf .bf16 (xcat x0) bitsLt_bf16_f32) (g : FVec Ideal S1024x256 .bf16) (constant S256x256 .f32 0x00000000#32) (ValueIdx.ix2 r e)
      = ∑ k : Fin 1024, x0 (ValueIdx.ix3 r (hi k) (lo k)) * g (ValueIdx.ix2 k e) := by
    rw [mm1]
    refine Finset.sum_congr rfl fun k _ => ?_
    show xcat x0 (ValueIdx.ix2 r k) * _ = _
    rw [xcat_apply]
  rw [← hm]
  rfl

theorem pay8_apply (x0 : Vec Ideal S256x8x128 .f32) (g : Vec Ideal S1024x256 .bf16) (u : Vec Ideal S1024x256 .bf16) (d : Vec Ideal S256x1024 .bf16) (r : Fin 256) (n : Fin 1024) :
    k0_pay8 (xcat x0) (gate x0 g) u d (ValueIdx.ix2 r n)
      = row (fun k => x0 (ValueIdx.ix3 r (hi k) (lo k))) (fun k e => g (ValueIdx.ix2 k e)) (fun k e => u (ValueIdx.ix2 k e)) (fun e n => d (ValueIdx.ix2 e n)) n := by
  unfold k0_pay8 row
  rw [mm2]
  refine Finset.sum_congr rfl fun e _ => ?_
  refine congrArg (· * _) ?_
  show gate x0 g (ValueIdx.ix2 r e) * matmul (φ₂ := .bf16) dot_S256x1024_S1024x256_S256x256_1_0_0_1_n_n none (truncf .bf16 (xcat x0) bitsLt_bf16_f32) (u : FVec Ideal S1024x256 .bf16) (constant S256x256 .f32 0x00000000#32) (ValueIdx.ix2 r e) = _
  rw [gate_apply, mm1]
  refine congrArg (_ * ·) (Finset.sum_congr rfl fun k _ => ?_)
  show xcat x0 (ValueIdx.ix2 r k) * _ = _
  rw [xcat_apply]

/-- A stored tile, read at an element: the product at the tile's column. -/
theorem tile_apply (v : FVec Ideal S256x1024 .f32) (o : ℕ) (h : S256x1024.Slices ![0, o] S256x128) (h' : S256x128.ShapeCasts S256x1x128)
    (x : S256x1x128.Idx) (r : Fin 256) (n : Fin 1024) (hr : r.val = (x 0).val) (hn : n.val = o + (x 2).val) :
    shapeCast S256x1x128 (extractStridedSlice S256x128 ![0, o] v h) h' x = v (ValueIdx.ix2 r n) := by
  have h1 : (x 1).val < 1 := (x 1).isLt
  refine (shapeCast_apply _ h' x (ValueIdx.ix2 (⟨(x 0).val, (x 0).isLt⟩ : Fin 256) (⟨(x 2).val, (x 2).isLt⟩ : Fin 128)) ?_).trans ?_
  · rewrite [Shape.rowMajor_val_three, Shape.rowMajor_val_two]
    show (x 0).val * 128 + (x 2).val = ((x 0).val * 1 + (x 1).val) * 128 + (x 2).val
    omega
  · refine congrArg v (funext fun a => Fin.ext ?_)
    match a with
    | ⟨0, _⟩ => show 0 + (x 0).val = r.val; omega
    | ⟨1, _⟩ => show o + (x 2).val = n.val; omega

theorem out_apply (x0 : Vec Ideal S256x8x128 .f32) (g : Vec Ideal S1024x256 .bf16) (u : Vec Ideal S1024x256 .bf16) (d : Vec Ideal S256x1024 .bf16)
    (y : S256x8x128.Idx) (r : Fin 256) (n : Fin 1024) (hr : r.val = (y 0).val) (hn : n.val = 128 * (y 1).val + (y 2).val) :
    out x0 g u d y
      = row (fun k => x0 (ValueIdx.ix3 r (hi k) (lo k))) (fun k e => g (ValueIdx.ix2 k e)) (fun k e => u (ValueIdx.ix2 k e)) (fun e n => d (ValueIdx.ix2 e n)) n := by
  rw [← pay8_apply]
  unfold out pieces
  canon_tiles x h using pieces_cover ..
  all_goals first
    | exact tile_apply (k0_pay8 (xcat x0) (gate x0 g) u d) _ _ _ x r n (by omega) (by omega)
    | exact tile_apply (k0_pay8 (xcat x0) (gate x0 g) u d) 768 slices_S256x1024_o0_768_S256x128 _ x r n (by omega) (by omega)

end Cert.Kernel2Ideal.Experts

end
-- ==== Proof.Experts.RefValue.lean ====
/- The experts call's reference, element by element, over the extended reals. -/
module

public import proofs.«01_k».proof.Proof.Experts.OutValue
public import proofs.«01_k».proof.Proof.Gen.Reference2Ideal.Read

@[expose] public section

set_option maxRecDepth 16384

noncomputable section

namespace Cert.Reference2Ideal.Experts

open Cert.Reference2Ideal Cert.Reference2Ideal.Gen Cert.Reference2Ideal.Read Idealize.ShloMosaic
open Cert.Kernel2Ideal.Experts (row hi lo)

/-- Three axes, a word naming the first: the gathered slice is the named one. -/
theorem gatherUp (x : (⟨S256x1024x256, .f32⟩ : BufTy).Contents (Elt Ideal)) (idx : IVec S1280x1 32) (j : S1280x1024x256.Idx) (e : Fin 256) (p : Fin 1024) (q : Fin 256)
    (hp : (j 1).val = p.val) (hq : (j 2).val = q.val)
    (he : (idx (ValueIdx.ix2 (⟨(j 0).val, (j 0).isLt⟩ : Fin 1280) (0 : Fin 1))).toInt.toNat = e.val) :
    Host.gather gather_S256x1024x256_S1280x1_S1280x1024x256_12_0_n_n_0_1_11024256 x idx j = x (ValueIdx.ix3 e p q) := by
  let D := gather_S256x1024x256_S1280x1_S1280x1024x256_12_0_n_n_0_1_11024256
  have b0 : ∀ a : Fin 3, D.batchCoord j a = 0 := fun a => GatherDims.batchCoord_eq_zero _ _ _ List.not_mem_nil
  have o0 : D.offCoord j (0 : Fin 3) = 0 :=
    GatherDims.offCoord_eq_zero _ _ _ (fun h => ((GatherDims.mem_sKept _ _).mp h).1 (List.mem_singleton.mpr rfl))
  have o1 : D.offCoord j (1 : Fin 3) = p.val := by
    unfold GatherDims.offCoord
    rw [dif_pos (show (1 : Fin 3) ∈ D.sKept by decide)]
    exact hp
  have o2 : D.offCoord j (2 : Fin 3) = q.val := by
    unfold GatherDims.offCoord
    rw [dif_pos (show (2 : Fin 3) ∈ D.sKept by decide)]
    exact hq
  have s1 : D.start j idx (1 : Fin 3) = 0 := by
    unfold GatherDims.start
    rw [dif_neg (show ¬ (1 : Fin 3) ∈ D.startIndexMap by decide)]
  have s2 : D.start j idx (2 : Fin 3) = 0 := by
    unfold GatherDims.start
    rw [dif_neg (show ¬ (2 : Fin 3) ∈ D.startIndexMap by decide)]
  have s0 : D.start j idx (0 : Fin 3) = e.val := by
    unfold GatherDims.start
    rw [dif_pos (show (0 : Fin 3) ∈ D.startIndexMap from List.mem_singleton.mpr rfl)]
    have hsi : D.siIdx j ⟨List.idxOf (0 : Fin 3) D.startIndexMap, List.idxOf_lt_length_iff.2 (List.mem_singleton.mpr rfl)⟩
        = ValueIdx.ix2 (⟨(j 0).val, (j 0).isLt⟩ : Fin 1280) (0 : Fin 1) := by
      funext b; refine Fin.ext ?_
      match b with
      | ⟨0, _⟩ => rfl
      | ⟨1, _⟩ => rfl
    have hlt := e.isLt
    rw [hsi, he]
    show min e.val (256 - 1) = e.val
    omega
  unfold Host.gather
  refine congrArg x (funext fun a => Fin.ext ?_)
  match a with
  | ⟨0, _⟩ => show D.start j idx (0 : Fin 3) + D.batchCoord j (0 : Fin 3) + D.offCoord j (0 : Fin 3) = e.val; rw [s0, b0, o0]; rfl
  | ⟨1, _⟩ => show D.start j idx (1 : Fin 3) + D.batchCoord j (1 : Fin 3) + D.offCoord j (1 : Fin 3) = p.val; rw [s1, b0, o1]; omega
  | ⟨2, _⟩ => show D.start j idx (2 : Fin 3) + D.batchCoord j (2 : Fin 3) + D.offCoord j (2 : Fin 3) = q.val; rw [s2, b0, o2]; omega

theorem gatherDown (x : (⟨S256x256x1024, .f32⟩ : BufTy).Contents (Elt Ideal)) (idx : IVec S1280x1 32) (j : S1280x256x1024.Idx) (e : Fin 256) (p : Fin 256) (q : Fin 1024)
    (hp : (j 1).val = p.val) (hq : (j 2).val = q.val)
    (he : (idx (ValueIdx.ix2 (⟨(j 0).val, (j 0).isLt⟩ : Fin 1280) (0 : Fin 1))).toInt.toNat = e.val) :
    Host.gather gather_S256x256x1024_S1280x1_S1280x256x1024_12_0_n_n_0_1_12561024 x idx j = x (ValueIdx.ix3 e p q) := by
  let D := gather_S256x256x1024_S1280x1_S1280x256x1024_12_0_n_n_0_1_12561024
  have b0 : ∀ a : Fin 3, D.batchCoord j a = 0 := fun a => GatherDims.batchCoord_eq_zero _ _ _ List.not_mem_nil
  have o0 : D.offCoord j (0 : Fin 3) = 0 :=
    GatherDims.offCoord_eq_zero _ _ _ (fun h => ((GatherDims.mem_sKept _ _).mp h).1 (List.mem_singleton.mpr rfl))
  have o1 : D.offCoord j (1 : Fin 3) = p.val := by
    unfold GatherDims.offCoord
    rw [dif_pos (show (1 : Fin 3) ∈ D.sKept by decide)]
    exact hp
  have o2 : D.offCoord j (2 : Fin 3) = q.val := by
    unfold GatherDims.offCoord
    rw [dif_pos (show (2 : Fin 3) ∈ D.sKept by decide)]
    exact hq
  have s1 : D.start j idx (1 : Fin 3) = 0 := by
    unfold GatherDims.start
    rw [dif_neg (show ¬ (1 : Fin 3) ∈ D.startIndexMap by decide)]
  have s2 : D.start j idx (2 : Fin 3) = 0 := by
    unfold GatherDims.start
    rw [dif_neg (show ¬ (2 : Fin 3) ∈ D.startIndexMap by decide)]
  have s0 : D.start j idx (0 : Fin 3) = e.val := by
    unfold GatherDims.start
    rw [dif_pos (show (0 : Fin 3) ∈ D.startIndexMap from List.mem_singleton.mpr rfl)]
    have hsi : D.siIdx j ⟨List.idxOf (0 : Fin 3) D.startIndexMap, List.idxOf_lt_length_iff.2 (List.mem_singleton.mpr rfl)⟩
        = ValueIdx.ix2 (⟨(j 0).val, (j 0).isLt⟩ : Fin 1280) (0 : Fin 1) := by
      funext b; refine Fin.ext ?_
      match b with
      | ⟨0, _⟩ => rfl
      | ⟨1, _⟩ => rfl
    have hlt := e.isLt
    rw [hsi, he]
    show min e.val (256 - 1) = e.val
    omega
  unfold Host.gather
  refine congrArg x (funext fun a => Fin.ext ?_)
  match a with
  | ⟨0, _⟩ => show D.start j idx (0 : Fin 3) + D.batchCoord j (0 : Fin 3) + D.offCoord j (0 : Fin 3) = e.val; rw [s0, b0, o0]; rfl
  | ⟨1, _⟩ => show D.start j idx (1 : Fin 3) + D.batchCoord j (1 : Fin 3) + D.offCoord j (1 : Fin 3) = p.val; rw [s1, b0, o1]; omega
  | ⟨2, _⟩ => show D.start j idx (2 : Fin 3) + D.batchCoord j (2 : Fin 3) + D.offCoord j (2 : Fin 3) = q.val; rw [s2, b0, o2]; omega

variable (x0 : (⟨S1280, .i32⟩ : BufTy).Contents (Elt Ideal)) (x1 : (⟨S327680x8x128, .f32⟩ : BufTy).Contents (Elt Ideal))
  (x2 x3 : (⟨S256x1024x256, .f32⟩ : BufTy).Contents (Elt Ideal)) (x4 : (⟨S256x256x1024, .f32⟩ : BufTy).Contents (Elt Ideal))

/-- A word below 256 read as signed is itself. -/
theorem toInt_of_lt (w : BitVec 32) (h : w.toNat < 256) : w.toInt.toNat = w.toNat := by
  rw [BitVec.toInt_eq_toNat_of_lt (by omega)]; rfl

/-- … and is not negative, so wrapping keeps it. -/
theorem wrap_of_lt (w : BitVec 32) (h : w.toNat < 256) :
    Scalar.select (IntOp.cmpi .slt w 0#32) (IntOp.addi w 256#32) w = w := by
  have : IntOp.cmpi .slt w 0#32 = 0#1 := by
    show BitVec.ofBool (w.slt 0#32) = 0#1
    have : w.slt 0#32 = false := by
      rw [BitVec.slt, decide_eq_false_iff_not, BitVec.toInt_eq_toNat_of_lt (by omega)]
      simp
    rw [this]; rfl
  rw [this]; exact ValueIdx.select_zero _ _

theorem word6 (h : ∀ y, (x0 y).toNat < 256) (b : Fin 1280) :
    val_main_v6 (F := Ideal) x0 (ValueIdx.ix2 b (0 : Fin 1)) = x0 (ValueIdx.ix1 b) := by
  rw [val_main_v6_apply, val_main_v5_apply]
  have e : idx_main_v6 (ValueIdx.ix2 b (0 : Fin 1)) = ValueIdx.ix1 b := by
    funext a; obtain rfl : a = 0 := Subsingleton.elim _ _; rfl
  rw [e]
  exact wrap_of_lt _ (h _)

theorem word13 (h : ∀ y, (x0 y).toNat < 256) (b : Fin 1280) :
    val_main_v13 (F := Ideal) x0 (ValueIdx.ix2 b (0 : Fin 1)) = x0 (ValueIdx.ix1 b) := word6 x0 h b

theorem word20 (h : ∀ y, (x0 y).toNat < 256) (b : Fin 1280) :
    val_main_v20 (F := Ideal) x0 (ValueIdx.ix2 b (0 : Fin 1)) = x0 (ValueIdx.ix1 b) := word6 x0 h b

/-- The reference's result at row `256 b + q`, column `n`: the row through the expert of its block. -/
theorem ref_apply (h : ∀ y, (x0 y).toNat < 256) (b : Fin 1280) (q : Fin 256) (r : Fin 327680) (i : S327680x8x128.Idx) (e : Fin 256) (n : Fin 1024)
    (hr : r.val = b.val * 256 + q.val) (hi0 : (i 0).val = r.val) (hn : n.val = 128 * (i 1).val + (i 2).val) (he : (x0 (ValueIdx.ix1 b)).toNat = e.val) :
    val_main_v27 (F := Ideal) x0 x1 x2 x3 x4 i
      = row (fun k => x1 (ValueIdx.ix3 r (hi k) (lo k))) (fun k f => x2 (ValueIdx.ix3 e k f)) (fun k f => x3 (ValueIdx.ix3 e k f)) (fun f k => x4 (ValueIdx.ix3 e f k)) n := by
  have hi1 : (i 1).val < 8 := (i 1).isLt
  have hi2 : (i 2).val < 128 := (i 2).isLt
  have hbl := b.isLt
  have hql := q.isLt
  have hw : (x0 (ValueIdx.ix1 b)).toInt.toNat = e.val := by rw [toInt_of_lt _ (h _), he]
  have hx : ∀ k : Fin 1024, val_main_v0 (F := Ideal) x1 (ValueIdx.ix3 b q k) = x1 (ValueIdx.ix3 r (hi k) (lo k)) := fun k => by
    rw [val_main_v0_apply]
    have hk := k.isLt
    refine congrArg x1 (funext fun a => Fin.ext ?_)
    match a with
    | ⟨0, _⟩ => show ((b.val * 256 + q.val) * 1024 + k.val) / 1024 = r.val; omega
    | ⟨1, _⟩ => show ((b.val * 256 + q.val) * 1024 + k.val) / 128 % 8 = k.val / 128; omega
    | ⟨2, _⟩ => show ((b.val * 256 + q.val) * 1024 + k.val) % 128 = k.val % 128; omega
  have h22 : ∀ f : Fin 256, val_main_v22 (F := Ideal) x0 x1 x2 (ValueIdx.ix3 b q f) = ∑ k : Fin 1024, x1 (ValueIdx.ix3 r (hi k) (lo k)) * x2 (ValueIdx.ix3 e k f) := fun f => by
    rw [val_main_v22_apply]
    refine Finset.sum_congr rfl fun k _ => ?_
    have e1 : lidx_main_v22 (ValueIdx.ix3 b q f) k = ValueIdx.ix3 b q k := by
      funext a; match a with | ⟨0, _⟩ => rfl | ⟨1, _⟩ => rfl | ⟨2, _⟩ => rfl
    rw [e1, hx]
    refine congrArg (_ * ·) ?_
    unfold val_main_v7
    exact gatherUp x2 _ (ridx_main_v22 (ValueIdx.ix3 b q f) k) e k f rfl rfl ((congrArg (fun w : BitVec 32 => w.toInt.toNat) (word6 x0 h b)).trans hw)
  have h24 : ∀ f : Fin 256, val_main_v24 (F := Ideal) x0 x1 x3 (ValueIdx.ix3 b q f) = ∑ k : Fin 1024, x1 (ValueIdx.ix3 r (hi k) (lo k)) * x3 (ValueIdx.ix3 e k f) := fun f => by
    rw [val_main_v24_apply]
    refine Finset.sum_congr rfl fun k _ => ?_
    have e1 : lidx_main_v24 (ValueIdx.ix3 b q f) k = ValueIdx.ix3 b q k := by
      funext a; match a with | ⟨0, _⟩ => rfl | ⟨1, _⟩ => rfl | ⟨2, _⟩ => rfl
    rw [e1, hx]
    refine congrArg (_ * ·) ?_
    unfold val_main_v14
    exact gatherUp x3 _ (ridx_main_v24 (ValueIdx.ix3 b q f) k) e k f rfl rfl ((congrArg (fun w : BitVec 32 => w.toInt.toNat) (word13 x0 h b)).trans hw)
  rw [val_main_v27_apply]
  have e27 : idx_main_v27 i = ValueIdx.ix3 b q n := by
    funext a
    refine Fin.ext ?_
    match a with
    | ⟨0, _⟩ => show (((i 0).val * 8 + (i 1).val) * 128 + (i 2).val) / 262144 = b.val; omega
    | ⟨1, _⟩ => show (((i 0).val * 8 + (i 1).val) * 128 + (i 2).val) / 1024 % 256 = q.val; omega
    | ⟨2, _⟩ => show (((i 0).val * 8 + (i 1).val) * 128 + (i 2).val) % 1024 = n.val; omega
  rw [e27, val_main_v26_apply]
  unfold row
  refine Finset.sum_congr rfl fun f _ => ?_
  have e1 : lidx_main_v26 (ValueIdx.ix3 b q n) f = ValueIdx.ix3 b q f := by
    funext a; match a with | ⟨0, _⟩ => rfl | ⟨1, _⟩ => rfl | ⟨2, _⟩ => rfl
  rw [e1]
  refine congrArg₂ (· * ·) ?_ ?_
  · rw [val_main_v25_apply, val_main_v23_apply, h24, ← h22]
    refine congrArg (· * _) ?_
    show _ * _ = _ * _
    refine congrArg (_ * ·) ?_
    generalize hv : val_main_v22 (F := Ideal) x0 x1 x2 = v
    show Ideal.div (Ideal.ofBits .f32 0x3F800000#32) (Ideal.ofBits .f32 0x3F800000#32 + Ideal.exp (-val_main_v22 (F := Ideal) x0 x1 x2 (ValueIdx.ix3 b q f))) = _
    rw [show Ideal.ofBits .f32 0x3F800000#32 = 1 by simp [Ideal.ofBits, Ideal.ieee, -EReal.coe_mul]; norm_num, hv]
    rfl
  · unfold val_main_v21
    exact gatherDown x4 _ (ridx_main_v26 (ValueIdx.ix3 b q n) f) e f n rfl rfl ((congrArg (fun w : BitVec 32 => w.toInt.toNat) (word20 x0 h b)).trans hw)

end Cert.Reference2Ideal.Experts

end
-- ==== Proof.Experts.Call.lean ====
/- The experts call: what the output array holds at the end, and the arguments unchanged. -/
module

public import proofs.«01_k».proof.Proof.Experts.Frame
public import proofs.«01_k».proof.Proof.Experts.RefValue
public import Idealize.ShloMosaic.Lib.Pipeline.ValueKit.Geometry

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.Tactic
open Idealize.SL.Sem

variable (m : (ℓ : Loc nD τ sig) → Buf (Elt Ideal) ℓ) (ρ : Dev nD → PrngReg)

theorem pay3_apply (v : Vec Ideal S1x1024x256 .f32) (k : Fin 1024) (e : Fin 256) :
    k0_pay3 v (ValueIdx.ix2 k e) = v (ValueIdx.ix3 (0 : Fin 1) k e) := by
  have hk := k.isLt
  have he := e.isLt
  unfold k0_pay3
  refine (shapeCast_apply _ _ (ValueIdx.ix2 k e) (ValueIdx.ix2 k e) rfl).trans ?_
  refine (shapeCast_apply v _ (ValueIdx.ix2 k e) (ValueIdx.ix3 (0 : Fin 1) k e) ?_)
  rw [Shape.rowMajor_val_three, Shape.rowMajor_val_two]
  show ((0 * 1024 + k.val) * 256 + e.val) = k.val * 256 + e.val
  omega

theorem pay4_apply (v : Vec Ideal S1x1024x256 .f32) (k : Fin 1024) (e : Fin 256) :
    k0_pay4 v (ValueIdx.ix2 k e) = v (ValueIdx.ix3 (0 : Fin 1) k e) := pay3_apply v k e

theorem pay5_apply (v : Vec Ideal S1x256x1024 .f32) (e : Fin 256) (k : Fin 1024) :
    k0_pay5 v (ValueIdx.ix2 e k) = v (ValueIdx.ix3 (0 : Fin 1) e k) := by
  have hk := k.isLt
  have he := e.isLt
  unfold k0_pay5
  refine (shapeCast_apply _ _ (ValueIdx.ix2 e k) (ValueIdx.ix2 e k) rfl).trans ?_
  refine (shapeCast_apply v _ (ValueIdx.ix2 e k) (ValueIdx.ix3 (0 : Fin 1) e k) ?_)
  rw [Shape.rowMajor_val_three, Shape.rowMajor_val_two]
  show ((0 * 256 + e.val) * 1024 + k.val) = e.val * 1024 + k.val
  omega

/-- The reference's result, of the call's own arguments. -/
def want (c : Dev nD) : Buf (Elt Ideal) ((c : Thread nD τ).loc main_v6) :=
  Cert.Reference2Ideal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem dev_eq (c : Dev nD) : c = 0 := Subsingleton.elim _ _

/-- What a point leaves in its output block is the reference's result there. -/
theorem after_eq (hI : InRange m) (hO : Ok m) (c : Dev nD) (t : Fin (cfgM m hO).N) (y : S256x8x128.Idx) :
    after4 m hO c t y = want m c ((((cfgM m hO).win 4).rect t).emb y) := by
  obtain rfl := dev_eq c
  have htl : t.val < 1280 := t.isLt
  have h0 : (y 0).val < 256 := (y 0).isLt
  have h1 : (y 1).val < 8 := (y 1).isLt
  have h2 : (y 2).val < 128 := (y 2).isLt
  have hpos : pos (grid0.coords t) = ValueIdx.ix1 (⟨t.val, htl⟩ : Fin 1280) := by
    unfold pos
    exact congrArg ValueIdx.ix1 (Fin.ext (coords_val t))
  have hlt : (tbl m 0 (pos (grid0.coords t))).toNat < 256 := by rw [tbl0]; exact hI _
  have he : (m (((0 : Dev nD) : Thread nD τ).loc main_arg0) (ValueIdx.ix1 (⟨t.val, htl⟩ : Fin 1280))).toNat
      = (⟨(tbl m 0 (pos (grid0.coords t))).toNat, hlt⟩ : Fin 256).val := by
    show _ = (tbl m 0 (pos (grid0.coords t))).toNat
    rw [tbl0, hpos]
  rw [emb4 m hO t y ⟨t.val * 256 + (y 0).val, by omega⟩ rfl]
  refine (out_apply _ _ _ _ y ⟨(y 0).val, h0⟩ ⟨128 * (y 1).val + (y 2).val, by omega⟩ rfl rfl).trans ?_
  refine Eq.trans ?_ (Cert.Reference2Ideal.Experts.ref_apply _ _ _ _ _ (fun y => hI y) ⟨t.val, htl⟩ ⟨(y 0).val, h0⟩ ⟨t.val * 256 + (y 0).val, by omega⟩
    _ ⟨(tbl m 0 (pos (grid0.coords t))).toNat, hlt⟩ ⟨128 * (y 1).val + (y 2).val, by omega⟩ rfl rfl rfl he).symm
  have e0 : (fun k : Fin 1024 => iblk m hO 0 0 t (ValueIdx.ix3 (⟨(y 0).val, h0⟩ : Fin 256) (hi k) (lo k)))
      = fun k => m (((0 : Dev nD) : Thread nD τ).loc main_arg1) (ValueIdx.ix3 (⟨t.val * 256 + (y 0).val, by omega⟩ : Fin 327680) (hi k) (lo k)) :=
    funext fun k => iblk0 m hO 0 t _ _ rfl
  have e1 : (fun (k : Fin 1024) (e : Fin 256) => wg m hO 0 t (ValueIdx.ix2 k e))
      = fun k e => m (((0 : Dev nD) : Thread nD τ).loc main_arg2) (ValueIdx.ix3 (⟨(tbl m 0 (pos (grid0.coords t))).toNat, hlt⟩ : Fin 256) k e) :=
    funext fun k => funext fun e => (pay3_apply _ k e).trans (iblk1 m hO 0 t _ _ rfl)
  have e2 : (fun (k : Fin 1024) (e : Fin 256) => wu m hO 0 t (ValueIdx.ix2 k e))
      = fun k e => m (((0 : Dev nD) : Thread nD τ).loc main_arg3) (ValueIdx.ix3 (⟨(tbl m 0 (pos (grid0.coords t))).toNat, hlt⟩ : Fin 256) k e) :=
    funext fun k => funext fun e => (pay4_apply _ k e).trans (iblk2 m hO 0 t _ _ rfl)
  have e3 : (fun (e : Fin 256) (k : Fin 1024) => wd m hO 0 t (ValueIdx.ix2 e k))
      = fun e k => m (((0 : Dev nD) : Thread nD τ).loc main_arg4) (ValueIdx.ix3 (⟨(tbl m 0 (pos (grid0.coords t))).toNat, hlt⟩ : Fin 256) e k) :=
    funext fun e => funext fun k => (pay5_apply _ e k).trans (iblk3 m hO 0 t _ _ rfl)
  rw [e0, e1, e2, e3]

/-- Every element of the output array is in some point's block. -/
theorem cover (hO : Ok m) (i : S327680x8x128.Idx) :
    ∃ t : Fin (cfgM m hO).N, ((cfgM m hO).win 4).flush t = true ∧ i ∈ (((cfgM m hO).win 4).blk t).view.set := by
  have h0 : (i 0).val < 327680 := (i 0).isLt
  have hN : (i 0).val / 256 < (cfgM m hO).N := show (i 0).val / 256 < 1280 by omega
  refine ⟨⟨(i 0).val / 256, hN⟩, flush0_4 _ _, ?_⟩
  have e : (((cfgM m hO).win 4).rect ⟨(i 0).val / 256, hN⟩).emb (ValueIdx.ix3 (⟨(i 0).val % 256, by omega⟩ : Fin 256) (i 1) (i 2)) = i := by
    refine (emb4 m hO _ _ (i 0) ?_).trans ?_
    · show (i 0).val / 256 * 256 + (i 0).val % 256 = (i 0).val; omega
    · funext a; match a with | ⟨0, _⟩ => rfl | ⟨1, _⟩ => rfl | ⟨2, _⟩ => rfl
  refine (congrArg (· ∈ _) e).mp ?_
  exact Finset.mem_map.mpr ⟨_, Finset.mem_univ _, rfl⟩

/-- An output array whose every block is that block of `G` is `G`. -/
theorem final_of (hO : Ok m) (c : Dev nD) (G : Buf (Elt Ideal) ((c : Thread nD τ).loc main_v6))
    (h : ∀ (t : Fin (cfgM m hO).N) (y : S256x8x128.Idx), after4 m hO c t y = G ((((cfgM m hO).win 4).rect t).emb y)) :
    (dats m hO 0 c).arrAt 4 (cfgM m hO).N = G := by
  refine (dats m hO 0 c).arrAt_eq_of_emb 4 G (fun t _ y => ?_) (cover m hO)
  rw [after0_4]
  generalize after4 m hO c = A at h
  exact h t y

/-- So the output array ends at the reference's result. -/
theorem final (hI : InRange m) (hO : Ok m) (c : Dev nD) : (dats m hO 0 c).arrAt 4 (cfgM m hO).N = want m c :=
  final_of m hO c (want m c) (after_eq m hI hO c)

/-- The call's run: the result, the arguments unchanged, every counter back at zero. -/
theorem run (hI : InRange m) : θ_run defs (onTc (τ := τ) (main (F := Ideal))) ⟨m, fun _ => 0, ρ⟩ (fun r =>
    (∀ c : Dev nD, r.2.mem ((c.tc : Thread nD τ).loc main_v6) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  have hO : Ok m := ok_of_range m hI
  (θ_run defs _ _).mono (fun _ h => ⟨fun c => ⟨((h.1 c).1 4).trans (final m hI hO c),
      ((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).1 2).trans (((dats m hO 0 c).arrAt_in 2 rfl _).trans ((A_eq m hO c 2).trans (V_main_arg3 m c))),
      ((h.1 c).1 3).trans (((dats m hO 0 c).arrAt_in 3 rfl _).trans ((A_eq m hO c 3).trans (V_main_arg4 m c)))⟩, h.2⟩) (run_main m ρ hI hO)

end Cert.Kernel2Ideal.Experts

end

end
-- ==== Proof.Experts.Claim.lean ====
/- The claims about the experts call. -/
module

public import proofs.«01_k».proof.Defs
public import proofs.«01_k».proof.Proof.Gen.Pre_in_range
public import proofs.«01_k».proof.Proof.Gen.Reference2Ideal.Run
public import proofs.«01_k».proof.Proof.Experts.Same
public import proofs.«01_k».proof.Proof.Experts.Call

@[expose] public section

set_option maxRecDepth 16384

noncomputable section

namespace Cert.Experts

open Idealize.ShloMosaic Idealize.ShloMosaic.TcCoe Idealize.SL.Sem

/-- What the precondition says of the table: every word of it, read as a number, is below 256. -/
theorem range_of_pre {F : FTy → Type} [FloatOps F] (x0 : IVec Cert.Pre_in_range.S1280 32) (x1 x2 x3 x4)
    (h : Cert.Pre_in_range.fn (F := F) x0 x1 x2 x3 x4 = fun _ => 1#1) (y : Cert.Pre_in_range.S1280.Idx) : (x0 y).toNat < 256 := by
  have andi_ofBool (p q : Bool) : IntOp.andi (BitVec.ofBool p) (BitVec.ofBool q) = BitVec.ofBool (p && q) := by cases p <;> cases q <;> decide
  have ofBool_eq_one (p : Bool) : (BitVec.ofBool p = 1#1) ↔ p = true := by cases p <;> decide
  have e := congrFun h y
  simp only [Cert.Pre_in_range.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- The version's own program is, over machine floats, the same text as the one over the extended reals. -/
theorem frame_p : Cert.quiescent_Kernel2 := fun m ρ h =>
  run_of_eq defs_eq main_eq (Cert.Kernel2Ideal.Experts.frame (F := Bits) m ρ fun y => range_of_pre _ _ _ _ _ (h 0) y)

theorem frame_i : Cert.quiescent_Kernel2Ideal := fun m ρ h =>
  (θ_run Cert.Kernel2Ideal.defs _ _).mono (fun _ k => ⟨fun c => (k.1 c).2, k.2⟩)
    (Cert.Kernel2Ideal.Experts.run m ρ fun y => range_of_pre _ _ _ _ _ (h 0) y)

theorem frame_r : Cert.quiescent_Reference2Ideal := fun m ρ _ =>
  (θ_run Cert.Reference2Ideal.defs _ _).mono (fun r k => ⟨fun c => (k c).2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' hpre hagree
  refine ⟨Cert.Kernel2Ideal.Experts.want m, (θ_run Cert.Kernel2Ideal.defs _ _).mono (fun _ k => k.1)
    (Cert.Kernel2Ideal.Experts.run m ρ fun y => range_of_pre _ _ _ _ _ (hpre 0) y), ?_⟩
  refine (θ_run Cert.Reference2Ideal.defs _ _).mono (fun r k c => ⟨(k c).1.trans ?_, (k c).2⟩) (Cert.Reference2Ideal.Value.run (F := Ideal) m' ρ')
  refine (Cert.Reference2Ideal.Read.val_main_v27_eq (F := Ideal) _ _ _ _ _).trans ?_
  obtain ⟨h0, h1, h2, h3, h4⟩ := hagree c
  rw [h0, h1, h2, h3, h4]
  rfl

end Cert.Experts

end

end
-- ==== Proof.Moba.Vec.lean ====
module

public import proofs.«01_k».proof.Proof.Gen.KernelIdeal.Value

@[expose] public section

set_option maxRecDepth 16384

/-! The attention call's body as vector operations: the choice of blocks, the first block's softmax, one further block,
the quotient. The two heads do the same operations. -/

noncomputable section

namespace Cert.Moba

open Cert.KernelIdeal Cert.KernelIdeal.Gen Idealize.ShloMosaic Idealize.ShloMosaic.TcCoe Idealize.SL.Sem

variable {F : FTy → Type} [FloatOps F] [Named F]

/-- The lane numbers of a row of block scores. -/
def laneV : IVec S256x16 32 := iota .tc S256x16 32 [1] iota_S256x16_d1_w32
/-- The row numbers and the column numbers of a block. -/
def rowV : IVec S256x256 32 := iota .tc S256x256 32 [0] iota_S256x256_d0_w32
def colV : IVec S256x256 32 := iota .tc S256x256 32 [1] iota_S256x256_d1_w32

/-- One if the block of the column beats the lane's block. -/
def beatV (i : BitVec 32) (col : FVec F S256x1 .f32) (g : FVec F S256x16 .f32) : IVec S256x16 32 :=
  extui 32 (ori (cmpf .ogt (broadcastTo S256x16 col broadcasts_S256x1_S256x16) g)
    (andi (cmpf .oeq (broadcastTo S256x16 col broadcasts_S256x1_S256x16) g) (cmpi .sgt laneV (broadcast S256x16 i)))) natLt_1_32

/-- How many blocks beat the lane's block. -/
def rankV (g : FVec F S256x16 .f32) : IVec S256x16 32 :=
  addi (addi (addi (addi (addi (addi (addi (addi (addi (addi (addi (addi (addi (addi (addi (addi (broadcast S256x16 0#32)
    (beatV 0#32 (extractStridedSlice S256x1 ![0, 0] g slices_S256x16_o0_0_S256x1) g))
    (beatV 1#32 (extractStridedSlice S256x1 ![0, 1] g slices_S256x16_o0_1_S256x1) g))
    (beatV 2#32 (extractStridedSlice S256x1 ![0, 2] g slices_S256x16_o0_2_S256x1) g))
    (beatV 3#32 (extractStridedSlice S256x1 ![0, 3] g slices_S256x16_o0_3_S256x1) g))
    (beatV 4#32 (extractStridedSlice S256x1 ![0, 4] g slices_S256x16_o0_4_S256x1) g))
    (beatV 5#32 (extractStridedSlice S256x1 ![0, 5] g slices_S256x16_o0_5_S256x1) g))
    (beatV 6#32 (extractStridedSlice S256x1 ![0, 6] g slices_S256x16_o0_6_S256x1) g))
    (beatV 7#32 (extractStridedSlice S256x1 ![0, 7] g slices_S256x16_o0_7_S256x1) g))
    (beatV 8#32 (extractStridedSlice S256x1 ![0, 8] g slices_S256x16_o0_8_S256x1) g))
    (beatV 9#32 (extractStridedSlice S256x1 ![0, 9] g slices_S256x16_o0_9_S256x1) g))
    (beatV 10#32 (extractStridedSlice S256x1 ![0, 10] g slices_S256x16_o0_10_S256x1) g))
    (beatV 11#32 (extractStridedSlice S256x1 ![0, 11] g slices_S256x16_o0_11_S256x1) g))
    (beatV 12#32 (extractStridedSlice S256x1 ![0, 12] g slices_S256x16_o0_12_S256x1) g))
    (beatV 13#32 (extractStridedSlice S256x1 ![0, 13] g slices_S256x16_o0_13_S256x1) g))
    (beatV 14#32 (extractStridedSlice S256x1 ![0, 14] g slices_S256x16_o0_14_S256x1) g))
    (beatV 15#32 (extractStridedSlice S256x1 ![0, 15] g slices_S256x16_o0_15_S256x1) g)

/-- One for each chosen block: among the first three and in the past. -/
def selV (own : BitVec 32) (g : FVec F S256x16 .f32) : FVec F S256x16 .f32 :=
  sitofp .f32 (extui 32 (andi (cmpi .slt (rankV g) (broadcast S256x16 3#32)) (cmpi .slt laneV (broadcast S256x16 own))) natLt_1_32)

/-- The masked scores of the query block against block `n`. -/
def stepS (n : BitVec 32) (q : FVec F S256x64 .bf16) (sel : FVec F S256x16 .f32) (k : Vec F S1x256x64 .bf16) : FVec F S256x256 .f32 :=
  let v463 : FVec F S256 .f32 := multiReduction .add [1] S256 (select (cmpi .eq laneV (broadcast S256x16 n)) sel (broadcast S256x16 (Scalar.ofBits .f32 0x00000000#32))) 0x00000000#32 reduces_S256x16_S256 (.inl rfl) rfl
  let v466 : IVec S256x1 1 := cmpf .ogt (shapeCast S256x1 v463 shapeCasts_S256_S256x1) (broadcast S256x1 (Scalar.ofBits .f32 0x3F000000#32))
  select (broadcastTo S256x256 (shapeCast S256x1 v466 shapeCasts_S256x1_S256x1) broadcasts_S256x1_S256x256)
    (matmul dot_S256x64_S256x64_S256x256_1_1_0_0_n_n none q (shapeCast S256x64 k shapeCasts_S1x256x64_S256x64) (constant S256x256 .f32 0x00000000#32))
    (broadcast S256x256 (Named.named κ "mask" 0xF149F2CA#32 : F .f32))

/-- The largest score of each row. -/
def maxV (s : FVec F S256x256 .f32) : FVec F S256x1 .f32 :=
  shapeCast S256x1 (multiReduction .maximumf [1] S256 s 0xFF800000#32 reduces_S256x256_S256 (.inl rfl) rfl) shapeCasts_S256_S256x1

/-- The exponentials of the scores less the maximum. -/
def expV (s : FVec F S256x256 .f32) (m : FVec F S256x1 .f32) : FVec F S256x256 .f32 :=
  exp (subf s (broadcastTo S256x256 m broadcasts_S256x1_S256x256))

/-- The sum of each row. -/
def sumV (p : FVec F S256x256 .f32) : FVec F S256x1 .f32 :=
  shapeCast S256x1 (multiReduction .add [1] S256 p 0x00000000#32 reduces_S256x256_S256 (.inl rfl) rfl) shapeCasts_S256_S256x1

/-- The weights times a block of values. -/
def accV (p : FVec F S256x256 .f32) (v : Vec F S1x256x64 .bf16) : FVec F S256x64 .f32 :=
  matmul dot_S256x256_S256x64_S256x64_1_0_0_1_n_n none (truncf .bf16 p bitsLt_bf16_f32) (shapeCast S256x64 v shapeCasts_S1x256x64_S256x64) (constant S256x64 .f32 0x00000000#32)

/-- The running maximum, the running sum and the running weighted values. -/
abbrev St (F : FTy → Type) := FVec F S256x1 .f32 × FVec F S256x1 .f32 × FVec F S256x64 .f32

/-- The state after the query's own block, whose scores are `s`. -/
def firstSt (s : FVec F S256x256 .f32) (v : Vec F S1x256x64 .bf16) : St F :=
  (maxV s, sumV (expV s (maxV s)), accV (expV s (maxV s)) v)

/-- The state after one more block, whose scores are `s`. -/
def nextSt (s : FVec F S256x256 .f32) (v : Vec F S1x256x64 .bf16) (a : St F) : St F :=
  let m := maximumf a.1 (maxV s)
  let c := exp (subf a.1 m)
  (m, addf (mulf c a.2.1) (sumV (expV s m)), addf (mulf (broadcastTo S256x64 c broadcasts_S256x1_S256x64) a.2.2) (accV (expV s m) v))

/-- The state after the blocks `0 … n-1`, from the state `a`. -/
def loopV (q : FVec F S256x64 .bf16) (sel : FVec F S256x16 .f32) (k v : ℕ → Vec F S1x256x64 .bf16) (a : St F) : ℕ → St F
  | 0 => a
  | n + 1 => nextSt (stepS (Scf.iv 0#32 1#32 n) q sel (k n)) (v n) (loopV q sel k v a n)

/-- A head's state after its own block and every block before it. -/
def stV (own : ℕ) (q0 : Vec F S1x256x64 .bf16) (km : Vec F S1x16x64 .f32) (k v : ℕ → Vec F S1x256x64 .bf16) : St F :=
  loopV (k0_pay38 q0) (selV (BitVec.ofNat 32 own) (k0_pay39 (BitVec.ofNat 32 own) laneV q0 km)) k v
    (firstSt (k0_pay61 rowV colV (k0_pay38 q0) (k own)) (v own)) own

/-- A head's result: the weighted values over the weights' sum. -/
def headV (own : ℕ) (q0 : Vec F S1x256x64 .bf16) (km : Vec F S1x16x64 .f32) (k v : ℕ → Vec F S1x256x64 .bf16) : FVec F S256x64 .f32 :=
  divf (stV own q0 km k v).2.2 (broadcastTo S256x64 (stV own q0 km k v).2.1 broadcasts_S256x1_S256x64)

theorem sel0_eq (i : grid0.Coords) (q0 : Vec F S1x256x64 .bf16) (km : Vec F S1x16x64 .f32) :
    k0_pay16 (BitVec.ofNat 32 (i 2).val) laneV (k0_pay3 i q0 km) laneV
      (k0_pay12 (k0_pay3 i q0 km) laneV (k0_pay8 (k0_pay3 i q0 km) laneV (k0_pay4 i q0 km) (k0_pay6 i q0 km) (k0_pay7 i q0 km))
        (k0_pay10 (k0_pay3 i q0 km)) (k0_pay11 (k0_pay3 i q0 km) laneV))
      (k0_pay14 (k0_pay3 i q0 km)) (k0_pay15 (k0_pay3 i q0 km) laneV)
      = selV (BitVec.ofNat 32 (i 2).val) (k0_pay39 (BitVec.ofNat 32 (i 2).val) laneV q0 km) := rfl

theorem step0_eq (i : grid0.Coords) (q : FVec F S256x64 .bf16) (sel : FVec F S256x16 .f32) (n : Fin (k0_t1_loop i).trips)
    (a : St F) (k v : Vec F S1x256x64 .bf16) :
    (k0_pay26 i laneV q sel n a.1 k, k0_pay29 i laneV q sel n a.1 a.2.1 k, k0_pay30 i laneV q sel n a.1 a.2.2 k v)
      = nextSt (stepS (Scf.iv 0#32 1#32 n) q sel k) v a := rfl

theorem first0_eq (q0 : Vec F S1x256x64 .bf16) (k v : Vec F S1x256x64 .bf16) :
    (k0_pay21 (k0_pay17 rowV colV) (k0_pay18 (k0_pay2 q0) k) k0_pay19, k0_pay23 (k0_pay17 rowV colV) (k0_pay18 (k0_pay2 q0) k) k0_pay19,
      k0_pay24 (k0_pay17 rowV colV) (k0_pay18 (k0_pay2 q0) k) k0_pay19 v)
      = firstSt (k0_pay61 rowV colV (k0_pay38 q0) k) v := rfl

theorem first1_eq (q : FVec F S256x64 .bf16) (k v : Vec F S1x256x64 .bf16) :
    (k0_pay62 rowV colV q k, k0_pay64 rowV colV q k, k0_pay65 rowV colV q k v) = firstSt (k0_pay61 rowV colV q k) v := rfl

theorem step1_eq (i : grid0.Coords) (own : BitVec 32) (q : FVec F S256x64 .bf16) (r : IVec S256x16 32) (x y z : IVec S256x16 1)
    (n : Fin (k0_t3_loop i).trips) (a : St F) (k v : Vec F S1x256x64 .bf16) :
    (k0_pay67 i own laneV q r x y z n a.1 k, k0_pay70 i own laneV q r x y z n a.1 a.2.1 k, k0_pay71 i own laneV q r x y z n a.1 a.2.2 k v)
      = nextSt (stepS (Scf.iv 0#32 1#32 n) q (k0_pay60 own laneV r x y z) k) v a := rfl

theorem sel1_eq (own : BitVec 32) (q0 : Vec F S1x256x64 .bf16) (km : Vec F S1x16x64 .f32) :
    k0_pay60 (F := F) own laneV
      (k0_pay55 (k0_pay39 own laneV q0 km) laneV
        (k0_pay50 (k0_pay39 own laneV q0 km) laneV
          (k0_pay45 (k0_pay39 own laneV q0 km) laneV k0_pay40 (k0_pay42 own laneV q0 km) (k0_pay43 own laneV q0 km) k0_pay44)
          (k0_pay47 (k0_pay39 own laneV q0 km)) (k0_pay48 (k0_pay39 own laneV q0 km)) (k0_pay49 laneV))
        (k0_pay52 (k0_pay39 own laneV q0 km)) (k0_pay53 (k0_pay39 own laneV q0 km)) (k0_pay54 laneV))
      (k0_pay57 (k0_pay39 own laneV q0 km)) (k0_pay58 (k0_pay39 own laneV q0 km)) (k0_pay59 laneV)
      = selV own (k0_pay39 own laneV q0 km) := rfl

end Cert.Moba

end
-- ==== Proof.Moba.Rank.lean ====
module

public import Idealize.ShloMosaic.Lib.SortPrefix
public import Idealize.ShloMosaic.PureOps.Ideal.Laws

@[expose] public section

/-! The position of an element in a stable descending sort is the number of elements that beat it: those with a larger
key, and those with the same key and an earlier position. -/

namespace Cert.Moba

open Idealize.ShloMosaic

/-- `i` beats `n`: its key is larger, or equal at an earlier position. -/
noncomputable def beats {N : ℕ} (g : Fin N → EReal) (i n : Fin N) : Bool :=
  decide (g n < g i) || (decide (g i = g n) && decide (i < n))

theorem stableSort_refine {N : ℕ} (g : Fin N → EReal) (l : List (Fin N)) (hl : l.Pairwise (· < ·)) :
    stableSort (fun i n => decide (g n < g i)) l = stableSort (beats g) l := by
  induction l with
  | nil => rfl
  | cons a l ih =>
    rw [List.pairwise_cons] at hl
    unfold stableSort
    rw [ih hl.2]
    refine insertBefore_congr _ _ a _ fun b hb => ?_
    have hab : a < b := hl.1 b ((perm_stableSort _ _).mem_iff.mp hb)
    simp [beats, not_lt_of_gt hab]

theorem sortedFrom_refine {N : ℕ} (g : Fin N → EReal) :
    sortedFrom (fun i n => decide (g n < g i)) = sortedFrom (beats g) := by
  have h : sortPositions N (fun i n => decide (g n < g i)) = sortPositions N (beats g) :=
    stableSort_refine g _ (List.pairwise_lt_finRange N)
  funext k
  unfold sortedFrom
  rw [List.get_of_eq h]
  rfl

theorem beats_total {N : ℕ} (g : Fin N → EReal) : StrictTotalBefore (beats g) := by
  have := StrictTotalBefore.of_key_then_position (fun a b : EReal => decide (b < a)) g (by simp)
    (by simp only [decide_eq_true_eq]; exact fun a b c h h' => lt_trans h' h)
    (by simp only [decide_eq_true_eq]; exact fun a b => by
          rcases lt_trichotomy a b with h | h | h
          · exact Or.inr (Or.inr h)
          · exact Or.inr (Or.inl h)
          · exact Or.inl h)
  exact this

/-- The number of elements that beat `n`. -/
noncomputable def rank {N : ℕ} (g : Fin N → EReal) (n : Fin N) : ℕ := (Finset.univ.filter fun i => beats g i n = true).card

theorem rank_sortedFrom {N : ℕ} (g : Fin N → EReal) (k : Fin N) : rank g (sortedFrom (beats g) k) = k.val := by
  have hB := beats_total g
  have h : (Finset.univ.filter fun i => beats g i (sortedFrom (beats g) k) = true)
      = (Finset.univ.filter fun j : Fin N => j < k).map ⟨sortedFrom (beats g), sortedFrom_injective _⟩ := by
    ext i
    obtain ⟨j, rfl⟩ := sortedFrom_surjective (beats g) i
    simp only [Finset.mem_filter, Finset.mem_univ, true_and, Finset.mem_map, Function.Embedding.coeFn_mk]
    have hno := sortedFrom_noInversion (beats g) (beats g) (fun a b h => hB.asymm a b h) (fun _ _ h => h) hB.negTrans
    constructor
    · intro hb
      refine ⟨j, ?_, rfl⟩
      rcases lt_trichotomy j k with h | h | h
      · exact h
      · subst h; rw [hB.irrefl] at hb; exact absurd hb (by decide)
      · rw [hno k j h] at hb; exact absurd hb (by decide)
    · rintro ⟨j', hj', he⟩
      have := sortedFrom_injective _ he
      subst this
      rcases hB.total (sortedFrom (beats g) j') (sortedFrom (beats g) k)
        (fun he => (ne_of_lt hj') (sortedFrom_injective _ he)) with h | h
      · exact h
      · rw [hno j' k hj'] at h; exact absurd h (by decide)
  unfold rank
  rw [h, Finset.card_map]
  have : (Finset.univ.filter fun j : Fin N => j < k) = Finset.Iio k := by ext j; simp
  rw [this, Fin.card_Iio]

/-- `n` is among the first `K` of the stable descending sort exactly if fewer than `K` elements beat it. -/
theorem mem_first_iff {N : ℕ} (g : Fin N → EReal) (K : ℕ) (n : Fin N) :
    (∃ k : Fin N, k.val < K ∧ sortedFrom (fun i n => decide (g n < g i)) k = n) ↔ rank g n < K := by
  rw [sortedFrom_refine]
  constructor
  · rintro ⟨k, hk, rfl⟩
    rw [rank_sortedFrom]; exact hk
  · intro h
    obtain ⟨k, rfl⟩ := sortedFrom_surjective (beats g) n
    rw [rank_sortedFrom] at h
    exact ⟨k, h, rfl⟩

end Cert.Moba
-- ==== Proof.Moba.RowVal.lean ====
module

public import proofs.«01_k».proof.Proof.Moba.Vec
public import proofs.«01_k».proof.Proof.Moba.Rank
public import Idealize.ShloMosaic.Lib.Pipeline.ValueKit.Tiles
public import Idealize.ShloMosaic.Lib.ValueIdx
public import Idealize.ShloMosaic.Lib.MatmulPlain
public import Idealize.ShloMosaic.PureOps.Ideal.Laws

@[expose] public section

set_option maxRecDepth 16384

/-! The body's vector operations read entry by entry over the extended reals. -/

noncomputable section

namespace Cert.Moba

open Cert.KernelIdeal Cert.KernelIdeal.Gen Idealize.ShloMosaic Idealize.ShloMosaic.TcCoe Idealize.SL.Sem

/-- The bit of a proposition. -/
abbrev bit (p : Prop) [Decidable p] : BitVec 1 := BitVec.ofBool (decide p)

theorem mask_eq : (Named.named κ "mask" 0xF149F2CA#32 : Ideal .f32) = (⊥ : EReal) :=
  IdealRules.named_const.ideal_named_scalar _ _ _ _ rfl

theorem ninf_eq : (Ideal.ofBits .f32 0xFF800000#32 : EReal) = ⊥ := by simp [Ideal.ofBits, Ideal.ieee]

theorem half_eq : (Ideal.ofBits .f32 0x3F000000#32 : EReal) = ((1 / 2 : ℝ) : EReal) := by
  simp [Ideal.ofBits, Ideal.ieee]
  rw [← EReal.coe_mul]
  norm_num

theorem col_apply (x : FVec Ideal S256x1 .f32) (r : Fin 256) (n : Fin 256) :
    broadcastTo S256x256 x broadcasts_S256x1_S256x256 (ValueIdx.ix2 r n) = x (ValueIdx.ix2 r (0 : Fin 1)) :=
  broadcastTo_apply x _ (ValueIdx.ix2 r n) (ValueIdx.ix2 r (0 : Fin 1)) fun a => by
    match a with
    | ⟨0, _⟩ => rfl
    | ⟨1, _⟩ => rfl

theorem col64_apply (x : FVec Ideal S256x1 .f32) (r : Fin 256) (n : Fin 64) :
    broadcastTo S256x64 x broadcasts_S256x1_S256x64 (ValueIdx.ix2 r n) = x (ValueIdx.ix2 r (0 : Fin 1)) :=
  broadcastTo_apply x _ (ValueIdx.ix2 r n) (ValueIdx.ix2 r (0 : Fin 1)) fun a => by
    match a with
    | ⟨0, _⟩ => rfl
    | ⟨1, _⟩ => rfl

theorem col16_apply (x : FVec Ideal S256x1 .f32) (r : Fin 256) (n : Fin 16) :
    broadcastTo S256x16 x broadcasts_S256x1_S256x16 (ValueIdx.ix2 r n) = x (ValueIdx.ix2 r (0 : Fin 1)) :=
  broadcastTo_apply x _ (ValueIdx.ix2 r n) (ValueIdx.ix2 r (0 : Fin 1)) fun a => by
    match a with
    | ⟨0, _⟩ => rfl
    | ⟨1, _⟩ => rfl

theorem block_apply (x : Vec Ideal S1x256x64 .bf16) (r : Fin 256) (d : Fin 64) :
    shapeCast S256x64 x shapeCasts_S1x256x64_S256x64 (ValueIdx.ix2 r d) = x (ValueIdx.ix3 (0 : Fin 1) r d) := by
  refine shapeCast_apply x _ (ValueIdx.ix2 r d) (ValueIdx.ix3 (0 : Fin 1) r d) ?_
  rewrite [Shape.rowMajor_val_three, Shape.rowMajor_val_two]
  show (0 * 256 + r.val) * 64 + d.val = r.val * 64 + d.val
  omega

theorem means_apply (x : Vec Ideal S1x16x64 .f32) (r : Fin 16) (d : Fin 64) :
    shapeCast S16x64 x shapeCasts_S1x16x64_S16x64 (ValueIdx.ix2 r d) = x (ValueIdx.ix3 (0 : Fin 1) r d) := by
  refine shapeCast_apply x _ (ValueIdx.ix2 r d) (ValueIdx.ix3 (0 : Fin 1) r d) ?_
  rewrite [Shape.rowMajor_val_three, Shape.rowMajor_val_two]
  show (0 * 16 + r.val) * 64 + d.val = r.val * 64 + d.val
  omega

theorem keep_apply {α : Type} (x : S256.Idx → α) (r : Fin 256) :
    shapeCast S256x1 x shapeCasts_S256_S256x1 (ValueIdx.ix2 r (0 : Fin 1)) = x (ValueIdx.ix1 r) := by
  refine shapeCast_apply x _ (ValueIdx.ix2 r (0 : Fin 1)) (ValueIdx.ix1 r) ?_
  rewrite [Shape.rowMajor_val_two]
  show _ = r.val * 1 + 0
  rw [Shape.rowMajor_val_one]
  show r.val = _
  omega

theorem scores_apply (a b : FVec Ideal S256x64 .bf16) (r c : Fin 256) :
    matmul dot_S256x64_S256x64_S256x256_1_1_0_0_n_n none a b (constant S256x256 .f32 0x00000000#32) (ValueIdx.ix2 r c)
      = ∑ d : Fin 64, a (ValueIdx.ix2 r d) * b (ValueIdx.ix2 c d) := by
  show FloatOps.matmul (DotDims.transposedRhs 256 64 256) none a b _ (ValueIdx.ix2 r c) = _
  rw [Ideal.matmul_transposedRhs_apply]
  show Ideal.ofBits .f32 0x00000000#32 + _ = _
  rw [Ideal.ofBits_zero_f32, zero_add]

theorem gates_apply (a : FVec Ideal S256x64 .f32) (b : FVec Ideal S16x64 .f32) (r : Fin 256) (c : Fin 16) :
    matmul dot_S256x64_S16x64_S256x16_1_1_0_0_n_n none a b (constant S256x16 .f32 0x00000000#32) (ValueIdx.ix2 r c)
      = ∑ d : Fin 64, a (ValueIdx.ix2 r d) * b (ValueIdx.ix2 c d) := by
  show FloatOps.matmul (DotDims.transposedRhs 256 64 16) none a b _ (ValueIdx.ix2 r c) = _
  rw [Ideal.matmul_transposedRhs_apply]
  show Ideal.ofBits .f32 0x00000000#32 + _ = _
  rw [Ideal.ofBits_zero_f32, zero_add]

theorem values_apply (a : FVec Ideal S256x256 .bf16) (b : FVec Ideal S256x64 .bf16) (r : Fin 256) (e : Fin 64) :
    matmul dot_S256x256_S256x64_S256x64_1_0_0_1_n_n none a b (constant S256x64 .f32 0x00000000#32) (ValueIdx.ix2 r e)
      = ∑ c : Fin 256, a (ValueIdx.ix2 r c) * b (ValueIdx.ix2 c e) := by
  show FloatOps.matmul (DotDims.plain 256 256 64) none a b _ (ValueIdx.ix2 r e) = _
  rw [Ideal.matmul_plain_apply]
  show Ideal.ofBits .f32 0x00000000#32 + _ = _
  rw [Ideal.ofBits_zero_f32, zero_add]

theorem fold_max {n : ℕ} (f : Fin n → EReal) : (Finset.univ : Finset (Fin n)).fold max ⊥ f = Finset.univ.sup f := rfl

theorem maxV_apply (s : FVec Ideal S256x256 .f32) (r : Fin 256) :
    maxV s (ValueIdx.ix2 r (0 : Fin 1)) = Finset.univ.sup fun c : Fin 256 => (s (ValueIdx.ix2 r c) : EReal) := by
  refine (keep_apply _ r).trans ?_
  refine (Ideal.multiReduction_maximumf_single s _ reduces_S256x256_S256 _ _ (ValueIdx.ix1 r)).trans ?_
  show Finset.fold max (Ideal.ofBits .f32 0xFF800000#32 : EReal) _ _ = _
  rw [ninf_eq]
  refine (fold_max _).trans (Finset.sup_congr rfl fun c _ => congrArg s (funext fun a => ?_))
  match a with
  | ⟨0, _⟩ => rfl
  | ⟨1, _⟩ => rfl

theorem sumV_apply (s : FVec Ideal S256x256 .f32) (r : Fin 256) :
    sumV s (ValueIdx.ix2 r (0 : Fin 1)) = ∑ c : Fin 256, (s (ValueIdx.ix2 r c) : EReal) := by
  refine (keep_apply _ r).trans ?_
  refine (Ideal.multiReduction_add_single s _ reduces_S256x256_S256 _ _ (ValueIdx.ix1 r)).trans ?_
  refine Finset.sum_congr rfl fun c _ => congrArg s (funext fun a => ?_)
  match a with
  | ⟨0, _⟩ => rfl
  | ⟨1, _⟩ => rfl

theorem expV_apply (s : FVec Ideal S256x256 .f32) (m : FVec Ideal S256x1 .f32) (r c : Fin 256) :
    expV s m (ValueIdx.ix2 r c) = Ideal.exp ((s (ValueIdx.ix2 r c) : EReal) - m (ValueIdx.ix2 r (0 : Fin 1))) := by
  show Ideal.exp ((s (ValueIdx.ix2 r c) : EReal) - broadcastTo S256x256 m broadcasts_S256x1_S256x256 (ValueIdx.ix2 r c)) = _
  rw [col_apply]

theorem accV_apply (p : FVec Ideal S256x256 .f32) (v : Vec Ideal S1x256x64 .bf16) (r : Fin 256) (e : Fin 64) :
    accV p v (ValueIdx.ix2 r e) = ∑ c : Fin 256, (p (ValueIdx.ix2 r c) : EReal) * v (ValueIdx.ix3 (0 : Fin 1) c e) := by
  refine (values_apply _ _ r e).trans (Finset.sum_congr rfl fun c _ => ?_)
  rw [block_apply]
  rfl

theorem lane_apply (r : Fin 256) (n : Fin 16) : laneV (ValueIdx.ix2 r n) = BitVec.ofNat 32 n.val := by
  show BitVec.ofNat 32 (0 * _ + _) = _
  rw [Nat.zero_mul, Nat.zero_add]
theorem row_apply (r c : Fin 256) : rowV (ValueIdx.ix2 r c) = BitVec.ofNat 32 r.val := by
  show BitVec.ofNat 32 (0 * _ + _) = _
  rw [Nat.zero_mul, Nat.zero_add]
theorem column_apply (r c : Fin 256) : colV (ValueIdx.ix2 r c) = BitVec.ofNat 32 c.val := by
  show BitVec.ofNat 32 (0 * _ + _) = _
  rw [Nat.zero_mul, Nat.zero_add]

theorem toInt_small (a : ℕ) (ha : a < 2 ^ 31) : (BitVec.ofNat 32 a).toInt = a := by
  have h : (BitVec.ofNat 32 a).toNat = a := by rw [BitVec.toNat_ofNat]; omega
  rw [BitVec.toInt_eq_toNat_of_lt (by omega), h]

theorem slt_small (a b : ℕ) (ha : a < 2 ^ 31) (hb : b < 2 ^ 31) : (BitVec.ofNat 32 a).slt (BitVec.ofNat 32 b) = decide (a < b) := by
  rw [BitVec.slt_eq_decide, toInt_small a ha, toInt_small b hb]
  simp

theorem sle_small (a b : ℕ) (ha : a < 2 ^ 31) (hb : b < 2 ^ 31) : (BitVec.ofNat 32 a).sle (BitVec.ofNat 32 b) = decide (a ≤ b) := by
  rw [BitVec.sle_eq_decide, toInt_small a ha, toInt_small b hb]
  simp

theorem gate_apply (own : ℕ) (ho : own < 16) (q0 : Vec Ideal S1x256x64 .bf16) (km : Vec Ideal S1x16x64 .f32) (r : Fin 256) (n : Fin 16) :
    (k0_pay39 (BitVec.ofNat 32 own) laneV q0 km (ValueIdx.ix2 r n) : EReal)
      = if n.val < own then ∑ d : Fin 64, (q0 (ValueIdx.ix3 (0 : Fin 1) r d) : EReal) * km (ValueIdx.ix3 (0 : Fin 1) n d) else ⊥ := by
  unfold k0_pay39 k0_pay38
  show (if BitVec.ofBool ((laneV (ValueIdx.ix2 r n)).slt (BitVec.ofNat 32 own)) = 1#1 then _ else _) = _
  rw [lane_apply, slt_small _ _ (by omega) (by omega)]
  by_cases h : n.val < own
  · simp only [h, decide_true, BitVec.ofBool_true, if_true]
    refine (gates_apply _ _ r n).trans (Finset.sum_congr rfl fun d _ => ?_)
    rw [means_apply]
    refine congrArg (· * _) ?_
    exact block_apply q0 r d
  · simp only [h, decide_false, BitVec.ofBool_false, if_false]
    exact ninf_eq

theorem own_apply (q0 : Vec Ideal S1x256x64 .bf16) (k : Vec Ideal S1x256x64 .bf16) (r c : Fin 256) :
    (k0_pay61 rowV colV (k0_pay38 q0) k (ValueIdx.ix2 r c) : EReal)
      = if c ≤ r then ∑ d : Fin 64, (q0 (ValueIdx.ix3 (0 : Fin 1) r d) : EReal) * k (ValueIdx.ix3 (0 : Fin 1) c d) else ⊥ := by
  unfold k0_pay61 k0_pay38
  show (if BitVec.ofBool ((colV (ValueIdx.ix2 r c)).sle (rowV (ValueIdx.ix2 r c))) = 1#1 then _ else _) = _
  rw [column_apply, row_apply, sle_small _ _ (by omega) (by omega)]
  by_cases h : c.val ≤ r.val
  · simp only [h, decide_true, BitVec.ofBool_true, if_true, Fin.le_def]
    refine (scores_apply _ _ r c).trans (Finset.sum_congr rfl fun d _ => ?_)
    rw [block_apply, block_apply]
  · simp only [h, decide_false, BitVec.ofBool_false, if_false, Fin.le_def]
    exact mask_eq

/-- A row of block scores. -/
abbrev rowOf (g : FVec Ideal S256x16 .f32) (r : Fin 256) : Fin 16 → EReal := fun n => g (ValueIdx.ix2 r n)

theorem beatV_apply (i : Fin 16) (col : FVec Ideal S256x1 .f32) (g : FVec Ideal S256x16 .f32) (r : Fin 256) (n : Fin 16)
    (hc : col (ValueIdx.ix2 r (0 : Fin 1)) = g (ValueIdx.ix2 r i)) :
    beatV (BitVec.ofNat 32 i.val) col g (ValueIdx.ix2 r n) = BitVec.ofNat 32 (if beats (rowOf g r) i n = true then 1 else 0) := by
  show BitVec.setWidth 32 (BitVec.ofBool (decide ((g (ValueIdx.ix2 r n) : EReal) < broadcastTo S256x16 col broadcasts_S256x1_S256x16 (ValueIdx.ix2 r n)))
    ||| (BitVec.ofBool (decide ((broadcastTo S256x16 col broadcasts_S256x1_S256x16 (ValueIdx.ix2 r n) : EReal) = g (ValueIdx.ix2 r n)))
      &&& BitVec.ofBool ((BitVec.ofNat 32 i.val).slt (laneV (ValueIdx.ix2 r n))))) = _
  rw [col16_apply, lane_apply, slt_small _ _ (by omega) (by omega), hc]
  unfold beats
  show BitVec.setWidth 32 (BitVec.ofBool (decide (rowOf g r n < rowOf g r i)) ||| (BitVec.ofBool (decide (rowOf g r i = rowOf g r n)) &&& BitVec.ofBool (decide (i < n)))) = _
  generalize decide (rowOf g r n < rowOf g r i) = x
  generalize decide (rowOf g r i = rowOf g r n) = y
  generalize decide (i < n) = z
  revert x y z
  decide

theorem rankV_apply (g : FVec Ideal S256x16 .f32) (r : Fin 256) (n : Fin 16) :
    rankV g (ValueIdx.ix2 r n) = BitVec.ofNat 32 (rank (rowOf g r) n) := by
  have hb : ∀ (i : Fin 16) (h : S256x16.Slices ![0, i.val] S256x1),
      beatV (BitVec.ofNat 32 i.val) (extractStridedSlice S256x1 ![0, i.val] g h) g (ValueIdx.ix2 r n)
        = BitVec.ofNat 32 (if beats (rowOf g r) i n = true then 1 else 0) := fun i h =>
    beatV_apply i _ g r n (extractStridedSlice_apply _ g h _ (ValueIdx.ix2 r i) fun a => by
      match a with
      | ⟨0, _⟩ => show r.val = 0 + r.val; omega
      | ⟨1, _⟩ => show i.val = i.val + 0; omega)
  have hr : rank (rowOf g r) n = ∑ i : Fin 16, if beats (rowOf g r) i n = true then 1 else 0 := by
    unfold rank
    rw [Finset.card_filter]
  rw [hr]
  simp only [Fin.sum_univ_castSucc, Fin.sum_univ_zero, BitVec.ofNat_add]
  let add32 : BitVec 32 → BitVec 32 → BitVec 32 := fun a b => a + b
  exact congrArg₂ add32 (congrArg₂ add32 (congrArg₂ add32 (congrArg₂ add32 (congrArg₂ add32 (congrArg₂ add32 (congrArg₂ add32 (congrArg₂ add32 (congrArg₂ add32 (congrArg₂ add32 (congrArg₂ add32 (congrArg₂ add32 (congrArg₂ add32 (congrArg₂ add32 (congrArg₂ add32 (congrArg₂ add32 (rfl)
    (hb 0 slices_S256x16_o0_0_S256x1))
    (hb 1 slices_S256x16_o0_1_S256x1))
    (hb 2 slices_S256x16_o0_2_S256x1))
    (hb 3 slices_S256x16_o0_3_S256x1))
    (hb 4 slices_S256x16_o0_4_S256x1))
    (hb 5 slices_S256x16_o0_5_S256x1))
    (hb 6 slices_S256x16_o0_6_S256x1))
    (hb 7 slices_S256x16_o0_7_S256x1))
    (hb 8 slices_S256x16_o0_8_S256x1))
    (hb 9 slices_S256x16_o0_9_S256x1))
    (hb 10 slices_S256x16_o0_10_S256x1))
    (hb 11 slices_S256x16_o0_11_S256x1))
    (hb 12 slices_S256x16_o0_12_S256x1))
    (hb 13 slices_S256x16_o0_13_S256x1))
    (hb 14 slices_S256x16_o0_14_S256x1))
    (hb 15 slices_S256x16_o0_15_S256x1)

theorem selV_apply (own : ℕ) (ho : own < 16) (g : FVec Ideal S256x16 .f32) (r : Fin 256) (n : Fin 16) :
    (selV (BitVec.ofNat 32 own) g (ValueIdx.ix2 r n) : EReal) = if n.val < own ∧ rank (rowOf g r) n < 3 then 1 else 0 := by
  have hr : rank (rowOf g r) n ≤ 16 := by
    unfold rank
    exact (Finset.card_le_univ _).trans (by simp)
  show ((((BitVec.setWidth 32 (BitVec.ofBool ((rankV g (ValueIdx.ix2 r n)).slt (BitVec.ofNat 32 3))
    &&& BitVec.ofBool ((laneV (ValueIdx.ix2 r n)).slt (BitVec.ofNat 32 own)))).toInt : ℝ)) : EReal) = _
  rw [rankV_apply, lane_apply, slt_small _ _ (by omega) (by omega), slt_small _ _ (by omega) (by omega)]
  by_cases h1 : n.val < own <;> by_cases h2 : rank (rowOf g r) n < 3 <;> simp [h1, h2]

theorem stepS_apply (n : Fin 16) (q0 : Vec Ideal S1x256x64 .bf16) (sel : FVec Ideal S256x16 .f32) (p : Prop) [Decidable p]
    (k : Vec Ideal S1x256x64 .bf16) (r c : Fin 256) (hs : (sel (ValueIdx.ix2 r n) : EReal) = if p then 1 else 0) :
    (stepS (Scf.iv 0#32 1#32 n.val) (k0_pay38 q0) sel k (ValueIdx.ix2 r c) : EReal)
      = if p then ∑ d : Fin 64, (q0 (ValueIdx.ix3 (0 : Fin 1) r d) : EReal) * k (ValueIdx.ix3 (0 : Fin 1) c d) else ⊥ := by
  have hiv : Scf.iv 0#32 1#32 n.val = BitVec.ofNat 32 n.val := (by decide : ∀ m : Fin 16, Scf.iv 0#32 1#32 m.val = BitVec.ofNat 32 m.val) n
  have hsum : (multiReduction .add [1] S256 (select (cmpi .eq laneV (broadcast S256x16 (Scf.iv 0#32 1#32 n.val))) sel (broadcast S256x16 (Scalar.ofBits .f32 0x00000000#32)))
      0x00000000#32 reduces_S256x16_S256 (.inl rfl) rfl (ValueIdx.ix1 r) : EReal) = sel (ValueIdx.ix2 r n) := by
    refine (Ideal.multiReduction_add_single _ _ reduces_S256x16_S256 _ _ (ValueIdx.ix1 r)).trans ?_
    have hl : ∀ m : Fin 16, reduces_S256x16_S256.lift (ValueIdx.ix1 r) m = ValueIdx.ix2 r m := fun m => funext fun a => by
      match a with
      | ⟨0, _⟩ => rfl
      | ⟨1, _⟩ => rfl
    refine (Finset.sum_congr rfl fun m _ => congrArg _ (hl m)).trans ?_
    refine (Finset.sum_eq_single n (fun m _ hm => ?_) (fun h => absurd (Finset.mem_univ _) h)).trans ?_
    · have hne : ¬ BitVec.ofNat 32 m.val = BitVec.ofNat 32 n.val := fun h => hm ((by decide : ∀ a b : Fin 16, BitVec.ofNat 32 a.val = BitVec.ofNat 32 b.val → a = b) m n h)
      show (if BitVec.ofBool (laneV (ValueIdx.ix2 r m) == Scf.iv 0#32 1#32 n.val) = 1#1 then sel (ValueIdx.ix2 r m) else Ideal.ofBits .f32 0x00000000#32) = (0 : EReal)
      rw [lane_apply, hiv, beq_eq_false_iff_ne.mpr hne, if_neg (by decide), Ideal.ofBits_zero_f32]
    · show (if BitVec.ofBool (laneV (ValueIdx.ix2 r n) == Scf.iv 0#32 1#32 n.val) = 1#1 then sel (ValueIdx.ix2 r n) else Ideal.ofBits .f32 0x00000000#32) = (sel (ValueIdx.ix2 r n) : EReal)
      rw [lane_apply, hiv, beq_self_eq_true, if_pos (by decide)]
  have hch : broadcastTo S256x256 (shapeCast S256x1 (cmpf .ogt (shapeCast S256x1 (multiReduction .add [1] S256 (select (cmpi .eq laneV (broadcast S256x16 (Scf.iv 0#32 1#32 n.val))) sel (broadcast S256x16 (Scalar.ofBits .f32 0x00000000#32)))
      0x00000000#32 reduces_S256x16_S256 (.inl rfl) rfl) shapeCasts_S256_S256x1) (broadcast S256x1 (Scalar.ofBits .f32 0x3F000000#32))) shapeCasts_S256x1_S256x1) broadcasts_S256x1_S256x256 (ValueIdx.ix2 r c) = bit p := by
    rw [shapeCast_self]
    refine (broadcastTo_apply _ _ (ValueIdx.ix2 r c) (ValueIdx.ix2 r (0 : Fin 1)) fun a => by
      match a with
      | ⟨0, _⟩ => rfl
      | ⟨1, _⟩ => rfl).trans ?_
    refine (congrArg (fun x => Ideal.cmp .ogt x (Ideal.ofBits .f32 0x3F000000#32)) ((keep_apply _ r).trans (hsum.trans hs))).trans ?_
    rw [half_eq]
    show BitVec.ofBool (decide (((1 / 2 : ℝ) : EReal) < if p then 1 else 0)) = _
    by_cases h : p
    · simp only [h, if_true, bit, decide_true]
      rw [decide_eq_true]
      exact_mod_cast (by norm_num : (1 / 2 : ℝ) < 1)
    · simp only [h, if_false, bit, decide_false]
      rw [decide_eq_false]
      exact not_lt.mpr (by exact_mod_cast (by norm_num : (0 : ℝ) ≤ 1 / 2))
  unfold stepS
  dsimp only
  refine (congrArg (fun b : BitVec 1 => if b = 1#1 then (_ : EReal) else _) hch).trans ?_
  by_cases h : p
  · simp only [h, bit, decide_true, BitVec.ofBool_true, if_true]
    refine (scores_apply _ _ r c).trans (Finset.sum_congr rfl fun d _ => ?_)
    unfold k0_pay38
    rw [block_apply, block_apply]
  · simp only [h, bit, decide_false, BitVec.ofBool_false, if_false]
    exact mask_eq

end Cert.Moba

end
-- ==== Proof.Moba.Online.lean ====
module

public import Idealize.ShloMosaic.PureOps.Ideal.Laws

@[expose] public section

/-! A softmax-weighted sum taken block by block with a running maximum, against the same sum taken at once. -/

noncomputable section

namespace Cert.Moba

open Idealize.ShloMosaic

/-- After the positions `P`: the maximum of the scores, the sum of the exponentials, the weighted sum. -/
structure Inv {ι : Type} [DecidableEq ι] (T V : ι → EReal) (P : Finset ι) (m l a : EReal) : Prop where
  top : m = P.sup T
  sum : l = ∑ p ∈ P, Ideal.exp (T p - m)
  acc : a = ∑ p ∈ P, Ideal.exp (T p - m) * V p

theorem mul_sum_of {ι : Type} (P : Finset ι) (c : EReal) (h0 : 0 ≤ c) (ht : c ≠ ⊤) (f : ι → EReal) :
    c * ∑ p ∈ P, f p = ∑ p ∈ P, c * f p := by
  classical
  induction P using Finset.induction with
  | empty => simp
  | insert a s ha ih => rw [Finset.sum_insert ha, Finset.sum_insert ha, EReal.left_distrib_of_nonneg_of_ne_top h0 ht, ih]

theorem coe_sum {ι : Type} (P : Finset ι) (f : ι → ℝ) : ((∑ p ∈ P, f p : ℝ) : EReal) = ∑ p ∈ P, (f p : EReal) := by
  classical
  induction P using Finset.induction with
  | empty => simp
  | insert a s ha ih => rw [Finset.sum_insert ha, Finset.sum_insert ha, EReal.coe_add, ih]

theorem sup_real {ι : Type} (P : Finset ι) (T : ι → EReal) (ht : ∀ p ∈ P, T p < ⊤) (hb : ∃ p ∈ P, ⊥ < T p) :
    ∃ x : ℝ, P.sup T = (x : EReal) := by
  have h1 : P.sup T < ⊤ := (Finset.sup_lt_iff (by simp)).mpr ht
  obtain ⟨p, hp, hpb⟩ := hb
  have h2 : ⊥ < P.sup T := lt_of_lt_of_le hpb (Finset.le_sup hp)
  exact ⟨(P.sup T).toReal, (EReal.coe_toReal (ne_of_lt h1) (ne_of_gt h2)).symm⟩

theorem exp_shift (t : EReal) (ht : t < ⊤) (m m' : ℝ) :
    Ideal.exp ((m : EReal) - m') * Ideal.exp (t - m) = Ideal.exp (t - m') := by
  induction t using EReal.rec with
  | bot => simp
  | top => exact absurd ht (lt_irrefl _)
  | coe x =>
    rw [← EReal.coe_sub, ← EReal.coe_sub, ← EReal.coe_sub, Ideal.exp_coe, Ideal.exp_coe, Ideal.exp_coe, ← EReal.coe_mul,
      ← Real.exp_add]
    congr 2; ring

theorem Inv.step {ι : Type} [DecidableEq ι] {T V : ι → EReal} {P Q : Finset ι} {m l a : EReal} (h : Inv T V P m l a)
    (hd : Disjoint P Q) (ht : ∀ p, T p < ⊤) (hb : ∃ p ∈ P, ⊥ < T p) {m' l' a' : EReal} (hm : m' = max m (Q.sup T))
    (hl : l' = Ideal.exp (m - m') * l + ∑ p ∈ Q, Ideal.exp (T p - m'))
    (ha : a' = Ideal.exp (m - m') * a + ∑ p ∈ Q, Ideal.exp (T p - m') * V p) : Inv T V (P ∪ Q) m' l' a' := by
  have hm' : m' = (P ∪ Q).sup T := by rw [hm, h.top, Finset.sup_union]
  obtain ⟨x, hx⟩ := sup_real P T (fun p _ => ht p) hb
  obtain ⟨y, hy⟩ := sup_real (P ∪ Q) T (fun p _ => ht p) (by
    obtain ⟨p, hp, hpb⟩ := hb
    exact ⟨p, Finset.mem_union_left _ hp, hpb⟩)
  have hmx : m = (x : EReal) := h.top.trans hx
  have hmy : m' = (y : EReal) := hm'.trans hy
  have hc : Ideal.exp (m - m') = ((Real.exp (x - y) : ℝ) : EReal) := by
    rw [hmx, hmy, ← EReal.coe_sub, Ideal.exp_coe]
  have h0 : 0 ≤ Ideal.exp (m - m') := by rw [hc]; exact_mod_cast (Real.exp_pos _).le
  have htop : Ideal.exp (m - m') ≠ ⊤ := by rw [hc]; exact EReal.coe_ne_top _
  have hs : ∀ p, Ideal.exp (m - m') * Ideal.exp (T p - m) = Ideal.exp (T p - m') := fun p => by
    rw [hmx, hmy]; exact exp_shift _ (ht p) _ _
  refine ⟨hm', ?_, ?_⟩
  · rw [hl, h.sum, mul_sum_of _ _ h0 htop, Finset.sum_union hd]
    exact congrArg₂ _ (Finset.sum_congr rfl fun p _ => hs p) rfl
  · rw [ha, h.acc, mul_sum_of _ _ h0 htop, Finset.sum_union hd]
    exact congrArg₂ _ (Finset.sum_congr rfl fun p _ => by rw [← mul_assoc, hs p]) rfl

/-- The quotient of the two sums over `P` is the softmax-weighted sum over all positions, when the rest is masked. -/
theorem Inv.quotient {ι : Type} [DecidableEq ι] [Fintype ι] {T V : ι → EReal} {P : Finset ι} {m l a : EReal}
    (h : Inv T V P m l a) (ht : ∀ p, T p < ⊤) (hb : ∃ p ∈ P, ⊥ < T p) (hrest : ∀ p, p ∉ P → T p = ⊥)
    (μ : ι → EReal) (hμ : ∀ p, T p = ⊥ ∨ μ p = 1) :
    Ideal.div a l = ∑ p, Ideal.div (Ideal.exp (T p - Finset.univ.sup T)) (∑ q, Ideal.exp (T q - Finset.univ.sup T))
      * μ p * V p := by
  obtain ⟨x, hx⟩ := sup_real P T (fun p _ => ht p) hb
  have hmx : m = (x : EReal) := h.top.trans hx
  have huniv : Finset.univ.sup T = m := by
    rw [h.top]
    refine le_antisymm (Finset.sup_le fun p _ => ?_) (Finset.sup_mono (Finset.subset_univ _))
    by_cases hp : p ∈ P
    · exact Finset.le_sup hp
    · rw [hrest p hp]; exact bot_le
  have hzero : ∀ p, T p = ⊥ → Ideal.exp (T p - m) = 0 := fun p hp => by rw [hp, hmx]; simp
  have hsum : ∀ f : ι → EReal, ∑ p ∈ P, Ideal.exp (T p - m) * f p = ∑ p, Ideal.exp (T p - m) * f p := fun f =>
    Finset.sum_subset (Finset.subset_univ _) fun p _ hp => by rw [hzero p (hrest p hp), zero_mul]
  have hl : l = ∑ p, Ideal.exp (T p - m) := by
    rw [h.sum]
    have := hsum fun _ => 1
    simpa using this
  have hreal : ∀ p, ∃ y : ℝ, 0 ≤ y ∧ Ideal.exp (T p - m) = (y : EReal) := fun p => by
    rw [hmx]
    have := ht p
    generalize T p = t at this
    induction t using EReal.rec with
    | bot => exact ⟨0, le_rfl, by simp⟩
    | top => exact absurd this (lt_irrefl _)
    | coe z => exact ⟨Real.exp (z - x), (Real.exp_pos _).le, by rw [← EReal.coe_sub, Ideal.exp_coe]⟩
  choose y hy0 hy using hreal
  have hlr : l = ((∑ p, y p : ℝ) : EReal) := by
    rw [hl]
    simp only [hy]
    exact (coe_sum _ _).symm
  have hpos : 0 < ∑ p, y p := by
    obtain ⟨p, hp, hpb⟩ := hb
    refine Finset.sum_pos' (fun p _ => hy0 p) ⟨p, Finset.mem_univ _, ?_⟩
    have h1 := hy p
    obtain ⟨z, hz⟩ : ∃ z : ℝ, T p = (z : EReal) :=
      ⟨(T p).toReal, (EReal.coe_toReal (ne_of_lt (ht p)) (ne_of_gt hpb)).symm⟩
    rw [hz, hmx, ← EReal.coe_sub, Ideal.exp_coe] at h1
    rw [← EReal.coe_injective h1]
    exact Real.exp_pos _
  have hdiv : ∀ u, Ideal.div u l = u * ((1 / ∑ p, y p : ℝ) : EReal) := fun u => by
    rw [hlr]; exact Ideal.div_coe hpos.ne' u
  have hc0 : (0 : EReal) ≤ ((1 / ∑ p, y p : ℝ) : EReal) := by exact_mod_cast (one_div_pos.mpr hpos).le
  rw [huniv, ← hl]
  simp only [hdiv]
  rw [h.acc, hsum V, mul_comm, mul_sum_of _ _ hc0 (EReal.coe_ne_top _)]
  refine Finset.sum_congr rfl fun p _ => ?_
  rcases hμ p with hp | hp
  · rw [hzero p hp]; simp
  · rw [hp, mul_one, ← mul_assoc]; congr 1; exact mul_comm _ _

end Cert.Moba

end
-- ==== Proof.Moba.Row.lean ====
module

public import proofs.«01_k».proof.Proof.Moba.RowVal
public import proofs.«01_k».proof.Proof.Moba.Online

@[expose] public section

set_option maxRecDepth 16384

/-! One row of a head's result is the softmax over all the row's scores, the unseen ones being −∞. -/

noncomputable section

namespace Cert.Moba

open Cert.KernelIdeal Cert.KernelIdeal.Gen Idealize.ShloMosaic Idealize.ShloMosaic.TcCoe Idealize.SL.Sem

/-- The keys: a block and a position in it. -/
abbrev Key := Fin 16 × Fin 256

/-- The keys of one block. -/
def blk (n : Fin 16) : Finset Key := Finset.univ.map ⟨fun c : Fin 256 => (n, c), fun a b h => (Prod.mk.inj h).2⟩

theorem mem_blk (n : Fin 16) (p : Key) : p ∈ blk n ↔ p.1 = n := by
  unfold blk
  rw [Finset.mem_map]
  constructor
  · rintro ⟨c, _, rfl⟩; rfl
  · rintro rfl; exact ⟨p.2, Finset.mem_univ _, rfl⟩

theorem sum_blk (n : Fin 16) (f : Key → EReal) : ∑ p ∈ blk n, f p = ∑ c : Fin 256, f (n, c) := Finset.sum_map _ _ _
theorem sup_blk (n : Fin 16) (f : Key → EReal) : (blk n).sup f = Finset.univ.sup fun c : Fin 256 => f (n, c) := Finset.sup_map _ _ _

/-- The own block and the blocks before `n`. -/
def upto (own : Fin 16) : ℕ → Finset Key
  | 0 => blk own
  | n + 1 => upto own n ∪ blk (Fin.ofNat 16 n)

theorem mem_upto (own : Fin 16) (p : Key) (n : ℕ) (hn : n ≤ 16) : p ∈ upto own n ↔ p.1 = own ∨ p.1.val < n := by
  induction n with
  | zero => show p ∈ blk own ↔ _; rw [mem_blk]; simp
  | succ n ih =>
    show p ∈ upto own n ∪ blk (Fin.ofNat 16 n) ↔ _
    rw [Finset.mem_union, ih (by omega), mem_blk, Fin.ext_iff, Fin.ext_iff]
    have : (Fin.ofNat 16 n).val = n := Nat.mod_eq_of_lt (by omega)
    rw [this]
    omega

/-- The values of one row's state at column `e`. -/
abbrev InvAt (T V : Key → EReal) (P : Finset Key) (s : St Ideal) (r : Fin 256) (e : Fin 64) : Prop :=
  Inv T V P (s.1 (ValueIdx.ix2 r (0 : Fin 1))) (s.2.1 (ValueIdx.ix2 r (0 : Fin 1))) (s.2.2 (ValueIdx.ix2 r e))

theorem first_inv (T V : Key → EReal) (own : Fin 16) (s : FVec Ideal S256x256 .f32) (v : Vec Ideal S1x256x64 .bf16) (r : Fin 256) (e : Fin 64)
    (hT : ∀ c, (s (ValueIdx.ix2 r c) : EReal) = T (own, c)) (hV : ∀ c, (v (ValueIdx.ix3 (0 : Fin 1) c e) : EReal) = V (own, c)) :
    InvAt T V (blk own) (firstSt s v) r e := by
  unfold InvAt firstSt
  dsimp only
  refine ⟨?_, ?_, ?_⟩
  · rw [maxV_apply, sup_blk]
    simp only [hT]
  · rw [sumV_apply, sum_blk]
    simp only [expV_apply, hT]
  · rw [accV_apply, sum_blk]
    simp only [expV_apply, hT, hV]

theorem next_inv (T V : Key → EReal) (P : Finset Key) (n : Fin 16) (s : FVec Ideal S256x256 .f32) (v : Vec Ideal S1x256x64 .bf16) (a : St Ideal)
    (r : Fin 256) (e : Fin 64) (h : InvAt T V P a r e) (hd : Disjoint P (blk n)) (ht : ∀ p, T p < ⊤) (hb : ∃ p ∈ P, ⊥ < T p)
    (hT : ∀ c, (s (ValueIdx.ix2 r c) : EReal) = T (n, c)) (hV : ∀ c, (v (ValueIdx.ix3 (0 : Fin 1) c e) : EReal) = V (n, c)) :
    InvAt T V (P ∪ blk n) (nextSt s v a) r e := by
  have hm : (nextSt s v a).1 (ValueIdx.ix2 r (0 : Fin 1)) = max (a.1 (ValueIdx.ix2 r (0 : Fin 1)) : EReal) ((blk n).sup T) := by
    show max (a.1 (ValueIdx.ix2 r (0 : Fin 1)) : EReal) (maxV s (ValueIdx.ix2 r (0 : Fin 1))) = _
    rw [maxV_apply, sup_blk]
    simp only [hT]
  refine h.step hd ht hb hm ?_ ?_
  · show Ideal.exp ((a.1 (ValueIdx.ix2 r (0 : Fin 1)) : EReal) - (nextSt s v a).1 (ValueIdx.ix2 r (0 : Fin 1))) * a.2.1 (ValueIdx.ix2 r (0 : Fin 1))
      + sumV (expV s (nextSt s v a).1) (ValueIdx.ix2 r (0 : Fin 1)) = _
    rw [sumV_apply, sum_blk]
    simp only [expV_apply, hT]
  · show (broadcastTo S256x64 (exp (subf a.1 (nextSt s v a).1)) broadcasts_S256x1_S256x64 (ValueIdx.ix2 r e) : EReal) * a.2.2 (ValueIdx.ix2 r e)
      + accV (expV s (nextSt s v a).1) v (ValueIdx.ix2 r e) = _
    rw [accV_apply, sum_blk, col64_apply]
    simp only [expV_apply, hT, hV]
    rfl

/-- The blocks' gates of one query. -/
def gates (own : ℕ) (Q : Fin 64 → EReal) (KM : Fin 16 → Fin 64 → EReal) (n : Fin 16) : EReal :=
  if n.val < own then ∑ d : Fin 64, Q d * KM n d else ⊥

/-- The keys row `r` of block `own` attends to. -/
def seen (own : ℕ) (r : Fin 256) (g : Fin 16 → EReal) (p : Key) : Prop :=
  (p.1.val < own ∧ rank g p.1 < 3) ∨ (p.1.val = own ∧ p.2 ≤ r)

instance (own : ℕ) (r : Fin 256) (g : Fin 16 → EReal) (p : Key) : Decidable (seen own r g p) := by unfold seen; infer_instance

/-- The masked scores of one query. -/
def score (own : ℕ) (r : Fin 256) (Q : Fin 64 → EReal) (KM : Fin 16 → Fin 64 → EReal) (K : Key → Fin 64 → EReal) (p : Key) : EReal :=
  if seen own r (gates own Q KM) p then ∑ d : Fin 64, Q d * K p d else ⊥

/-- A query's result at one column. -/
def attend (T μ V : Key → EReal) : EReal :=
  ∑ p, Ideal.div (Ideal.exp (T p - Finset.univ.sup T)) (∑ q, Ideal.exp (T q - Finset.univ.sup T)) * μ p * V p

theorem head_row (own : Fin 16) (q0 : Vec Ideal S1x256x64 .bf16) (km : Vec Ideal S1x16x64 .f32) (k v : ℕ → Vec Ideal S1x256x64 .bf16)
    (r : Fin 256) (e : Fin 64) (Q : Fin 64 → EReal) (KM : Fin 16 → Fin 64 → EReal) (K : Key → Fin 64 → EReal) (V μ : Key → EReal)
    (hQ : ∀ d, (q0 (ValueIdx.ix3 (0 : Fin 1) r d) : EReal) = Q d) (hKM : ∀ n d, (km (ValueIdx.ix3 (0 : Fin 1) n d) : EReal) = KM n d)
    (hK : ∀ n c d, (k n.val (ValueIdx.ix3 (0 : Fin 1) c d) : EReal) = K (n, c) d)
    (hV : ∀ n c, (v n.val (ValueIdx.ix3 (0 : Fin 1) c e) : EReal) = V (n, c))
    (ht : ∀ p, score own r Q KM K p < ⊤) (hb : ⊥ < score own r Q KM K (own, r))
    (hμ : ∀ p, score own r Q KM K p = ⊥ ∨ μ p = 1) :
    headV own q0 km k v (ValueIdx.ix2 r e) = attend (score own r Q KM K) μ V := by
  have hg : rowOf (k0_pay39 (BitVec.ofNat 32 own) laneV q0 km) r = gates own Q KM := funext fun n => by
    refine (gate_apply own own.isLt q0 km r n).trans ?_
    simp only [hQ, hKM]
    rfl
  have hinv : ∀ n : ℕ, n ≤ own.val → InvAt (score own r Q KM K) V (upto own n)
      (loopV (k0_pay38 q0) (selV (BitVec.ofNat 32 own) (k0_pay39 (BitVec.ofNat 32 own) laneV q0 km)) k v
        (firstSt (k0_pay61 rowV colV (k0_pay38 q0) (k own)) (v own)) n) r e := by
    intro n
    induction n with
    | zero =>
      intro _
      refine first_inv _ V own _ _ r e (fun c => ?_) (fun c => hV own c)
      refine (own_apply q0 _ r c).trans ?_
      simp only [hQ, hK]
      unfold score seen
      simp
    | succ n ih =>
      intro hn
      have hlt : n < 16 := by have := own.isLt; omega
      have hval : (Fin.ofNat 16 n).val = n := Nat.mod_eq_of_lt hlt
      refine next_inv _ V (upto own n) (Fin.ofNat 16 n) _ _ _ r e (ih (by omega)) ?_ ht ⟨(own, r), ?_, hb⟩ (fun c => ?_) (fun c => ?_)
      · rw [Finset.disjoint_left]
        intro p hp hq
        rw [mem_upto own p n (by omega)] at hp
        rw [mem_blk, Fin.ext_iff, hval] at hq
        rcases hp with h | h
        · rw [h] at hq; omega
        · omega
      · rw [mem_upto own _ n (by omega)]; exact Or.inl rfl
      · have hs := stepS_apply (Fin.ofNat 16 n) q0 (selV (BitVec.ofNat 32 own) (k0_pay39 (BitVec.ofNat 32 own) laneV q0 km))
          ((Fin.ofNat 16 n).val < own.val ∧ rank (gates own Q KM) (Fin.ofNat 16 n) < 3) (k n) r c
          (by rw [← hg]; exact selV_apply own own.isLt _ r _)
        rw [hval] at hs
        refine hs.trans ?_
        have hk := fun d => hK (Fin.ofNat 16 n) c d
        rw [hval] at hk
        simp only [hQ, hk]
        unfold score seen
        have hne : ¬ n = own.val := by omega
        simp [Nat.mod_eq_of_lt hlt, hne]
      · have hv := hV (Fin.ofNat 16 n) c
        rw [hval] at hv
        exact hv
  have hfin := hinv own.val le_rfl
  have hq := hfin.quotient ht ⟨(own, r), (mem_upto own _ _ (by omega)).mpr (Or.inl rfl), hb⟩ (fun p hp => ?_) μ hμ
  · refine Eq.trans ?_ hq
    show Ideal.div _ (broadcastTo S256x64 _ broadcasts_S256x1_S256x64 (ValueIdx.ix2 r e)) = _
    rw [col64_apply]
    rfl
  · rw [mem_upto own p _ (by omega)] at hp
    unfold score seen
    refine if_neg fun h => hp ?_
    rcases h with h | h
    · exact Or.inr h.1
    · exact Or.inl (Fin.ext h.1)

end Cert.Moba

end
-- ==== Proof.Moba.RefRow.lean ====
module

public import proofs.«01_k».proof.Proof.Gen.ReferenceIdeal.Read
public import proofs.«01_k».proof.Proof.Moba.Row
public import Idealize.ShloMosaic.Lib.KernelVsHost
public import Idealize.ShloMosaic.Lib.ValueIdx

@[expose] public section

set_option maxRecDepth 16384

/-! One row of the reference's attention, entry by entry: its blocks, gates, chosen blocks, mask and scores. -/

noncomputable section

namespace Cert.Moba

open Idealize.ShloMosaic Idealize.ShloMosaic.TcCoe Idealize.SL.Sem Cert.ReferenceIdeal Cert.ReferenceIdeal.Gen Cert.ReferenceIdeal.Read
open ValueIdx (ix1 ix2 ix3 ix4 ix5)

/-- Entry `d` of head `h` in a row of 512. -/
def lane (h : Fin 8) (d : Fin 64) : Fin 512 := ⟨64 * h.val + d.val, by omega⟩

/-- The sign of a number. -/
def sign32 (x : BitVec 32) : BitVec 32 := if x = 0 then 0 else if x.msb then -1 else 1

/-- The quotient of a row by the block size, as the reference writes a floored division. -/
def floored (x : BitVec 32) : BitVec 32 :=
  Scalar.select (IntOp.andi (IntOp.cmpi .ne (sign32 x) (sign32 256#32)) (IntOp.cmpi .ne (IntOp.remsi .host x 256#32) 0#32))
    (IntOp.subi (IntOp.divsi .host x 256#32) 1#32) (IntOp.divsi .host x 256#32)

theorem floored_row (r : Fin 4096) : floored (BitVec.ofNat 32 r.val) = BitVec.ofNat 32 (r.val / 256) := by
  have h : (List.range 4096).all (fun n => decide (floored (BitVec.ofNat 32 n) = BitVec.ofNat 32 (n / 256))) = true := by
    decide +kernel
  exact of_decide_eq_true (List.all_eq_true.mp h r.val (List.mem_range.mpr r.isLt))

theorem block_row (r : Fin 4096) : val_main_v12 (F := Ideal) (ix1 r) = BitVec.ofNat 32 (r.val / 256) := by
  refine Eq.trans ?_ (floored_row r)
  unfold floored
  simp only [val_main_v12_apply, val_main_call0_v11_apply, val_main_call0_v13_apply, val_main_call0_v2_apply, val_main_call0_v6_apply,
    val_main_call0_v10_apply, val_main_call0_v12_apply, val_main_call0_v8_apply, val_main_call0_v9_apply, val_main_call0_v1_apply,
    val_main_call0_v7_apply, val_main_call0_v5_apply, val_main_call0_c_apply, val_main_call0_c_0_apply, val_main_call0_v0_apply,
    val_main_c_apply, val_main_v11_apply]
  rfl

theorem before_row (r : Fin 4096) (n : Fin 16) : val_main_v18 (F := Ideal) (ix2 r n) = bit (n.val < r.val / 256) := by
  have e1 : val_main_v16 (F := Ideal) (ix2 r n) = BitVec.ofNat 32 n.val := by
    rw [val_main_v16_apply, val_main_v14_apply, val_main_v13_apply]
  have e2 : val_main_v17 (F := Ideal) (ix2 r n) = BitVec.ofNat 32 (r.val / 256) := by
    rw [val_main_v17_apply, val_main_v15_apply]
    exact (congrArg (val_main_v12 (F := Ideal)) (funext fun a => match a with | ⟨0, _⟩ => rfl)).trans (block_row r)
  rw [val_main_v18_apply, e1, e2]
  show BitVec.ofBool ((BitVec.ofNat 32 n.val).slt (BitVec.ofNat 32 (r.val / 256))) = _
  rw [slt_small _ _ (by omega) (by omega)]

theorem q_apply (x : S8x4096x512.Idx → EReal) (b h : Fin 8) (r : Fin 4096) (d : Fin 64) :
    (val_main_v2 (F := Ideal) x (ix4 b h r d) : EReal) = x (ix3 b r (lane h d)) := by
  rw [val_main_v2_apply, val_main_v1_apply, val_main_v0_apply]
  refine congrArg x (funext fun a => Fin.ext ?_)
  match a with
  | ⟨0, _⟩ => show (((b.val * 4096 + r.val) * 8 + h.val) * 64 + d.val) / 2097152 = b.val; omega
  | ⟨1, _⟩ => show (((b.val * 4096 + r.val) * 8 + h.val) * 64 + d.val) / 512 % 4096 = r.val; omega
  | ⟨2, _⟩ => show (((b.val * 4096 + r.val) * 8 + h.val) * 64 + d.val) % 512 = 64 * h.val + d.val; omega

theorem k_apply (x : S8x4096x512.Idx → EReal) (b h : Fin 8) (r : Fin 4096) (d : Fin 64) :
    (val_main_v5 (F := Ideal) x (ix4 b h r d) : EReal) = x (ix3 b r (lane h d)) := by
  rw [val_main_v5_apply, val_main_v4_apply, val_main_v3_apply]
  refine congrArg x (funext fun a => Fin.ext ?_)
  match a with
  | ⟨0, _⟩ => show (((b.val * 4096 + r.val) * 8 + h.val) * 64 + d.val) / 2097152 = b.val; omega
  | ⟨1, _⟩ => show (((b.val * 4096 + r.val) * 8 + h.val) * 64 + d.val) / 512 % 4096 = r.val; omega
  | ⟨2, _⟩ => show (((b.val * 4096 + r.val) * 8 + h.val) * 64 + d.val) % 512 = 64 * h.val + d.val; omega

theorem v_apply (x : S8x4096x512.Idx → EReal) (b h : Fin 8) (r : Fin 4096) (d : Fin 64) :
    (val_main_v8 (F := Ideal) x (ix4 b h r d) : EReal) = x (ix3 b r (lane h d)) := by
  rw [val_main_v8_apply, val_main_v7_apply, val_main_v6_apply]
  refine congrArg x (funext fun a => Fin.ext ?_)
  match a with
  | ⟨0, _⟩ => show (((b.val * 4096 + r.val) * 8 + h.val) * 64 + d.val) / 2097152 = b.val; omega
  | ⟨1, _⟩ => show (((b.val * 4096 + r.val) * 8 + h.val) * 64 + d.val) / 512 % 4096 = r.val; omega
  | ⟨2, _⟩ => show (((b.val * 4096 + r.val) * 8 + h.val) * 64 + d.val) % 512 = 64 * h.val + d.val; omega

theorem km_apply (x : S8x16x512.Idx → EReal) (b h : Fin 8) (n : Fin 16) (d : Fin 64) :
    (val_main_v10 (F := Ideal) x (ix4 b h n d) : EReal) = x (ix3 b n (lane h d)) := by
  rw [val_main_v10_apply, val_main_v9_apply]
  refine congrArg x (funext fun a => Fin.ext ?_)
  match a with
  | ⟨0, _⟩ => show (((b.val * 16 + n.val) * 8 + h.val) * 64 + d.val) / 8192 = b.val; omega
  | ⟨1, _⟩ => show (((b.val * 16 + n.val) * 8 + h.val) * 64 + d.val) / 512 % 16 = n.val; omega
  | ⟨2, _⟩ => show (((b.val * 16 + n.val) * 8 + h.val) * 64 + d.val) % 512 = 64 * h.val + d.val; omega

/-- The row's query, its head's key means, keys and values. -/
def rowQ (x0 : S8x4096x512.Idx → EReal) (b h : Fin 8) (r : Fin 4096) : Fin 64 → EReal := fun d => x0 (ix3 b r (lane h d))
def rowM (x3 : S8x16x512.Idx → EReal) (b h : Fin 8) : Fin 16 → Fin 64 → EReal := fun n d => x3 (ix3 b n (lane h d))
/-- The position of a key: 256 keys to a block. -/
def pos (p : Key) : Fin 4096 := ⟨256 * p.1.val + p.2.val, by have := p.1.isLt; have := p.2.isLt; omega⟩
def rowK (x1 : S8x4096x512.Idx → EReal) (b h : Fin 8) : Key → Fin 64 → EReal := fun p d => x1 (ix3 b (pos p) (lane h d))
def rowW (x2 : S8x4096x512.Idx → EReal) (b h : Fin 8) (e : Fin 64) : Key → EReal := fun p => x2 (ix3 b (pos p) (lane h e))

theorem gate_row (x0 : S8x4096x512.Idx → EReal) (x3 : S8x16x512.Idx → EReal) (b h : Fin 8) (r : Fin 4096) (n : Fin 16) :
    (val_main_v20 (F := Ideal) x0 x3 (ix4 b h r n) : EReal) = gates (r.val / 256) (rowQ x0 b h r) (rowM x3 b h) n := by
  have e1 : val_main_call1_v1 (F := Ideal) (ix4 b h r n) = bit (n.val < r.val / 256) := by
    rw [val_main_call1_v1_apply]
    exact (congrArg (val_main_v18 (F := Ideal)) (funext fun a => match a with | ⟨0, _⟩ => rfl | ⟨1, _⟩ => rfl)).trans (before_row r n)
  have e2 : (val_main_v19 (F := Ideal) x0 x3 (ix4 b h r n) : EReal) = ∑ d, rowQ x0 b h r d * rowM x3 b h n d := by
    refine (val_main_v19_apply x0 x3 (ix4 b h r n)).trans (Finset.sum_congr rfl fun d _ => ?_)
    refine congrArg₂ (fun (a c : EReal) => a * c) (Eq.trans (congrArg (val_main_v2 (F := Ideal) x0) ?_) (q_apply x0 b h r d)) (Eq.trans (congrArg (val_main_v10 (F := Ideal) x3) ?_) (km_apply x3 b h n d))
    · exact funext fun a => match a with | ⟨0, _⟩ => rfl | ⟨1, _⟩ => rfl | ⟨2, _⟩ => rfl | ⟨3, _⟩ => rfl
    · exact funext fun a => match a with | ⟨0, _⟩ => rfl | ⟨1, _⟩ => rfl | ⟨2, _⟩ => rfl | ⟨3, _⟩ => rfl
  have e3 : (val_main_call1_v2 (F := Ideal) (ix4 b h r n) : EReal) = ⊥ := by
    rw [val_main_call1_v2_apply]; exact ninf_eq
  rw [val_main_v20_apply, e1]
  unfold gates
  by_cases hc : n.val < r.val / 256
  · rw [if_pos hc]
    refine Eq.trans ?_ e2
    simp only [hc, bit, decide_true, BitVec.ofBool_true]; rfl
  · rw [if_neg hc]
    refine Eq.trans ?_ e3
    simp only [hc, bit, decide_false, BitVec.ofBool_false]; rfl

/-- The same blocks gate the row in the kernel's order. -/
abbrev rowG (x0 : S8x4096x512.Idx → EReal) (x3 : S8x16x512.Idx → EReal) (b h : Fin 8) (r : Fin 4096) : Fin 16 → EReal :=
  gates (r.val / 256) (rowQ x0 b h r) (rowM x3 b h)

/-- The positions a top-k returns: the first of the sort of the fiber. -/
theorem topK_index {α : Type} (s t : Shape) (d : ℕ) (gt : α → α → BitVec 1) (x : s.Idx → α) (h : s.Slices (fun _ => 0) t)
    (hd : d < s.rank) (j : t.Idx) (i : s.Idx) (hi : ∀ a : Fin s.rank, (i a).val = (j (a.cast h.1.symm)).val) :
    (Host.topK t d gt x h).2 j
      = BitVec.ofNat 32 (sortedFrom (fun k k' => gt (x (i.along ⟨d, hd⟩ k)) (x (i.along ⟨d, hd⟩ k')) == 1#1) (i ⟨d, hd⟩)).val := by
  unfold Host.topK
  dsimp only
  refine (extractStridedSlice_apply _ _ _ _ i fun a => (hi a).trans (Nat.zero_add _).symm).trans ?_
  unfold Host.sort2
  rw [dif_pos hd]
  dsimp only
  rw [dif_pos hd]
  unfold iotaInDim
  exact congrArg (fun z : Fin (s.size ⟨d, hd⟩) => BitVec.ofNat 32 z.val) (Function.update_self _ _ _)

theorem along_row (b h : Fin 8) (r : Fin 4096) (k : Fin 16) (hd : 3 < S8x8x4096x16.rank) (n : Fin (S8x8x4096x16.size ⟨3, hd⟩)) :
    Shape.Idx.along (s := S8x8x4096x16) (ix4 b h r k) ⟨3, hd⟩ n = ix4 b h r (n : Fin 16) := by
  funext a
  unfold Shape.Idx.along
  match a with
  | ⟨0, _⟩ => rfl
  | ⟨1, _⟩ => rfl
  | ⟨2, _⟩ => rfl
  | ⟨3, _⟩ => rfl

theorem chosen_row (x0 : S8x4096x512.Idx → EReal) (x3 : S8x16x512.Idx → EReal) (b h : Fin 8) (r : Fin 4096) (k : Fin 3) :
    val_main_indices (F := Ideal) x0 x3 (ix4 b h r k)
      = BitVec.ofNat 32 (sortedFrom (fun i n => decide (rowG x0 x3 b h r n < rowG x0 x3 b h r i)) (⟨k.val, by omega⟩ : Fin 16)).val := by
  have hy := gate_row x0 x3 b h r
  unfold val_main_indices
  generalize val_main_v20 (F := Ideal) x0 x3 = y at hy
  have hd : 3 < S8x8x4096x16.rank := by decide
  refine (topK_index S8x8x4096x16 S8x8x4096x3 3 _ y _ hd (ix4 b h r k) (ix4 b h r (⟨k.val, by omega⟩ : Fin 16)) fun a => ?_).trans ?_
  · match a with
    | ⟨0, _⟩ => rfl
    | ⟨1, _⟩ => rfl
    | ⟨2, _⟩ => rfl
    | ⟨3, _⟩ => rfl
  refine congrArg (fun f : Fin 16 → Fin 16 → Bool => BitVec.ofNat 32 (sortedFrom f (⟨k.val, by omega⟩ : Fin 16)).val)
    (funext fun i => funext fun n => ?_)
  rw [along_row b h r _ hd i, along_row b h r _ hd n]
  show (BitVec.ofBool (decide ((y (ix4 b h r n) : EReal) < y (ix4 b h r i))) == 1#1) = _
  rw [hy i, hy n]
  cases decide (rowG x0 x3 b h r n < rowG x0 x3 b h r i) <;> rfl

theorem ori_one : ∀ a b : BitVec 1, IntOp.ori a b = 1#1 ↔ a = 1#1 ∨ b = 1#1 := by decide
theorem andi_one : ∀ a b : BitVec 1, IntOp.andi a b = 1#1 ↔ a = 1#1 ∧ b = 1#1 := by decide
theorem bit_one (p : Prop) [Decidable p] : bit p = 1#1 ↔ p := by
  by_cases h : p
  · simp [bit, h]
  · simp [bit, h]
theorem eq_bit (x : BitVec 1) (p : Prop) [Decidable p] (h : x = 1#1 ↔ p) : x = bit p := by
  have key : ∀ a b : BitVec 1, (a = 1#1 ↔ b = 1#1) → a = b := by decide
  exact key _ _ (h.trans (bit_one p).symm)
theorem eq_one (a b : ℕ) (ha : a < 2 ^ 31) (hb : b < 2 ^ 31) :
    IntOp.cmpi .eq (BitVec.ofNat 32 a) (BitVec.ofNat 32 b) = 1#1 ↔ a = b := by
  have e : BitVec.ofNat 32 a = BitVec.ofNat 32 b ↔ a = b := by
    constructor
    · intro h
      have h' := congrArg BitVec.toNat h
      rw [BitVec.toNat_ofNat, BitVec.toNat_ofNat, Nat.mod_eq_of_lt (by omega), Nat.mod_eq_of_lt (by omega)] at h'
      exact h'
    · rintro rfl; rfl
  rw [← e]
  generalize BitVec.ofNat 32 a = u
  generalize BitVec.ofNat 32 b = v
  show BitVec.ofBool (u == v) = 1#1 ↔ _
  by_cases h : u = v
  · simp [h]
  · rw [beq_eq_false_iff_ne.mpr h]
    exact iff_of_false (by decide) h

theorem fold_or {ι : Type} [DecidableEq ι] (S : Finset ι) (f : ι → BitVec 1) : S.fold IntOp.ori 0#1 f = 1#1 ↔ ∃ k ∈ S, f k = 1#1 := by
  induction S using Finset.induction with
  | empty => simp
  | insert a S ha ih => rw [Finset.fold_insert ha, ori_one, ih]; simp

theorem first_at (b h : Fin 8) (r : Fin 4096) (k : Fin 3) (n : Fin 16) : idx_main_v21 (idx_main_v23 (ix5 b h r k n)) = ix4 b h r k := by
  funext a
  match a with | ⟨0, _⟩ => rfl | ⟨1, _⟩ => rfl | ⟨2, _⟩ => rfl | ⟨3, _⟩ => rfl

theorem lane_at (b h : Fin 8) (r : Fin 4096) (k : Fin 3) (n : Fin 16) : val_main_v24 (F := Ideal) (ix5 b h r k n) = BitVec.ofNat 32 n.val :=
  (val_main_v24_apply _).trans ((val_main_v22_apply _).trans (val_main_v13_apply _))

theorem named_at (x0 : S8x4096x512.Idx → EReal) (x3 : S8x16x512.Idx → EReal) (b h : Fin 8) (r : Fin 4096) (k : Fin 3) (n : Fin 16) :
    val_main_v23 (F := Ideal) x0 x3 (ix5 b h r k n) = val_main_indices (F := Ideal) x0 x3 (ix4 b h r k) := by
  rw [val_main_v23_apply, val_main_v21_apply]
  generalize val_main_indices (F := Ideal) x0 x3 = y
  rw [first_at]

theorem pick_row (x0 : S8x4096x512.Idx → EReal) (x3 : S8x16x512.Idx → EReal) (b h : Fin 8) (r : Fin 4096) (k : Fin 3) (n : Fin 16) :
    val_main_v25 (F := Ideal) x0 x3 (ix5 b h r k n) = 1#1
      ↔ sortedFrom (fun i n => decide (rowG x0 x3 b h r n < rowG x0 x3 b h r i)) (⟨k.val, by omega⟩ : Fin 16) = n := by
  have e0 := chosen_row x0 x3 b h r k
  revert e0
  generalize (fun i n => decide (rowG x0 x3 b h r n < rowG x0 x3 b h r i)) = f
  intro e0
  rw [val_main_v25_apply, named_at, e0, lane_at, eq_one _ _ (by omega) (by omega), Fin.ext_iff]

theorem picked_row (x0 : S8x4096x512.Idx → EReal) (x3 : S8x16x512.Idx → EReal) (b h : Fin 8) (r : Fin 4096) (n : Fin 16) :
    val_main_v26 (F := Ideal) x0 x3 (ix4 b h r n) = 1#1 ↔ rank (rowG x0 x3 b h r) n < 3 := by
  rw [← mem_first_iff]
  have hx := fun k => pick_row x0 x3 b h r k n
  revert hx
  generalize (fun i n => decide (rowG x0 x3 b h r n < rowG x0 x3 b h r i)) = f
  intro hx
  unfold val_main_v26
  generalize val_main_v25 (F := Ideal) x0 x3 = y at hx
  rw [Host.reduce_eq_fold_single (a := 3) IntOp.ori y _ reducesTo_S8x8x4096x3x16_S8x8x4096x16_d3 (by decide) h_S_]
  show Finset.fold IntOp.ori 0#1 _ _ = 1#1 ↔ _
  rw [fold_or]
  have hl : ∀ k : Fin 3, (y ∘ Shape.Reduces.lift (s := S8x8x4096x3x16) (t := S8x8x4096x16) (a := 3) (by decide) (ix4 b h r n)) k = y (ix5 b h r k n) := fun k =>
    congrArg y (funext fun a => Fin.ext (by match a with | ⟨0, _⟩ => rfl | ⟨1, _⟩ => rfl | ⟨2, _⟩ => rfl | ⟨3, _⟩ => rfl | ⟨4, _⟩ => rfl))
  constructor
  · rintro ⟨k, -, hk⟩
    exact ⟨⟨k.val, by have : k.val < 3 := k.isLt; omega⟩, k.isLt, (hx k).mp ((hl k).symm.trans hk)⟩
  · rintro ⟨k, hk3, hk⟩
    exact ⟨(⟨k.val, hk3⟩ : Fin 3), Finset.mem_univ _, (hl _).trans ((hx ⟨k.val, hk3⟩).mpr hk)⟩

/-- The row within its block. -/
abbrev rowIn (r : Fin 4096) : Fin 256 := ⟨r.val % 256, by omega⟩

theorem mask_row (x0 : S8x4096x512.Idx → EReal) (x3 : S8x16x512.Idx → EReal) (b h : Fin 8) (r : Fin 4096) (p : Key) :
    val_main_v45 (F := Ideal) x0 x3 (ix4 b h r (pos p)) = bit (seen (r.val / 256) (rowIn r) (rowG x0 x3 b h r) p) := by
  have h1 := p.1.isLt
  have h2 := p.2.isLt
  refine eq_bit _ _ ?_
  have e1 : val_main_v42 (F := Ideal) x0 x3 (ix4 b h r (pos p)) = 1#1 ↔ rank (rowG x0 x3 b h r) p.1 < 3 ∧ p.1.val < r.val / 256 := by
    rw [val_main_v42_apply, val_main_v41_apply]
    have e : idx_main_v41 (idx_main_v42 (ix4 b h r (pos p))) = ix4 b h r p.1 := funext fun a => Fin.ext (by
      match a with
      | ⟨0, _⟩ => show (((b.val * 8 + h.val) * 4096 + r.val) * 4096 + (256 * p.1.val + p.2.val)) / 134217728 = b.val; omega
      | ⟨1, _⟩ => show (((b.val * 8 + h.val) * 4096 + r.val) * 4096 + (256 * p.1.val + p.2.val)) / 16777216 % 8 = h.val; omega
      | ⟨2, _⟩ => show (((b.val * 8 + h.val) * 4096 + r.val) * 4096 + (256 * p.1.val + p.2.val)) / 4096 % 4096 = r.val; omega
      | ⟨3, _⟩ => show (((b.val * 8 + h.val) * 4096 + r.val) * 4096 + (256 * p.1.val + p.2.val)) / 256 % 16 = p.1.val; omega)
    rw [e, val_main_v29_apply, andi_one, picked_row, val_main_v28_apply, val_main_v27_apply]
    have e' : val_main_v18 (F := Ideal) (idx_main_v27 (idx_main_v28 (ix4 b h r p.1))) = bit (p.1.val < r.val / 256) :=
      (congrArg (val_main_v18 (F := Ideal)) (funext fun a => match a with | ⟨0, _⟩ => rfl | ⟨1, _⟩ => rfl)).trans (before_row r p.1)
    rw [e', bit_one]
  have e2 : val_main_v44 (F := Ideal) (ix4 b h r (pos p)) = 1#1 ↔ r.val / 256 = p.1.val ∧ 256 * p.1.val + p.2.val ≤ r.val := by
    rw [val_main_v44_apply, val_main_v43_apply, val_main_v40_apply, andi_one, val_main_v34_apply, val_main_v39_apply,
      val_main_v32_apply, val_main_v33_apply, val_main_v30_apply, val_main_v31_apply, val_main_v37_apply, val_main_v38_apply,
      val_main_v35_apply, val_main_v36_apply, val_main_v11_apply, val_main_v11_apply]
    refine and_congr ?_ ?_
    · refine Eq.to_iff (?_ : (_ = 1#1) = (IntOp.cmpi .eq (BitVec.ofNat 32 (r.val / 256)) (BitVec.ofNat 32 p.1.val) = 1#1)) |>.trans (eq_one _ _ (by omega) (by omega))
      refine congrArg (fun z => z = 1#1) (congrArg₂ (IntOp.cmpi .eq) ?_ ?_)
      · exact (congrArg (val_main_v12 (F := Ideal)) (funext fun a => match a with | ⟨0, _⟩ => rfl)).trans (block_row r)
      · refine (congrArg (val_main_v12 (F := Ideal)) (funext fun a => match a with | ⟨0, _⟩ => rfl)).trans ((block_row (pos p)).trans ?_)
        exact congrArg (BitVec.ofNat 32) (show (256 * p.1.val + p.2.val) / 256 = p.1.val by omega)
    · show BitVec.ofBool ((BitVec.ofNat 32 (256 * p.1.val + p.2.val)).sle (BitVec.ofNat 32 r.val)) = 1#1 ↔ _
      rw [sle_small _ _ (by omega) (by omega)]
      exact bit_one _
  rw [val_main_v45_apply, ori_one, e1, e2]
  unfold seen
  rw [Fin.le_def]
  constructor
  · rintro (⟨ha, hb⟩ | ⟨ha, hb⟩)
    · exact Or.inl ⟨hb, ha⟩
    · exact Or.inr ⟨ha.symm, show p.2.val ≤ r.val % 256 by omega⟩
  · rintro (⟨ha, hb⟩ | ⟨ha, hb⟩)
    · exact Or.inl ⟨hb, ha⟩
    · exact Or.inr ⟨ha.symm, by have hb' : p.2.val ≤ r.val % 256 := hb; omega⟩

theorem score_row (x0 x1 : S8x4096x512.Idx → EReal) (x3 : S8x16x512.Idx → EReal) (b h : Fin 8) (r : Fin 4096) (p : Key) :
    (val_main_v47 (F := Ideal) x0 x1 x3 (ix4 b h r (pos p)) : EReal)
      = score (r.val / 256) (rowIn r) (rowQ x0 b h r) (rowM x3 b h) (rowK x1 b h) p := by
  have e2 : (val_main_v46 (F := Ideal) x0 x1 (ix4 b h r (pos p)) : EReal) = ∑ d, rowQ x0 b h r d * rowK x1 b h p d := by
    refine (val_main_v46_apply x0 x1 (ix4 b h r (pos p))).trans (Finset.sum_congr rfl fun d _ => ?_)
    refine congrArg₂ (fun (a c : EReal) => a * c) (Eq.trans (congrArg (val_main_v2 (F := Ideal) x0) ?_) (q_apply x0 b h r d)) (Eq.trans (congrArg (val_main_v5 (F := Ideal) x1) ?_) (k_apply x1 b h (pos p) d))
    · exact funext fun a => match a with | ⟨0, _⟩ => rfl | ⟨1, _⟩ => rfl | ⟨2, _⟩ => rfl | ⟨3, _⟩ => rfl
    · exact funext fun a => match a with | ⟨0, _⟩ => rfl | ⟨1, _⟩ => rfl | ⟨2, _⟩ => rfl | ⟨3, _⟩ => rfl
  have e3 : (val_main_call2_v1 (F := Ideal) (ix4 b h r (pos p)) : EReal) = ⊥ := by
    rw [val_main_call2_v1_apply]; exact ninf_eq
  rw [val_main_v47_apply, mask_row]
  unfold score
  by_cases hc : seen (r.val / 256) (rowIn r) (rowG x0 x3 b h r) p
  · rw [if_pos hc]
    refine Eq.trans ?_ e2
    simp only [hc, bit, decide_true, BitVec.ofBool_true]; rfl
  · rw [if_neg hc]
    refine Eq.trans ?_ e3
    simp only [hc, bit, decide_false, BitVec.ofBool_false]; rfl

end Cert.Moba
-- ==== Proof.Moba.RefOut.lean ====
module

public import proofs.«01_k».proof.Proof.Moba.RefRow

@[expose] public section

set_option maxRecDepth 16384

/-! The reference's attention output, entry by entry: the softmax of a row's scores over its keys, block by block. -/

noncomputable section

namespace Cert.Moba

open Idealize.ShloMosaic Idealize.ShloMosaic.TcCoe Idealize.SL.Sem Cert.ReferenceIdeal Cert.ReferenceIdeal.Gen Cert.ReferenceIdeal.Read
open ValueIdx (ix1 ix2 ix3 ix4 ix5)

/-- Every position is one key of one block. -/
def posE : Key ≃ Fin 4096 where
  toFun := pos
  invFun c := (⟨c.val / 256, by omega⟩, ⟨c.val % 256, by omega⟩)
  left_inv p := by
    have h1 := p.1.isLt
    have h2 := p.2.isLt
    refine Prod.ext (Fin.ext ?_) (Fin.ext ?_)
    · show (256 * p.1.val + p.2.val) / 256 = p.1.val; omega
    · show (256 * p.1.val + p.2.val) % 256 = p.2.val; omega
  right_inv c := Fin.ext (by show 256 * (c.val / 256) + c.val % 256 = c.val; omega)

theorem sum_pos (f : Fin 4096 → EReal) : ∑ c, f c = ∑ p : Key, f (pos p) := (Equiv.sum_comp posE f).symm

theorem sup_pos (f : Fin 4096 → EReal) : Finset.univ.sup f = Finset.univ.sup fun p : Key => f (pos p) := by
  apply le_antisymm
  · refine Finset.sup_le fun c _ => ?_
    have h := Finset.le_sup (f := fun p : Key => f (pos p)) (Finset.mem_univ (posE.symm c))
    have e : pos (posE.symm c) = c := posE.apply_symm_apply c
    rw [e] at h
    exact h
  · exact Finset.sup_le fun p _ => Finset.le_sup (Finset.mem_univ (pos p))

theorem fold_sup {n : ℕ} (f : Fin n → EReal) : (Finset.univ : Finset (Fin n)).fold max ⊥ f = Finset.univ.sup f := rfl

/-- A maximum along one axis from −∞, of any shape: the greatest value of the fiber. -/
theorem host_max {s t u : Shape} {a : Fin s.rank} (n : ℕ) (hn : s.size a = n) (x : FVec Ideal s .f32) (h : s.ReducesTo [a] t)
    (h' : s.Reduces [a] t) (hu : 0 < u.numel) (j : t.Idx) (f : Fin n → EReal) (hf : ∀ k : Fin n, x (h'.lift j (k.cast hn.symm)) = f k) :
    (Host.reduce (FloatOps.maximumf (F := Ideal) (φ := .f32)) x (constant (F := Ideal) u .f32 0xFF800000#32) h hu j : Ideal .f32) = (Finset.univ.sup f : EReal) := by
  subst hn
  rw [hostReduce_maximumf_eq_multiReduction x 0xFF800000#32 h hu h' (Or.inl rfl) rfl]
  refine (Ideal.multiReduction_maximumf_single x _ h' _ _ j).trans ?_
  show Finset.fold max (Ideal.ofBits .f32 0xFF800000#32 : EReal) _ _ = _
  rw [ninf_eq]
  exact (fold_sup _).trans (Finset.sup_congr rfl fun k _ => hf k)

section

variable (x0 x1 x2 : S8x4096x512.Idx → EReal) (x3 : S8x16x512.Idx → EReal) (b h : Fin 8) (r : Fin 4096)

/-- The row's scores. -/
abbrev rowT : Key → EReal := score (r.val / 256) (rowIn r) (rowQ x0 b h r) (rowM x3 b h) (rowK x1 b h)

/-- One for a key the row sees, zero for another. -/
def rowU (p : Key) : EReal := (((bit (seen (r.val / 256) (rowIn r) (rowG x0 x3 b h r) p)).toNat : ℝ) : EReal)

theorem top_row : (val_main_v48 (F := Ideal) x0 x1 x3 (ix3 b h r) : EReal) = Finset.univ.sup (rowT x0 x1 x3 b h r) := by
  have hs := score_row x0 x1 x3 b h r
  unfold val_main_v48 val_main_cst_2
  generalize val_main_v47 (F := Ideal) x0 x1 x3 = y at hs
  refine (host_max 4096 rfl y reducesTo_S8x8x4096x4096_S8x8x4096_d3 (by decide) h_S_ (ix3 b h r) (fun c => y (ix4 b h r c)) fun c => ?_).trans ?_
  · exact congrArg y (funext fun a => Fin.ext (by match a with | ⟨0, _⟩ => rfl | ⟨1, _⟩ => rfl | ⟨2, _⟩ => rfl | ⟨3, _⟩ => rfl))
  · exact (sup_pos _).trans (Finset.sup_congr rfl fun p _ => hs p)

theorem topped_row : (val_main_v50 (F := Ideal) x0 x1 x3 (ix3 b h r) : EReal) = Finset.univ.sup (rowT x0 x1 x3 b h r) := by
  rw [val_main_v50_apply]
  show max (val_main_v49 (F := Ideal) (ix3 b h r) : EReal) (val_main_v48 (F := Ideal) x0 x1 x3 (ix3 b h r)) = _
  rw [top_row]
  have e : (val_main_v49 (F := Ideal) (ix3 b h r) : EReal) = ⊥ := by rw [val_main_v49_apply]; exact ninf_eq
  rw [e]
  exact bot_sup_eq _

theorem top_at (c : Fin 4096) : idx_main_v51 (idx_main_v52 (ix4 b h r c)) = ix3 b h r := by
  funext a
  match a with | ⟨0, _⟩ => rfl | ⟨1, _⟩ => rfl | ⟨2, _⟩ => rfl

theorem sum_at (c : Fin 4096) : idx_main_v56 (idx_main_v57 (ix4 b h r c)) = ix3 b h r := by
  funext a
  match a with | ⟨0, _⟩ => rfl | ⟨1, _⟩ => rfl | ⟨2, _⟩ => rfl

theorem fiber_at (c : Fin 4096) : idx_main_v55 (ix3 b h r) c = ix4 b h r c := by
  funext a
  match a with | ⟨0, _⟩ => rfl | ⟨1, _⟩ => rfl | ⟨2, _⟩ => rfl | ⟨3, _⟩ => rfl

theorem left_at (e : Fin 64) (c : Fin 4096) : lidx_main_v61 (ix4 b h r e) c = ix4 b h r c := by
  funext a
  match a with | ⟨0, _⟩ => rfl | ⟨1, _⟩ => rfl | ⟨2, _⟩ => rfl | ⟨3, _⟩ => rfl

theorem right_at (e : Fin 64) (c : Fin 4096) : ridx_main_v61 (ix4 b h r e) c = ix4 b h c e := by
  funext a
  match a with | ⟨0, _⟩ => rfl | ⟨1, _⟩ => rfl | ⟨2, _⟩ => rfl | ⟨3, _⟩ => rfl

theorem exp_row (p : Key) : (val_main_v54 (F := Ideal) x0 x1 x3 (ix4 b h r (pos p)) : EReal)
    = Ideal.exp (rowT x0 x1 x3 b h r p - Finset.univ.sup (rowT x0 x1 x3 b h r)) := by
  have e1 := score_row x0 x1 x3 b h r p
  have e2 : (val_main_v52 (F := Ideal) x0 x1 x3 (ix4 b h r (pos p)) : EReal) = Finset.univ.sup (rowT x0 x1 x3 b h r) := by
    rw [val_main_v52_apply, val_main_v51_apply, top_at]
    exact topped_row x0 x1 x3 b h r
  rw [val_main_v54_apply, val_main_v53_apply]
  exact congrArg₂ (fun u v : EReal => Ideal.exp (u - v)) e1 e2

theorem total_row : (val_main_v55 (F := Ideal) x0 x1 x3 (ix3 b h r) : EReal)
    = ∑ p, Ideal.exp (rowT x0 x1 x3 b h r p - Finset.univ.sup (rowT x0 x1 x3 b h r)) := by
  have hx := exp_row x0 x1 x3 b h r
  rw [val_main_v55_apply]
  generalize val_main_v54 (F := Ideal) x0 x1 x3 = y at hx
  have e0 : (val_main_cst_4 (F := Ideal) (Shape.Idx.first h_S_) : EReal) = 0 := by
    rw [val_main_cst_4_apply]
    show (Ideal.ofBits .f32 0x00000000#32 : EReal) = 0
    simp [Ideal.ofBits, Ideal.ieee]
  show (val_main_cst_4 (F := Ideal) (Shape.Idx.first h_S_) : EReal) + ∑ c : Fin 4096, (y (idx_main_v55 (ix3 b h r) c) : EReal) = _
  rw [e0, zero_add]
  refine (sum_pos _).trans (Finset.sum_congr rfl fun p _ => ?_)
  rw [fiber_at]
  exact hx p

theorem weight_row (p : Key) : (val_main_v60 (F := Ideal) x0 x1 x3 (ix4 b h r (pos p)) : EReal)
    = Ideal.div (Ideal.exp (rowT x0 x1 x3 b h r p - Finset.univ.sup (rowT x0 x1 x3 b h r)))
        (∑ q, Ideal.exp (rowT x0 x1 x3 b h r q - Finset.univ.sup (rowT x0 x1 x3 b h r))) * rowU x0 x3 b h r p := by
  have e1 := exp_row x0 x1 x3 b h r p
  have e2 : (val_main_v57 (F := Ideal) x0 x1 x3 (ix4 b h r (pos p)) : EReal)
      = ∑ q, Ideal.exp (rowT x0 x1 x3 b h r q - Finset.univ.sup (rowT x0 x1 x3 b h r)) := by
    rw [val_main_v57_apply, val_main_v56_apply, sum_at]
    exact total_row x0 x1 x3 b h r
  have e3 : (val_main_v59 (F := Ideal) x0 x3 (ix4 b h r (pos p)) : EReal) = rowU x0 x3 b h r p := by
    rw [val_main_v59_apply, mask_row]
    rfl
  rw [val_main_v60_apply, val_main_v58_apply]
  exact congrArg₂ (fun u v : EReal => u * v) (congrArg₂ Ideal.div e1 e2) e3

theorem head_out (e : Fin 64) : (val_main_v61 (F := Ideal) x0 x1 x2 x3 (ix4 b h r e) : EReal)
    = attend (rowT x0 x1 x3 b h r) (rowU x0 x3 b h r) (rowW x2 b h e) := by
  have hw := weight_row x0 x1 x3 b h r
  have hv := fun p => v_apply x2 b h (pos p) e
  rw [val_main_v61_apply]
  generalize val_main_v60 (F := Ideal) x0 x1 x3 = y at hw
  generalize val_main_v8 (F := Ideal) x2 = z at hv
  show ∑ c : Fin 4096, ((y (lidx_main_v61 (ix4 b h r e) c) : EReal) * z (ridx_main_v61 (ix4 b h r e) c)) = _
  refine (sum_pos _).trans ?_
  unfold attend
  refine Finset.sum_congr rfl fun p _ => ?_
  rw [left_at, right_at, hw p, hv p]
  rfl

theorem ref_out (e : Fin 64) : (val_main_v63 (F := Ideal) x0 x1 x2 x3 (ix3 b r (lane h e)) : EReal)
    = attend (rowT x0 x1 x3 b h r) (rowU x0 x3 b h r) (rowW x2 b h e) := by
  rw [val_main_v63_apply, val_main_v62_apply]
  have hi : idx_main_v62 (idx_main_v63 (ix3 b r (lane h e))) = ix4 b h r e := funext fun a => Fin.ext (by
    match a with
    | ⟨0, _⟩ => show ((b.val * 4096 + r.val) * 512 + (64 * h.val + e.val)) / 2097152 = b.val; omega
    | ⟨1, _⟩ => show ((b.val * 4096 + r.val) * 512 + (64 * h.val + e.val)) / 64 % 8 = h.val; omega
    | ⟨2, _⟩ => show ((b.val * 4096 + r.val) * 512 + (64 * h.val + e.val)) / 512 % 4096 = r.val; omega
    | ⟨3, _⟩ => show ((b.val * 4096 + r.val) * 512 + (64 * h.val + e.val)) % 64 = e.val; omega)
  rw [hi]
  exact head_out x0 x1 x2 x3 b h r e

theorem rowU_or (p : Key) : rowT x0 x1 x3 b h r p = ⊥ ∨ rowU x0 x3 b h r p = 1 := by
  by_cases hs : seen (r.val / 256) (rowIn r) (rowG x0 x3 b h r) p
  · refine Or.inr ?_
    unfold rowU
    simp [bit, hs]
  · refine Or.inl ?_
    unfold rowT score
    exact if_neg hs

end

end Cert.Moba
-- ==== Proof.Moba.Point.lean ====
module

public import proofs.«01_k».proof.Proof.Moba.Vec
public import Idealize.ShloMosaic.Lib.Pipeline.ValueKit.Basic
public import Idealize.ShloMosaic.Lib.VecWindow
public import Idealize.ShloMosaic.Lib.Pipeline.ValueKit.Tiles
public import Idealize.ShloMosaic.Lib.MatmulPlain
public import Idealize.ShloMosaic.Lib.ValueIdx

@[expose] public section

set_option maxRecDepth 16384

/-! One grid point of the attention call writes the two heads' results side by side. -/

noncomputable section

namespace Cert.Moba

open Cert.KernelIdeal Cert.KernelIdeal.Gen Idealize.ShloMosaic Idealize.ShloMosaic.TcCoe Idealize.SL.Sem

variable {F : FTy → Type} [FloatOps F] [Named F]

theorem hz : (![0, 0, 0] : Fin 3 → Nat) = fun _ => 0 := funext fun a => by fin_cases a <;> rfl

/-- Block `n` of head `h`. -/
def blockOf (x : Vec F S1x4096x128 .bf16) (h : Fin 2) (n : ℕ) : Vec F S1x256x64 .bf16 :=
  fun j => x (ValueIdx.ix3 (0 : Fin 1) (⟨(256 * n + (j 1).val) % 4096, by omega⟩ : Fin 4096)
    (⟨64 * h.val + (j 2).val, by have h2 : (j 2).val < 64 := (j 2).isLt; have := h.isLt; omega⟩ : Fin 128))

/-- Head `h` of the queries' block. -/
def qOf (x : Vec F S1x256x128 .bf16) (h : Fin 2) : Vec F S1x256x64 .bf16 :=
  fun j => x (ValueIdx.ix3 (0 : Fin 1) (j 1 : Fin 256)
    (⟨64 * h.val + (j 2).val, by have h2 : (j 2).val < 64 := (j 2).isLt; have := h.isLt; omega⟩ : Fin 128))

/-- Head `h` of the blocks' mean keys. -/
def kmOf (x : Vec F S1x16x128 .f32) (h : Fin 2) : Vec F S1x16x64 .f32 :=
  fun j => x (ValueIdx.ix3 (0 : Fin 1) (j 1 : Fin 16)
    (⟨64 * h.val + (j 2).val, by have h2 : (j 2).val < 64 := (j 2).isLt; have := h.isLt; omega⟩ : Fin 128))

theorem read_block (arg : Memref sig .tc .vmem S1x4096x128 .bf16) (harg : arg.IsWhole) (x : Vec F S1x4096x128 .bf16) (off : Fin 3 → ℕ)
    (inb) (h : Fin 2) (n : ℕ) (hn : n < 16) (ho : off = ![0, 256 * n, 64 * h.val]) :
    View.readAt (Elt F) arg.view (Rect.unit (s := S1x4096x128) off S1x256x64.size inb).toLoadRect (harg.unread x) = blockOf x h n := by
  subst ho
  rw [View.readAt_eq_ld, harg.read_unread]
  funext j
  refine congrArg x (funext fun a => Fin.ext ?_)
  rw [Rect.idx_unit_val]
  have h1 : (j 1).val < 256 := (j 1).isLt
  have h0 : (j 0).val < 1 := (j 0).isLt
  match a with
  | ⟨0, _⟩ => show 0 + (j 0).val = 0; omega
  | ⟨1, _⟩ => show 256 * n + (j 1).val = (256 * n + (j 1).val) % 4096; omega
  | ⟨2, _⟩ => show 64 * h.val + (j 2).val = 64 * h.val + (j 2).val; omega

theorem read_q (arg : Memref sig .tc .vmem S1x256x128 .bf16) (harg : arg.IsWhole) (x : Vec F S1x256x128 .bf16) (off : Fin 3 → ℕ)
    (inb) (h : Fin 2) (ho : off = ![0, 0, 64 * h.val]) :
    View.readAt (Elt F) arg.view (Rect.unit (s := S1x256x128) off S1x256x64.size inb).toLoadRect (harg.unread x) = qOf x h := by
  subst ho
  rw [View.readAt_eq_ld, harg.read_unread]
  funext j
  refine congrArg x (funext fun a => Fin.ext ?_)
  rw [Rect.idx_unit_val]
  have h0 : (j 0).val < 1 := (j 0).isLt
  match a with
  | ⟨0, _⟩ => show 0 + (j 0).val = 0; omega
  | ⟨1, _⟩ => show 0 + (j 1).val = (j 1).val; omega
  | ⟨2, _⟩ => show 64 * h.val + (j 2).val = 64 * h.val + (j 2).val; omega

theorem read_km (arg : Memref sig .tc .vmem S1x16x128 .f32) (harg : arg.IsWhole) (x : Vec F S1x16x128 .f32) (off : Fin 3 → ℕ)
    (inb) (h : Fin 2) (ho : off = ![0, 0, 64 * h.val]) :
    View.readAt (Elt F) arg.view (Rect.unit (s := S1x16x128) off S1x16x64.size inb).toLoadRect (harg.unread x) = kmOf x h := by
  subst ho
  rw [View.readAt_eq_ld, harg.read_unread]
  funext j
  refine congrArg x (funext fun a => Fin.ext ?_)
  rw [Rect.idx_unit_val]
  have h0 : (j 0).val < 1 := (j 0).isLt
  match a with
  | ⟨0, _⟩ => show 0 + (j 0).val = 0; omega
  | ⟨1, _⟩ => show 0 + (j 1).val = (j 1).val; omega
  | ⟨2, _⟩ => show 64 * h.val + (j 2).val = 64 * h.val + (j 2).val; omega

theorem trips1 (i : grid0.Coords) : (k0_t1_loop i).trips = (i 2).val := by
  have H : ∀ j : Fin 16, ((⟨0#32, Scalar.addi 0#32 (Scalar.muli (Scalar.divsi (Scalar.subi (BitVec.ofNat 32 j.val) 0#32) 1#32) 1#32), 1#32⟩ : Scf.Loop 32)).trips = j.val := by decide
  exact H (i 2)

theorem trips3 (i : grid0.Coords) : (k0_t3_loop i).trips = (i 2).val := trips1 i

theorem off1 (i : grid0.Coords) : k0_off1 i = ![0, 256 * (i 2).val, 64 * (0 : Fin 2).val] := by
  have H : ∀ j : Fin 16, (Scalar.indexCast (Scalar.muli (BitVec.ofNat 32 j.val) 256#32) : Index).toNat = 256 * j.val := by decide
  show ![_, _, _] = _
  rw [show ((Scalar.indexCast (Scalar.muli (BitVec.ofNat 32 (i 2).val) 256#32) : Index).toNat) = 256 * (i 2).val from H (i 2)]
  rfl

theorem off4 (i : grid0.Coords) : k0_off4 i = ![0, 256 * (i 2).val, 64 * (1 : Fin 2).val] := by
  have H : ∀ j : Fin 16, (Scalar.indexCast (Scalar.muli (BitVec.ofNat 32 j.val) 256#32) : Index).toNat = 256 * j.val := by decide
  show ![_, _, _] = _
  rw [show ((Scalar.indexCast (Scalar.muli (BitVec.ofNat 32 (i 2).val) 256#32) : Index).toNat) = 256 * (i 2).val from H (i 2)]
  rfl

theorem off2 (i : grid0.Coords) (k : Fin (k0_t1_loop i).trips) : k0_off2 i k = ![0, 256 * k.val, 64 * (0 : Fin 2).val] := by
  have H : ∀ j : Fin 16, (Scalar.indexCast (Scalar.muli (Scf.iv 0#32 1#32 j.val) 256#32) : Index).toNat = 256 * j.val := by decide
  have hk : k.val < 16 := by have h1 : k.val < (i 2).val := Nat.lt_of_lt_of_eq k.isLt (trips1 i); have h2 : (i 2).val < 16 := (i 2).isLt; omega
  show ![_, _, _] = _
  rw [show ((Scalar.indexCast (Scalar.muli (Scf.iv 0#32 1#32 k.val) 256#32) : Index).toNat) = 256 * k.val from H ⟨k.val, hk⟩]
  rfl

theorem off5 (i : grid0.Coords) (k : Fin (k0_t3_loop i).trips) : k0_off5 i k = ![0, 256 * k.val, 64 * (1 : Fin 2).val] := by
  have H : ∀ j : Fin 16, (Scalar.indexCast (Scalar.muli (Scf.iv 0#32 1#32 j.val) 256#32) : Index).toNat = 256 * j.val := by decide
  have hk : k.val < 16 := by have h1 : k.val < (i 2).val := Nat.lt_of_lt_of_eq k.isLt (trips3 i); have h2 : (i 2).val < 16 := (i 2).isLt; omega
  show ![_, _, _] = _
  rw [show ((Scalar.indexCast (Scalar.muli (Scf.iv 0#32 1#32 k.val) 256#32) : Index).toNat) = 256 * k.val from H ⟨k.val, hk⟩]
  rfl

theorem trip1 (𝒱 : Variants) (c : Dev nD) (bd : Option 𝒱.V) (i : grid0.Coords)
    (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x128 .f32) (harg6 : arg6.IsWhole) (arg7 : Memref sig .tc .vmem S1x256x128 .f32) (harg7 : arg7.IsWhole)
    (arg2 : BitVec 32) (v4 : FVec F S256x64 .bf16) (v197 : FVec F S256x16 .f32) (v199 : BitVec 32) (v200 : IVec S256x256 1) (v204 : FVec F S256x256 .f32) (v205 : FVec F S256x256 .f32) (x1 x2 : Vec F S1x4096x128 .bf16) (k : Fin (k0_t1_loop i).trips) (acc : St F) :
    tripR_k0_t1 𝒱 c bd i arg3 harg3 arg4 harg4 arg5 harg5 arg6 harg6 arg7 harg7 arg2 laneV v4 v197 v199 v200 v204 v205 (harg4.unread x1) (harg5.unread x2) k acc
      = nextSt (stepS (Scf.iv 0#32 1#32 k) v4 v197 (blockOf x1 0 k)) (blockOf x2 0 k) acc := by
  have hk : k.val < 16 := by have h1 : k.val < (i 2).val := Nat.lt_of_lt_of_eq k.isLt (trips1 i); have h2 : (i 2).val < 16 := (i 2).isLt; omega
  unfold tripR_k0_t1 trip_k0_t1
  dsimp only
  rw [read_block arg4 harg4 x1 _ _ 0 k.val hk (off2 i k), read_block arg5 harg5 x2 _ _ 0 k.val hk (off2 i k)]
  exact step0_eq i v4 v197 k acc _ _

theorem loop1 (𝒱 : Variants) (c : Dev nD) (bd : Option 𝒱.V) (i : grid0.Coords)
    (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x128 .f32) (harg6 : arg6.IsWhole) (arg7 : Memref sig .tc .vmem S1x256x128 .f32) (harg7 : arg7.IsWhole)
    (arg2 : BitVec 32) (v4 : FVec F S256x64 .bf16) (v197 : FVec F S256x16 .f32) (v199 : BitVec 32) (v200 : IVec S256x256 1) (v204 : FVec F S256x256 .f32) (v205 : FVec F S256x256 .f32) (x1 x2 : Vec F S1x4096x128 .bf16) (a : St F) (n : ℕ) (hn : n ≤ (i 2).val) :
    st_k0_t1 𝒱 c bd i arg3 harg3 arg4 harg4 arg5 harg5 arg6 harg6 arg7 harg7 arg2 laneV v4 v197 v199 v200 v204 v205 (harg4.unread x1) (harg5.unread x2) a n
      = loopV v4 v197 (blockOf x1 0) (blockOf x2 0) a n := by
  induction n with
  | zero => exact st_k0_t1_zero ..
  | succ n ih =>
    have hk : n < (k0_t1_loop i).trips := by rw [trips1]; omega
    refine (st_k0_t1_succ 𝒱 c bd i arg3 harg3 arg4 harg4 arg5 harg5 arg6 harg6 arg7 harg7 arg2 laneV v4 v197 v199 v200 v204 v205 (harg4.unread x1) (harg5.unread x2) a ⟨n, hk⟩).trans ?_
    rw [trip1, ih (by omega)]
    rfl

theorem trip3 (𝒱 : Variants) (c : Dev nD) (bd : Option 𝒱.V) (i : grid0.Coords)
    (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x128 .f32) (harg6 : arg6.IsWhole) (arg7 : Memref sig .tc .vmem S1x256x128 .f32) (harg7 : arg7.IsWhole)
    (arg2 : BitVec 32) (v0 : IVec S256x256 32) (v1 : IVec S256x256 32) (v227 : FVec F S256x64 .f32) (v229 : FVec F S256x64 .bf16) (v404 : IVec S256x16 32) (v407 : IVec S256x16 1) (v409 : IVec S256x16 1) (v411 : IVec S256x16 1) (x1 x2 : Vec F S1x4096x128 .bf16) (k : Fin (k0_t3_loop i).trips) (acc : St F) :
    tripR_k0_t3 𝒱 c bd i arg3 harg3 arg4 harg4 arg5 harg5 arg6 harg6 arg7 harg7 arg2 v0 v1 laneV v227 v229 v404 v407 v409 v411 (harg4.unread x1) (harg5.unread x2) k acc
      = nextSt (stepS (Scf.iv 0#32 1#32 k) v229 (k0_pay60 arg2 laneV v404 v407 v409 v411) (blockOf x1 1 k)) (blockOf x2 1 k) acc := by
  have hk : k.val < 16 := by have h1 : k.val < (i 2).val := Nat.lt_of_lt_of_eq k.isLt (trips3 i); have h2 : (i 2).val < 16 := (i 2).isLt; omega
  unfold tripR_k0_t3 trip_k0_t3
  dsimp only
  rw [read_block arg4 harg4 x1 _ _ 1 k.val hk (off5 i k), read_block arg5 harg5 x2 _ _ 1 k.val hk (off5 i k)]
  exact step1_eq i arg2 v229 v404 v407 v409 v411 k acc _ _

theorem loop3 (𝒱 : Variants) (c : Dev nD) (bd : Option 𝒱.V) (i : grid0.Coords)
    (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x128 .f32) (harg6 : arg6.IsWhole) (arg7 : Memref sig .tc .vmem S1x256x128 .f32) (harg7 : arg7.IsWhole)
    (arg2 : BitVec 32) (v0 : IVec S256x256 32) (v1 : IVec S256x256 32) (v227 : FVec F S256x64 .f32) (v229 : FVec F S256x64 .bf16) (v404 : IVec S256x16 32) (v407 : IVec S256x16 1) (v409 : IVec S256x16 1) (v411 : IVec S256x16 1) (x1 x2 : Vec F S1x4096x128 .bf16) (a : St F) (n : ℕ) (hn : n ≤ (i 2).val) :
    st_k0_t3 𝒱 c bd i arg3 harg3 arg4 harg4 arg5 harg5 arg6 harg6 arg7 harg7 arg2 v0 v1 laneV v227 v229 v404 v407 v409 v411 (harg4.unread x1) (harg5.unread x2) a n
      = loopV v229 (k0_pay60 arg2 laneV v404 v407 v409 v411) (blockOf x1 1) (blockOf x2 1) a n := by
  induction n with
  | zero => exact st_k0_t3_zero ..
  | succ n ih =>
    have hk : n < (k0_t3_loop i).trips := by rw [trips3]; omega
    refine (st_k0_t3_succ 𝒱 c bd i arg3 harg3 arg4 harg4 arg5 harg5 arg6 harg6 arg7 harg7 arg2 v0 v1 laneV v227 v229 v404 v407 v409 v411 (harg4.unread x1) (harg5.unread x2) a ⟨n, hk⟩).trans ?_
    rw [trip3, ih (by omega)]
    rfl

set_option maxHeartbeats 2000000 in
theorem out_eq (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x128 .f32) (harg6 : arg6.IsWhole) (arg7 : Memref sig .tc .vmem S1x256x128 .f32) (harg7 : arg7.IsWhole)
    (x0 : Vec F S1x256x128 .bf16) (x1 x2 : Vec F S1x4096x128 .bf16) (x3 : Vec F S1x16x128 .f32) :
    out0_A_4 c i arg3 harg3 arg4 harg4 arg5 harg5 arg6 harg6 arg7 harg7 x0 x1 x2 x3
      = k0_pay1 (concatenate S256x128 1 [⟨S256x64, headV (i 2).val (qOf x0 0) (kmOf x3 0) (blockOf x1 0) (blockOf x2 0)⟩,
          ⟨S256x64, headV (i 2).val (qOf x0 1) (kmOf x3 1) (blockOf x1 1) (blockOf x2 1)⟩] concatenates_S256x64_S256x64_S256x128_d1) := by
  have z2 : (k0_t2_loop i).trips = 0 := Nat.le_zero.mp (k0_t2_abs i).2.1
  have z4 : (k0_t4_loop i).trips = 0 := Nat.le_zero.mp (k0_t4_abs i).2.1
  have hq0 : ∀ inb, View.readAt (Elt F) arg3.view (Rect.unit (s := S1x256x128) ![0, 0, 0] S1x256x64.size inb).toLoadRect (harg3.unread x0) = qOf x0 0 := fun inb => read_q arg3 harg3 x0 _ inb 0 rfl
  have hm0 : ∀ inb, View.readAt (Elt F) arg6.view (Rect.unit (s := S1x16x128) ![0, 0, 0] S1x16x64.size inb).toLoadRect (harg6.unread x3) = kmOf x3 0 := fun inb => read_km arg6 harg6 x3 _ inb 0 rfl
  have hk0 : ∀ inb, View.readAt (Elt F) arg4.view (Rect.unit (s := S1x4096x128) (k0_off1 i) S1x256x64.size inb).toLoadRect (harg4.unread x1) = blockOf x1 0 (i 2).val := fun inb => read_block arg4 harg4 x1 _ inb 0 _ (i 2).isLt (off1 i)
  have hv0 : ∀ inb, View.readAt (Elt F) arg5.view (Rect.unit (s := S1x4096x128) (k0_off1 i) S1x256x64.size inb).toLoadRect (harg5.unread x2) = blockOf x2 0 (i 2).val := fun inb => read_block arg5 harg5 x2 _ inb 0 _ (i 2).isLt (off1 i)
  have hq1 : ∀ inb, View.readAt (Elt F) arg3.view (Rect.unit (s := S1x256x128) ![0, 0, 64] S1x256x64.size inb).toLoadRect (harg3.unread x0) = qOf x0 1 := fun inb => read_q arg3 harg3 x0 _ inb 1 rfl
  have hm1 : ∀ inb, View.readAt (Elt F) arg6.view (Rect.unit (s := S1x16x128) ![0, 0, 64] S1x16x64.size inb).toLoadRect (harg6.unread x3) = kmOf x3 1 := fun inb => read_km arg6 harg6 x3 _ inb 1 rfl
  have hk1 : ∀ inb, View.readAt (Elt F) arg4.view (Rect.unit (s := S1x4096x128) (k0_off4 i) S1x256x64.size inb).toLoadRect (harg4.unread x1) = blockOf x1 1 (i 2).val := fun inb => read_block arg4 harg4 x1 _ inb 1 _ (i 2).isLt (off4 i)
  have hv1 : ∀ inb, View.readAt (Elt F) arg5.view (Rect.unit (s := S1x4096x128) (k0_off4 i) S1x256x64.size inb).toLoadRect (harg5.unread x2) = blockOf x2 1 (i 2).val := fun inb => read_block arg5 harg5 x2 _ inb 1 _ (i 2).isLt (off4 i)
  unfold out0_A_4
  rw [View.read_writes_eq_canon _ _ _ (cover0_A_4 c i arg3 harg3 arg4 harg4 arg5 harg5 arg6 harg6 arg7 harg7 x0 x1 x2 x3)]
  unfold kernelRun0_A
  dsimp only
  rw [View.canon_unit_zero hz]
  sl_unfold_run_names
  simp only [hq0, hq1, hm0, hm1, hk0, hk1, hv0, hv1]
  have t1 := trips1 i
  have t3 := trips3 i
  dsimp only [k0_t1_loop, k0_t2_loop, k0_t3_loop, k0_t4_loop, Scf.Loop.trips] at t1 z2 t3 z4
  have hl : iota .tc S256x16 32 [1] iota_S256x16_d1_w32 = laneV := rfl
  have hr : iota .tc S256x256 32 [0] iota_S256x256_d0_w32 = rowV := rfl
  have hc : iota .tc S256x256 32 [1] iota_S256x256_d1_w32 = colV := rfl
  simp only [hl, hr, hc, z2, z4, st_k0_t2_zero, st_k0_t4_zero, t1, t3, loop1, loop3, le_refl, sel0_eq, sel1_eq, first0_eq, first1_eq]
  rfl

end Cert.Moba

end
-- ==== Proof.Moba.Same.lean ====
module

public import proofs.«01_k».proof.Proof.Moba.RefOut
public import proofs.«01_k».proof.Proof.Moba.Point

@[expose] public section

set_option maxRecDepth 16384

/-! One grid point's block against the reference's rows. -/

noncomputable section

namespace Cert.Moba

open Idealize.ShloMosaic Idealize.ShloMosaic.TcCoe Idealize.SL.Sem Cert.KernelIdeal Cert.KernelIdeal.Gen
open ValueIdx (ix1 ix2 ix3 ix4 ix5)

/-- An array of real numbers. -/
def Reals (x : S8x4096x512.Idx → EReal) : Prop := ∀ i, x i ≠ ⊤ ∧ x i ≠ ⊥

theorem real_dot (n : ℕ) (f g : Fin n → EReal) (hf : ∀ d, f d ≠ ⊤ ∧ f d ≠ ⊥) (hg : ∀ d, g d ≠ ⊤ ∧ g d ≠ ⊥) :
    (∑ d, f d * g d) = ((∑ d, (f d).toReal * (g d).toReal : ℝ) : EReal) := by
  refine Eq.trans ?_ (coe_sum _ _).symm
  refine Finset.sum_congr rfl fun d _ => ?_
  rw [EReal.coe_mul, EReal.coe_toReal (hf d).1 (hf d).2, EReal.coe_toReal (hg d).1 (hg d).2]

section

variable (x0 x1 x2 : S8x4096x512.Idx → EReal) (x3 : S8x16x512.Idx → EReal) (b h : Fin 8) (r : Fin 4096)

theorem rowT_lt (h0 : Reals x0) (h1 : Reals x1) (p : Key) : rowT x0 x1 x3 b h r p < ⊤ := by
  unfold rowT score
  by_cases hs : seen (r.val / 256) (rowIn r) (gates (r.val / 256) (rowQ x0 b h r) (rowM x3 b h)) p
  · rw [if_pos hs, real_dot _ (rowQ x0 b h r) (rowK x1 b h p) (fun d => h0 _) (fun d => h1 _)]
    exact EReal.coe_lt_top _
  · rw [if_neg hs]
    exact bot_lt_top

theorem rowT_own (h0 : Reals x0) (h1 : Reals x1) (p : Key) (hp : p.1.val = r.val / 256) (hr : p.2 = rowIn r) :
    ⊥ < rowT x0 x1 x3 b h r p := by
  unfold rowT score
  have hs : seen (r.val / 256) (rowIn r) (gates (r.val / 256) (rowQ x0 b h r) (rowM x3 b h)) p := Or.inr ⟨hp, le_of_eq hr⟩
  rw [if_pos hs, real_dot _ (rowQ x0 b h r) (rowK x1 b h p) (fun d => h0 _) (fun d => h1 _)]
  exact EReal.bot_lt_coe _

end

/-- Columns of a pair of heads. -/
def col (hp : Fin 4) (c : Fin 128) : Fin 512 := ⟨128 * hp.val + c.val, by omega⟩
/-- Rows of a block. -/
def line (rb : Fin 16) (r : Fin 256) : Fin 4096 := ⟨256 * rb.val + r.val, by omega⟩
/-- Head of a pair. -/
def headOf (hp : Fin 4) (u : Fin 2) : Fin 8 := ⟨2 * hp.val + u.val, by omega⟩

section

variable (x0 x1 x2 : S8x4096x512.Idx → EReal) (x3 : S8x16x512.Idx → EReal) (b : Fin 8) (hp : Fin 4) (rb : Fin 16)
variable (X0 : Vec Ideal S1x256x128 .bf16) (X1 X2 : Vec Ideal S1x4096x128 .bf16) (X3 : Vec Ideal S1x16x128 .f32)

theorem head_eq (h0 : Reals x0) (h1 : Reals x1)
    (e0 : ∀ r c, (X0 (ix3 (0 : Fin 1) r c) : EReal) = x0 (ix3 b (line rb r) (col hp c)))
    (e1 : ∀ r c, (X1 (ix3 (0 : Fin 1) r c) : EReal) = x1 (ix3 b r (col hp c)))
    (e2 : ∀ r c, (X2 (ix3 (0 : Fin 1) r c) : EReal) = x2 (ix3 b r (col hp c)))
    (e3 : ∀ n c, (X3 (ix3 (0 : Fin 1) n c) : EReal) = x3 (ix3 b n (col hp c))) (u : Fin 2) (r : Fin 256) (e : Fin 64) :
    (headV rb.val (qOf X0 u) (kmOf X3 u) (blockOf X1 u) (blockOf X2 u) (ix2 r e) : EReal)
      = attend (rowT x0 x1 x3 b (headOf hp u) (line rb r)) (rowU x0 x3 b (headOf hp u) (line rb r)) (rowW x2 b (headOf hp u) e) := by
  have hl : (line rb r).val / 256 = rb.val := by show (256 * rb.val + r.val) / 256 = rb.val; omega
  have hr : rowIn (line rb r) = r := Fin.ext (by show (256 * rb.val + r.val) % 256 = r.val; omega)
  have hc : ∀ d : Fin 64, col hp ⟨64 * u.val + d.val, by omega⟩ = lane (headOf hp u) d := fun d =>
    Fin.ext (by show 128 * hp.val + (64 * u.val + d.val) = 64 * (2 * hp.val + u.val) + d.val; omega)
  have hT : rowT x0 x1 x3 b (headOf hp u) (line rb r)
      = score rb.val r (rowQ x0 b (headOf hp u) (line rb r)) (rowM x3 b (headOf hp u)) (rowK x1 b (headOf hp u)) := by
    unfold rowT
    rw [hl, hr]
  have ht := rowT_lt x0 x1 x3 b (headOf hp u) (line rb r) h0 h1
  have hb := rowT_own x0 x1 x3 b (headOf hp u) (line rb r) h0 h1 (rb, r) hl.symm hr.symm
  have hμ := rowU_or x0 x1 x3 b (headOf hp u) (line rb r)
  rw [hT] at ht hb hμ ⊢
  refine head_row rb _ _ _ _ r e _ _ _ _ _ (fun d => ?_) (fun n d => ?_) (fun n c d => ?_) (fun n c => ?_) ht hb hμ
  · exact (e0 r ⟨64 * u.val + d.val, by omega⟩).trans (congrArg (fun z => x0 (ix3 b (line rb r) z)) (hc d))
  · exact (e3 n ⟨64 * u.val + d.val, by omega⟩).trans (congrArg (fun z => x3 (ix3 b n z)) (hc d))
  · refine (e1 ⟨(256 * n.val + c.val) % 4096, by omega⟩ ⟨64 * u.val + d.val, by omega⟩).trans ?_
    refine congrArg₂ (fun y z => x1 (ix3 b y z)) (Fin.ext ?_) (hc d)
    show (256 * n.val + c.val) % 4096 = 256 * n.val + c.val
    omega
  · refine (e2 ⟨(256 * n.val + c.val) % 4096, by omega⟩ ⟨64 * u.val + e.val, by omega⟩).trans ?_
    refine congrArg₂ (fun y z => x2 (ix3 b y z)) (Fin.ext ?_) (hc e)
    show (256 * n.val + c.val) % 4096 = 256 * n.val + c.val
    omega

theorem pay1_apply (v : FVec Ideal S256x128 .f32) (r : Fin 256) (c : Fin 128) :
    k0_pay1 v (ix3 (0 : Fin 1) r c) = v (ix2 r c) := by
  unfold k0_pay1
  refine shapeCast_apply v _ (ix3 (0 : Fin 1) r c) (ix2 r c) ?_
  rw [Shape.rowMajor_val_three, Shape.rowMajor_val_two]
  show r.val * 128 + c.val = (0 * 256 + r.val) * 128 + c.val
  omega

/-- A point's output block is the reference's. -/
theorem block_eq (h0 : Reals x0) (h1 : Reals x1)
    (e0 : ∀ r c, (X0 (ix3 (0 : Fin 1) r c) : EReal) = x0 (ix3 b (line rb r) (col hp c)))
    (e1 : ∀ r c, (X1 (ix3 (0 : Fin 1) r c) : EReal) = x1 (ix3 b r (col hp c)))
    (e2 : ∀ r c, (X2 (ix3 (0 : Fin 1) r c) : EReal) = x2 (ix3 b r (col hp c)))
    (e3 : ∀ n c, (X3 (ix3 (0 : Fin 1) n c) : EReal) = x3 (ix3 b n (col hp c))) (r : Fin 256) (c : Fin 128) :
    (k0_pay1 (concatenate S256x128 1 [⟨S256x64, headV rb.val (qOf X0 0) (kmOf X3 0) (blockOf X1 0) (blockOf X2 0)⟩,
          ⟨S256x64, headV rb.val (qOf X0 1) (kmOf X3 1) (blockOf X1 1) (blockOf X2 1)⟩] concatenates_S256x64_S256x64_S256x128_d1)
        (ix3 (0 : Fin 1) r c) : EReal)
      = Cert.ReferenceIdeal.Read.val_main_v63 (F := Ideal) x0 x1 x2 x3 (ix3 b (line rb r) (col hp c)) := by
  rw [pay1_apply]
  by_cases hc : c.val < 64
  · have hi : col hp c = lane (headOf hp 0) ⟨c.val, hc⟩ := Fin.ext (by show 128 * hp.val + c.val = 64 * (2 * hp.val + 0) + c.val; omega)
    rw [hi, ref_out, ← head_eq x0 x1 x2 x3 b hp rb X0 X1 X2 X3 h0 h1 e0 e1 e2 e3 0 r ⟨c.val, hc⟩]
    refine concatenate_pair_apply_left (s₁ := S256x64) (s₂ := S256x64) (t := S256x128) 1 _ _ concatenates_S256x64_S256x64_S256x128_d1 (ix2 r c) rfl
      (ix2 r (⟨c.val, hc⟩ : Fin 64)) (fun a => ?_)
    match a with | ⟨0, _⟩ => rfl | ⟨1, _⟩ => rfl
  · have hi : col hp c = lane (headOf hp 1) ⟨c.val - 64, by omega⟩ :=
      Fin.ext (by show 128 * hp.val + c.val = 64 * (2 * hp.val + 1) + (c.val - 64); omega)
    rw [hi, ref_out, ← head_eq x0 x1 x2 x3 b hp rb X0 X1 X2 X3 h0 h1 e0 e1 e2 e3 1 r ⟨c.val - 64, by omega⟩]
    refine concatenate_pair_apply_right (s₁ := S256x64) (s₂ := S256x64) (t := S256x128) 1 _ _ concatenates_S256x64_S256x64_S256x128_d1 (ix2 r c) rfl rfl
      (ix2 r (⟨c.val - 64, by omega⟩ : Fin 64)) ?_ ?_
    · intro a ha
      match a, ha with
      | ⟨0, _⟩, _ => rfl
      | ⟨1, _⟩, ha => exact absurd rfl ha
    · show c.val - 64 + 64 = c.val
      omega

end

end Cert.Moba
-- ==== Proof.Moba.Call.lean ====
/- The attention call: what the output array holds at the end, and the arguments unchanged. -/
module

public import proofs.«01_k».proof.Proof.Moba.Same
public import proofs.«01_k».proof.Proof.Gen.KernelIdeal.Value
public import Idealize.ShloMosaic.Lib.Pipeline.ValueKit.Geometry

@[expose] public section

set_option maxRecDepth 16384

noncomputable section

namespace Cert.Moba

open Cert.KernelIdeal Cert.KernelIdeal.Gen Cert.KernelIdeal.Value Idealize.ShloMosaic Idealize.ShloMosaic.TcCoe
open Idealize.SL.Sem
open ValueIdx (ix1 ix2 ix3)

variable (m : (ℓ : Loc nD τ sig) → Buf (Elt Ideal) ℓ) (ρ : Dev nD → PrngReg)

/-- The reference's result, of the call's own arguments. -/
def want (c : Dev nD) : Buf (Elt Ideal) ((c : Thread nD τ).loc main_v0) :=
  Cert.ReferenceIdeal.Read.val_main_v63 (F := Ideal) (m ((c : Thread nD τ).loc main_arg0)) (m ((c : Thread nD τ).loc main_arg1))
    (m ((c : Thread nD τ).loc main_arg2)) (m ((c : Thread nD τ).loc main_arg3))

theorem coords0 (t : Fin cfg0.N) : (grid0.coords t 0).val = t.val / 64 % 8 :=
  Pipeline.Grid.coords_val (G := grid0) t 0 (S := 64) (B := 8) (by decide) rfl
theorem coords1 (t : Fin cfg0.N) : (grid0.coords t 1).val = t.val / 16 % 4 :=
  Pipeline.Grid.coords_val (G := grid0) t 1 (S := 16) (B := 4) (by decide) rfl
theorem coords2 (t : Fin cfg0.N) : (grid0.coords t 2).val = t.val / 1 % 16 :=
  Pipeline.Grid.coords_val (G := grid0) t 2 (S := 1) (B := 16) (by decide) rfl

/-- A point's batch, pair of heads and block of rows. -/
def batch (t : Fin cfg0.N) : Fin 8 := grid0.coords t 0
def pair (t : Fin cfg0.N) : Fin 4 := grid0.coords t 1
def rows (t : Fin cfg0.N) : Fin 16 := grid0.coords t 2

theorem word (n k : ℕ) (h : n < 4294967296) : (BitVec.ofNat 32 n).toNat * k = n * k := by
  rw [BitVec.toNat_ofNat, Nat.mod_eq_of_lt h]

theorem iblk0 (c : Dev nD) (t : Fin cfg0.N) (r : Fin 256) (k : Fin 128) :
    iblk m c 0 t (ix3 (0 : Fin 1) r k) = m ((c : Thread nD τ).loc main_arg0) (ix3 (batch t) (line (rows t) r) (col (pair t) k)) := by
  have h0 := (batch t).isLt
  have h1 := (pair t).isLt
  have h2 := (rows t).isLt
  refine (show iblk m c 0 t (ix3 (0 : Fin 1) r k) = V m c main_arg0 (((cfg0.win 0).rect t).emb (ix3 (0 : Fin 1) r k)) from rfl).trans ?_
  refine (congrFun (V_main_arg0 m c) _).trans (congrArg (m ((c : Thread nD τ).loc main_arg0)) (funext fun a => Fin.ext ?_))
  refine (Pipeline.Window.rect_emb_val (cfg0.win 0) t _ a).trans ?_
  match a with
  | ⟨0, _⟩ => show (BitVec.ofNat 32 (batch t).val).toNat * 1 + 0 = (batch t).val; rw [word _ _ (by omega)]; omega
  | ⟨1, _⟩ => show (BitVec.ofNat 32 (rows t).val).toNat * 256 + r.val = 256 * (rows t).val + r.val; rw [word _ _ (by omega)]; omega
  | ⟨2, _⟩ => show (BitVec.ofNat 32 (pair t).val).toNat * 128 + k.val = 128 * (pair t).val + k.val; rw [word _ _ (by omega)]; omega

theorem iblk1 (c : Dev nD) (t : Fin cfg0.N) (r : Fin 4096) (k : Fin 128) :
    iblk m c 1 t (ix3 (0 : Fin 1) r k) = m ((c : Thread nD τ).loc main_arg1) (ix3 (batch t) r (col (pair t) k)) := by
  have h0 := (batch t).isLt
  have h1 := (pair t).isLt
  refine (show iblk m c 1 t (ix3 (0 : Fin 1) r k) = V m c main_arg1 (((cfg0.win 1).rect t).emb (ix3 (0 : Fin 1) r k)) from rfl).trans ?_
  refine (congrFun (V_main_arg1 m c) _).trans (congrArg (m ((c : Thread nD τ).loc main_arg1)) (funext fun a => Fin.ext ?_))
  refine (Pipeline.Window.rect_emb_val (cfg0.win 1) t _ a).trans ?_
  match a with
  | ⟨0, _⟩ => show (BitVec.ofNat 32 (batch t).val).toNat * 1 + 0 = (batch t).val; rw [word _ _ (by omega)]; omega
  | ⟨1, _⟩ => show 0 * 4096 + r.val = r.val; omega
  | ⟨2, _⟩ => show (BitVec.ofNat 32 (pair t).val).toNat * 128 + k.val = 128 * (pair t).val + k.val; rw [word _ _ (by omega)]; omega

theorem iblk2 (c : Dev nD) (t : Fin cfg0.N) (r : Fin 4096) (k : Fin 128) :
    iblk m c 2 t (ix3 (0 : Fin 1) r k) = m ((c : Thread nD τ).loc main_arg2) (ix3 (batch t) r (col (pair t) k)) := by
  have h0 := (batch t).isLt
  have h1 := (pair t).isLt
  refine (show iblk m c 2 t (ix3 (0 : Fin 1) r k) = V m c main_arg2 (((cfg0.win 2).rect t).emb (ix3 (0 : Fin 1) r k)) from rfl).trans ?_
  refine (congrFun (V_main_arg2 m c) _).trans (congrArg (m ((c : Thread nD τ).loc main_arg2)) (funext fun a => Fin.ext ?_))
  refine (Pipeline.Window.rect_emb_val (cfg0.win 2) t _ a).trans ?_
  match a with
  | ⟨0, _⟩ => show (BitVec.ofNat 32 (batch t).val).toNat * 1 + 0 = (batch t).val; rw [word _ _ (by omega)]; omega
  | ⟨1, _⟩ => show 0 * 4096 + r.val = r.val; omega
  | ⟨2, _⟩ => show (BitVec.ofNat 32 (pair t).val).toNat * 128 + k.val = 128 * (pair t).val + k.val; rw [word _ _ (by omega)]; omega

theorem iblk3 (c : Dev nD) (t : Fin cfg0.N) (r : Fin 16) (k : Fin 128) :
    iblk m c 3 t (ix3 (0 : Fin 1) r k) = m ((c : Thread nD τ).loc main_arg3) (ix3 (batch t) r (col (pair t) k)) := by
  have h0 := (batch t).isLt
  have h1 := (pair t).isLt
  refine (show iblk m c 3 t (ix3 (0 : Fin 1) r k) = V m c main_arg3 (((cfg0.win 3).rect t).emb (ix3 (0 : Fin 1) r k)) from rfl).trans ?_
  refine (congrFun (V_main_arg3 m c) _).trans (congrArg (m ((c : Thread nD τ).loc main_arg3)) (funext fun a => Fin.ext ?_))
  refine (Pipeline.Window.rect_emb_val (cfg0.win 3) t _ a).trans ?_
  match a with
  | ⟨0, _⟩ => show (BitVec.ofNat 32 (batch t).val).toNat * 1 + 0 = (batch t).val; rw [word _ _ (by omega)]; omega
  | ⟨1, _⟩ => show 0 * 16 + r.val = r.val; omega
  | ⟨2, _⟩ => show (BitVec.ofNat 32 (pair t).val).toNat * 128 + k.val = 128 * (pair t).val + k.val; rw [word _ _ (by omega)]; omega

theorem emb4 (t : Fin cfg0.N) (y : S1x256x128.Idx) :
    (((cfg0.win 4).rect t).emb y : S8x4096x512.Idx) = ix3 (batch t) (line (rows t) (y 1)) (col (pair t) (y 2)) := by
  have h0 := (batch t).isLt
  have h1 := (pair t).isLt
  have h2 := (rows t).isLt
  have hy : (y 0).val < 1 := (y 0).isLt
  refine funext fun a => Fin.ext ?_
  refine (Pipeline.Window.rect_emb_val (cfg0.win 4) t y a).trans ?_
  match a with
  | ⟨0, _⟩ => show (BitVec.ofNat 32 (batch t).val).toNat * 1 + (y 0).val = (batch t).val; rw [word _ _ (by omega)]; omega
  | ⟨1, _⟩ => show (BitVec.ofNat 32 (rows t).val).toNat * 256 + (y 1).val = 256 * (rows t).val + (y 1).val; rw [word _ _ (by omega)]; omega
  | ⟨2, _⟩ => show (BitVec.ofNat 32 (pair t).val).toNat * 128 + (y 2).val = 128 * (pair t).val + (y 2).val; rw [word _ _ (by omega)]; omega

/-- The scores' operands are real numbers. -/
def Finite : Prop := ∀ c : Dev nD, Reals (m ((c : Thread nD τ).loc main_arg0)) ∧ Reals (m ((c : Thread nD τ).loc main_arg1))

/-- What a point leaves in its output block is the reference's result there. -/
theorem after_eq (hF : Finite m) (c : Dev nD) (t : Fin cfg0.N) (y : S1x256x128.Idx) :
    outsAt0 m c t y = want m c (((cfg0.win 4).rect t).emb y) := by
  have hy : y = ix3 (0 : Fin 1) (y 1) (y 2) := by
    funext a
    match a with
    | ⟨0, _⟩ => exact Fin.ext (by have : (y 0).val < 1 := (y 0).isLt; show (y 0).val = 0; omega)
    | ⟨1, _⟩ => rfl
    | ⟨2, _⟩ => rfl
  rw [emb4 t y]
  unfold outsAt0
  rw [out_eq, hy]
  exact block_eq _ _ _ _ (batch t) (pair t) (rows t) _ _ _ _ (hF c).1 (hF c).2 (iblk0 m c t) (iblk1 m c t) (iblk2 m c t) (iblk3 m c t) (y 1) (y 2)

/-- Every element of the output array is in some point's block. -/
theorem cover (i : S8x4096x512.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 512 := (i 2).isLt
  have hN : (i 0).val * 64 + (i 2).val / 128 * 16 + (i 1).val / 256 < cfg0.N :=
    show (i 0).val * 64 + (i 2).val / 128 * 16 + (i 1).val / 256 < 512 by omega
  refine ⟨⟨_, hN⟩, flush0_4 _, ?_⟩
  have e : ((cfg0.win 4).rect ⟨_, hN⟩).emb
      (ix3 (0 : Fin 1) (⟨(i 1).val % 256, by omega⟩ : Fin 256) (⟨(i 2).val % 128, by omega⟩ : Fin 128)) = i := by
    refine (emb4 _ _).trans ?_
    have k0 := coords0 ⟨_, hN⟩
    have k1 := coords1 ⟨_, hN⟩
    have k2 := coords2 ⟨_, hN⟩
    funext a
    match a with
    | ⟨0, _⟩ => refine Fin.ext (k0.trans ?_); show ((i 0).val * 64 + (i 2).val / 128 * 16 + (i 1).val / 256) / 64 % 8 = (i 0).val; omega
    | ⟨1, _⟩ =>
      refine Fin.ext ((congrArg (fun z => 256 * z + (i 1).val % 256) k2).trans ?_)
      show 256 * (((i 0).val * 64 + (i 2).val / 128 * 16 + (i 1).val / 256) / 1 % 16) + (i 1).val % 256 = (i 1).val; omega
    | ⟨2, _⟩ =>
      refine Fin.ext ((congrArg (fun z => 128 * z + (i 2).val % 128) k1).trans ?_)
      show 128 * (((i 0).val * 64 + (i 2).val / 128 * 16 + (i 1).val / 256) / 16 % 4) + (i 2).val % 128 = (i 2).val; omega
  refine (congrArg (· ∈ _) e).mp ?_
  exact Finset.mem_map.mpr ⟨_, Finset.mem_univ _, rfl⟩

/-- An output array whose every block is that block of `G` is `G`. -/
theorem final_of (c : Dev nD) (G : Buf (Elt Ideal) ((c : Thread nD τ).loc main_v0))
    (h : ∀ (t : Fin cfg0.N) (y : S1x256x128.Idx), outsAt0 m c t y = G (((cfg0.win 4).rect t).emb y)) :
    (dats m 0 c).arrAt 4 cfg0.N = G := by
  refine (dats m 0 c).arrAt_eq_of_emb 4 G (fun t _ y => ?_) cover
  rw [after0_4]
  generalize outsAt0 m c = A at h
  exact h t y

/-- So the output array ends at the reference's result. -/
theorem final (hF : Finite m) (c : Dev nD) : (dats m 0 c).arrAt 4 cfg0.N = want m c :=
  final_of m c (want m c) (after_eq m hF c)

/-- The call's run: the result, and the arguments unchanged. -/
theorem run (hF : Finite m) : θ_run defs (onTc (τ := τ) (main (F := Ideal))) ⟨m, fun _ => 0, ρ⟩ fun r => ∀ c : Dev nD,
    r.2.mem ((c.tc : Thread nD τ).loc main_v0) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ k c => ⟨(k c).1.trans (final m hF c), (k c).2⟩) (run_blocks m ρ)

end Cert.Moba

end

end
-- ==== Proof.Moba.Claim.lean ====
/- The value claim about the attention call. -/
module

public import proofs.«01_k».proof.Defs
public import proofs.«01_k».proof.Proof.Gen.Pre_finite
public import proofs.«01_k».proof.Proof.Gen.ReferenceIdeal.Run
public import proofs.«01_k».proof.Proof.Moba.Call

@[expose] public section

set_option maxRecDepth 16384

noncomputable section

namespace Cert.Moba

open Idealize.ShloMosaic Idealize.ShloMosaic.TcCoe Idealize.SL.Sem

theorem pinf_eq : Ideal.ofBits .f32 0x7F800000#32 = ⊤ := by simp [Ideal.ofBits, Ideal.ieee]

theorem between (x : EReal)
    (hl : Ideal.cmp .ogt x (Ideal.ofBits .f32 0xFF800000#32) = 1#1) (hu : Ideal.cmp .olt x (Ideal.ofBits .f32 0x7F800000#32) = 1#1) : x ≠ ⊤ ∧ x ≠ ⊥ := by
  rw [ninf_eq] at hl
  rw [pinf_eq] at hu
  exact ⟨ne_of_lt ((bit_one _).mp hu), ne_of_gt ((bit_one _).mp hl)⟩

/-- What the precondition says: the first two arguments are real numbers. -/
theorem reals_of_pre (x0 x1 x2 : FVec Ideal Cert.Pre_finite.S8x4096x512 .bf16) (x3 : FVec Ideal Cert.Pre_finite.S8x16x512 .f32)
    (h : Cert.Pre_finite.fn (F := Ideal) x0 x1 x2 x3 = fun _ => 1#1) : Reals x0 ∧ Reals x1 := by
  have e (y : Cert.Pre_finite.S8x4096x512.Idx) : (x0 y ≠ (⊤ : EReal) ∧ x0 y ≠ (⊥ : EReal)) ∧ x1 y ≠ (⊤ : EReal) ∧ x1 y ≠ (⊥ : EReal) := by
    have e := congrFun h y
    have e' : IntOp.andi (IntOp.andi (IntOp.andi (Ideal.cmp .ogt (x0 y) (Ideal.ofBits .f32 0xFF800000#32)) (Ideal.cmp .olt (x0 y) (Ideal.ofBits .f32 0x7F800000#32)))
        (Ideal.cmp .ogt (x1 y) (Ideal.ofBits .f32 0xFF800000#32))) (Ideal.cmp .olt (x1 y) (Ideal.ofBits .f32 0x7F800000#32)) = 1#1 := e
    rw [andi_one, andi_one, andi_one] at e'
    exact ⟨between _ e'.1.1.1 e'.1.1.2, between _ e'.1.2 e'.2⟩
  exact ⟨fun y => (e y).1, fun y => (e y).2⟩

theorem algebraic : Cert.algebraic_KernelIdeal_ReferenceIdeal_pre_finite := by
  intro m ρ m' ρ' hpre hagree
  refine ⟨want m, run m ρ (fun c => reals_of_pre _ _ _ _ (hpre c)), ?_⟩
  refine (θ_run Cert.ReferenceIdeal.defs _ _).mono (fun r k c => ⟨(k c).1.trans ?_, (k c).2⟩) (Cert.ReferenceIdeal.Value.run (F := Ideal) m' ρ')
  refine (Cert.ReferenceIdeal.Read.val_main_v63_eq (F := Ideal) _ _).trans ?_
  obtain ⟨h0, h1, h2, h3⟩ := hagree c
  rw [h0, h1, h2, h3]
  rfl

end Cert.Moba

end

end
-- ==== Proof.Proj.Host.lean ====
/- The projection call: what its weights and tables hold when the grid starts. -/
module

public import proofs.«01_k».proof.Proof.Gen.Kernel3Ideal.Frame
public import Idealize.ShloMosaic.Lib.ValueIdx
public import Idealize.ShloMosaic.Lib.KernelVsHost
public import Idealize.ShloMosaic.Lib.Pointwise
public import Idealize.ShloMosaic.Lib.Pipeline.ValueKit.Point
public import Idealize.ShloMosaic.PureOps.Ideal.Laws

@[expose] public section

set_option maxRecDepth 16384

noncomputable section

namespace Cert.Proj

open Cert.Kernel3Ideal Cert.Kernel3Ideal.Gen Idealize.ShloMosaic Idealize.ShloMosaic.TcCoe

/-- The weights' columns in the order the kernel reads them. -/
def catW (w : FVec Ideal S1024x2456 .f32) : FVec Ideal S1024x2560 .bf16 :=
  truncf .bf16 (concatenate S1024x2560 1
    [⟨S1024x512, extractStridedSlice S1024x512 ![0, 0] w slices_S1024x2456_S1024x512_0_0⟩,
     ⟨S1024x384, concatenate S1024x384 1
       [⟨S1024x64, extractStridedSlice S1024x64 ![0, 512] w slices_S1024x2456_S1024x64_0_512⟩,
        ⟨S1024x64, extractStridedSlice S1024x64 ![0, 576] w slices_S1024x2456_S1024x64_0_576⟩,
        ⟨S1024x64, extractStridedSlice S1024x64 ![0, 640] w slices_S1024x2456_S1024x64_0_640⟩,
        ⟨S1024x64, extractStridedSlice S1024x64 ![0, 704] w slices_S1024x2456_S1024x64_0_704⟩,
        ⟨S1024x64, extractStridedSlice S1024x64 ![0, 768] w slices_S1024x2456_S1024x64_0_768⟩,
        ⟨S1024x64, extractStridedSlice S1024x64 ![0, 832] w slices_S1024x2456_S1024x64_0_832⟩]
       concatenates_S1024x64_S1024x64_S1024x64_S1024x64_S1024x64_S1024x64_S1024x384_d1⟩,
     ⟨S1024x128, pad S1024x128 ![0, 0] ![0, 104] ![0, 0] (extractStridedSlice S1024x24 ![0, 896] w slices_S1024x2456_S1024x24_0_896)
       (sitofp .f32 (constantI S_ 32 0#32)) pads_S1024x24_S1024x128_000_01040 h_S_⟩,
     ⟨S1024x512, extractStridedSlice S1024x512 ![0, 920] w slices_S1024x2456_S1024x512_0_920⟩,
     ⟨S1024x512, extractStridedSlice S1024x512 ![0, 1432] w slices_S1024x2456_S1024x512_0_1432⟩,
     ⟨S1024x512, extractStridedSlice S1024x512 ![0, 1944] w slices_S1024x2456_S1024x512_0_1944⟩]
    concatenates_S1024x512_S1024x384_S1024x128_S1024x512_S1024x512_S1024x512_S1024x2560_d1) bitsLt_bf16_f32

/-- The angles, and the tables of one head. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))
def headC : FVec Ideal S4096x64 .f32 :=
  concatenate S4096x64 1 [⟨S4096x32, Host.cos ang⟩, ⟨S4096x32, Host.cos ang⟩] concatenates_S4096x32_S4096x32_S4096x64_d1
def headS : FVec Ideal S4096x64 .f32 :=
  concatenate S4096x64 1 [⟨S4096x32, Host.negf (Host.sin ang)⟩, ⟨S4096x32, Host.sin ang⟩] concatenates_S4096x32_S4096x32_S4096x64_d1

/-- A head's table repeated for eight heads, and for three heads with a given table between. -/
def tile8 (v : FVec Ideal S4096x64 .f32) : FVec Ideal S4096x512 .f32 :=
  shapeCast S4096x512 (broadcastInDim S1x4096x8x64 ![0, 1, 2, 3] bcast_S1x4096x1x64_S1x4096x8x64_0_1_2_3
    (shapeCast S1x4096x1x64 v shapeCasts_S4096x64_S1x4096x1x64)) shapeCasts_S1x4096x8x64_S4096x512
def tile3 (v u : FVec Ideal S4096x64 .f32) : FVec Ideal S4096x384 .f32 :=
  concatenate S4096x384 1 [⟨S4096x64, v⟩, ⟨S4096x64, u⟩, ⟨S4096x64, v⟩, ⟨S4096x64, u⟩, ⟨S4096x64, v⟩, ⟨S4096x64, u⟩]
    concatenates_S4096x64_S4096x64_S4096x64_S4096x64_S4096x64_S4096x64_S4096x384_d1
def fill (x : BitVec 32) : FVec Ideal S4096x64 .f32 := broadcastInDim S4096x64 ![] bcast_S_S4096x64 (constant S_ .f32 x)

variable (m : (ℓ : Loc nD τ sig) → Buf (Elt Ideal) ℓ)

theorem V_w (c : Dev nD) : V m c main_v14 = catW (m ((c : Thread nD τ).loc main_arg3)) := by
  unfold catW
  show StableHlo.after (List.flatten [hostOps0, hostOps0_1, hostOps0_2]) _ (Proc.devRef .tc main_v14) = _
  simp only [hostOps0, hostOps0_1, hostOps0_2, List.flatten_cons, List.flatten_nil, List.append_nil, List.cons_append, List.nil_append]
  after_results
  all_goals rfl

theorem V_cq (c : Dev nD) : V m c main_v38 = tile8 headC := by
  unfold tile8 headC ang
  show StableHlo.after (List.flatten [hostOps0, hostOps0_1, hostOps0_2]) _ (Proc.devRef .tc main_v38) = _
  simp only [hostOps0, hostOps0_1, hostOps0_2, List.flatten_cons, List.flatten_nil, List.append_nil, List.cons_append, List.nil_append]
  after_results
  all_goals rfl

theorem V_sq (c : Dev nD) : V m c main_v41 = tile8 headS := by
  unfold tile8 headS ang
  show StableHlo.after (List.flatten [hostOps0, hostOps0_1, hostOps0_2]) _ (Proc.devRef .tc main_v41) = _
  simp only [hostOps0, hostOps0_1, hostOps0_2, List.flatten_cons, List.flatten_nil, List.append_nil, List.cons_append, List.nil_append]
  after_results
  all_goals rfl

theorem V_ckv (c : Dev nD) : V m c main_v44 = tile3 headC (fill 0x3F800000#32) := by
  unfold tile3 headC ang fill
  show StableHlo.after (List.flatten [hostOps0, hostOps0_1, hostOps0_2]) _ (Proc.devRef .tc main_v44) = _
  simp only [hostOps0, hostOps0_1, hostOps0_2, List.flatten_cons, List.flatten_nil, List.append_nil, List.cons_append, List.nil_append]
  after_results
  all_goals rfl

theorem V_skv (c : Dev nD) : V m c main_v45 = tile3 headS (fill 0x00000000#32) := by
  unfold tile3 headS ang fill
  show StableHlo.after (List.flatten [hostOps0, hostOps0_1, hostOps0_2]) _ (Proc.devRef .tc main_v45) = _
  simp only [hostOps0, hostOps0_1, hostOps0_2, List.flatten_cons, List.flatten_nil, List.append_nil, List.cons_append, List.nil_append]
  after_results
  all_goals rfl

theorem V_g (c : Dev nD) : V m c main_v46 = shapeCast S1x1024 (m ((c : Thread nD τ).loc main_arg2)) shapeCasts_S1024_S1x1024 := by
  show StableHlo.after (List.flatten [hostOps0, hostOps0_1, hostOps0_2]) _ (Proc.devRef .tc main_v46) = _
  simp only [hostOps0, hostOps0_1, hostOps0_2, List.flatten_cons, List.flatten_nil, List.append_nil, List.cons_append, List.nil_append]
  after_results
  all_goals rfl

end Cert.Proj

end

end
-- ==== Proof.Proj.Spec.lean ====
/- The projection call: the reference's rotary embedding, element by element, over the extended reals. -/
module

public import proofs.«01_k».proof.Proof.Gen.Reference3Ideal.Read
public import Idealize.ShloMosaic.Lib.ValueIdx
public import Idealize.ShloMosaic.Lib.Pointwise
public import Idealize.ShloMosaic.PureOps.Ideal.Laws

@[expose] public section

set_option maxRecDepth 16384

noncomputable section

namespace Cert.Proj

open Cert.Reference3Ideal Cert.Reference3Ideal.Gen Cert.Reference3Ideal.Read Idealize.ShloMosaic Idealize.ShloMosaic.TcCoe

/-- The cosine and the sine of the angle of position `s` and frequency `j`. -/
def CO (s : Fin 4096) (j : ℕ) : EReal := if h : j < 32 then val_main_v49 (F := Ideal) (ValueIdx.ix2 s ⟨j, h⟩) else 0
def SI (s : Fin 4096) (j : ℕ) : EReal := if h : j < 32 then val_main_v51 (F := Ideal) (ValueIdx.ix2 s ⟨j, h⟩) else 0

/-- The rotary embedding of a row `p` made of heads of 64 columns, at column `k`. -/
def rotv (p c s : ℕ → EReal) (k : ℕ) : EReal :=
  if k % 64 < 32 then p k * c (k % 64) - p (k + 32) * s (k % 64)
  else p k * c (k % 64 - 32) + p (k - 32) * s (k % 64 - 32)

theorem cos8 (b : Fin 8) (s : Fin 4096) (h : Fin 8) (j : Fin 32) : val_main_v57 (F := Ideal) (ValueIdx.ix4 b s h j) = CO s j.val := by
  refine Eq.trans ?_ (dif_pos j.isLt).symm
  rw [val_main_v57_apply, val_main_v56_apply, val_main_v50_apply]
  refine congrArg (val_main_v49 (F := Ideal)) (funext fun a => ?_)
  match a with
  | ⟨0, _⟩ => rfl
  | ⟨1, _⟩ => rfl

theorem sin8 (b : Fin 8) (s : Fin 4096) (h : Fin 8) (j : Fin 32) : val_main_v60 (F := Ideal) (ValueIdx.ix4 b s h j) = SI s j.val := by
  refine Eq.trans ?_ (dif_pos j.isLt).symm
  rw [val_main_v60_apply, val_main_v59_apply, val_main_v52_apply]
  refine congrArg (val_main_v51 (F := Ideal)) (funext fun a => ?_)
  match a with
  | ⟨0, _⟩ => rfl
  | ⟨1, _⟩ => rfl

theorem cos1 (b : Fin 8) (s : Fin 4096) (h : Fin 1) (j : Fin 32) : val_main_v110 (F := Ideal) (ValueIdx.ix4 b s h j) = CO s j.val := by
  refine Eq.trans ?_ (dif_pos j.isLt).symm
  rw [val_main_v110_apply, val_main_v109_apply, val_main_v50_apply]
  refine congrArg (val_main_v49 (F := Ideal)) (funext fun a => ?_)
  match a with
  | ⟨0, _⟩ => rfl
  | ⟨1, _⟩ => rfl

theorem sin1 (b : Fin 8) (s : Fin 4096) (h : Fin 1) (j : Fin 32) : val_main_v113 (F := Ideal) (ValueIdx.ix4 b s h j) = SI s j.val := by
  refine Eq.trans ?_ (dif_pos j.isLt).symm
  rw [val_main_v113_apply, val_main_v112_apply, val_main_v52_apply]
  refine congrArg (val_main_v51 (F := Ideal)) (funext fun a => ?_)
  match a with
  | ⟨0, _⟩ => rfl
  | ⟨1, _⟩ => rfl

/-- The first and the second half of every head. -/
def fst8 (t : FVec Ideal S8x4096x512 .f32) : FVec Ideal S8x4096x8x32 .f32 :=
  extractStridedSlice S8x4096x8x32 ![0, 0, 0, 0] (shapeCast S8x4096x8x64 t shapeCasts_S8x4096x512_S8x4096x8x64) slices_S8x4096x8x64_S8x4096x8x32_0_0_0_0
def snd8 (t : FVec Ideal S8x4096x512 .f32) : FVec Ideal S8x4096x8x32 .f32 :=
  extractStridedSlice S8x4096x8x32 ![0, 0, 0, 32] (shapeCast S8x4096x8x64 t shapeCasts_S8x4096x512_S8x4096x8x64) slices_S8x4096x8x64_S8x4096x8x32_0_0_0_32

/-- The reference's rotary embedding of eight heads. -/
def rope8 (t : FVec Ideal S8x4096x512 .f32) : FVec Ideal S8x4096x512 .f32 :=
  shapeCast S8x4096x512 (concatenate S8x4096x8x64 3
    [⟨S8x4096x8x32, subf (mulf (fst8 t) (val_main_v57 (F := Ideal))) (mulf (snd8 t) (val_main_v60 (F := Ideal)))⟩,
     ⟨S8x4096x8x32, addf (mulf (snd8 t) (val_main_v57 (F := Ideal))) (mulf (fst8 t) (val_main_v60 (F := Ideal)))⟩]
    concatenates_S8x4096x8x32_S8x4096x8x32_S8x4096x8x64_d3) shapeCasts_S8x4096x8x64_S8x4096x512

def fst1 (t : FVec Ideal S8x4096x64 .f32) : FVec Ideal S8x4096x1x32 .f32 :=
  extractStridedSlice S8x4096x1x32 ![0, 0, 0, 0] (shapeCast S8x4096x1x64 t shapeCasts_S8x4096x64_S8x4096x1x64) slices_S8x4096x1x64_S8x4096x1x32_0_0_0_0
def snd1 (t : FVec Ideal S8x4096x64 .f32) : FVec Ideal S8x4096x1x32 .f32 :=
  extractStridedSlice S8x4096x1x32 ![0, 0, 0, 32] (shapeCast S8x4096x1x64 t shapeCasts_S8x4096x64_S8x4096x1x64) slices_S8x4096x1x64_S8x4096x1x32_0_0_0_32

/-- The reference's rotary embedding of one head. -/
def rope1 (t : FVec Ideal S8x4096x64 .f32) : FVec Ideal S8x4096x64 .f32 :=
  shapeCast S8x4096x64 (concatenate S8x4096x1x64 3
    [⟨S8x4096x1x32, subf (mulf (fst1 t) (val_main_v110 (F := Ideal))) (mulf (snd1 t) (val_main_v113 (F := Ideal)))⟩,
     ⟨S8x4096x1x32, addf (mulf (snd1 t) (val_main_v110 (F := Ideal))) (mulf (fst1 t) (val_main_v113 (F := Ideal)))⟩]
    concatenates_S8x4096x1x32_S8x4096x1x32_S8x4096x1x64_d3) shapeCasts_S8x4096x1x64_S8x4096x64

theorem fst8_apply (t : FVec Ideal S8x4096x512 .f32) (b : Fin 8) (s : Fin 4096) (h : Fin 8) (j : Fin 32) (k : Fin 512) (hk : k.val = 64 * h.val + j.val) :
    fst8 t (ValueIdx.ix4 b s h j) = t (ValueIdx.ix3 b s k) := by
  unfold fst8
  refine (extractStridedSlice_apply _ _ _ (ValueIdx.ix4 b s h j) (ValueIdx.ix4 b s h (⟨j.val, by omega⟩ : Fin 64)) (fun a => ?_)).trans ?_
  · match a with
    | ⟨0, _⟩ => show b.val = 0 + b.val; omega
    | ⟨1, _⟩ => show s.val = 0 + s.val; omega
    | ⟨2, _⟩ => show h.val = 0 + h.val; omega
    | ⟨3, _⟩ => show j.val = 0 + j.val; omega
  · refine shapeCast_apply t _ _ (ValueIdx.ix3 b s k) ?_
    rewrite [Shape.rowMajor_val_three, Shape.rowMajor_val_four]
    show (b.val * 4096 + s.val) * 512 + k.val = ((b.val * 4096 + s.val) * 8 + h.val) * 64 + j.val
    omega

theorem snd8_apply (t : FVec Ideal S8x4096x512 .f32) (b : Fin 8) (s : Fin 4096) (h : Fin 8) (j : Fin 32) (k : Fin 512) (hk : k.val = 64 * h.val + j.val + 32) :
    snd8 t (ValueIdx.ix4 b s h j) = t (ValueIdx.ix3 b s k) := by
  unfold snd8
  refine (extractStridedSlice_apply _ _ _ (ValueIdx.ix4 b s h j) (ValueIdx.ix4 b s h (⟨32 + j.val, by omega⟩ : Fin 64)) (fun a => ?_)).trans ?_
  · match a with
    | ⟨0, _⟩ => show b.val = 0 + b.val; omega
    | ⟨1, _⟩ => show s.val = 0 + s.val; omega
    | ⟨2, _⟩ => show h.val = 0 + h.val; omega
    | ⟨3, _⟩ => rfl
  · refine shapeCast_apply t _ _ (ValueIdx.ix3 b s k) ?_
    rewrite [Shape.rowMajor_val_three, Shape.rowMajor_val_four]
    show (b.val * 4096 + s.val) * 512 + k.val = ((b.val * 4096 + s.val) * 8 + h.val) * 64 + (32 + j.val)
    omega

theorem rope8_apply (t : FVec Ideal S8x4096x512 .f32) (p : ℕ → EReal) (b : Fin 8) (s : Fin 4096)
    (hp : ∀ k : Fin 512, t (ValueIdx.ix3 b s k) = p k.val) (k : Fin 512) : rope8 t (ValueIdx.ix3 b s k) = rotv p (CO s) (SI s) k.val := by
  have hk := k.isLt
  unfold rope8
  refine (shapeCast_apply _ _ (ValueIdx.ix3 b s k) (ValueIdx.ix4 b s (⟨k.val / 64, by omega⟩ : Fin 8) (⟨k.val % 64, by omega⟩ : Fin 64)) ?_).trans ?_
  · rewrite [Shape.rowMajor_val_three, Shape.rowMajor_val_four]
    show ((b.val * 4096 + s.val) * 8 + k.val / 64) * 64 + k.val % 64 = (b.val * 4096 + s.val) * 512 + k.val
    omega
  unfold rotv
  by_cases hlo : k.val % 64 < 32
  · rw [if_pos hlo]
    refine (concatenate_pair_apply_left (s₁ := S8x4096x8x32) (s₂ := S8x4096x8x32) (t := S8x4096x8x64) 3 _ _ _ _ rfl
      (ValueIdx.ix4 b s (⟨k.val / 64, by omega⟩ : Fin 8) (⟨k.val % 64, hlo⟩ : Fin 32)) (fun a => ?_)).trans ?_
    · match a with
      | ⟨0, _⟩ => rfl
      | ⟨1, _⟩ => rfl
      | ⟨2, _⟩ => rfl
      | ⟨3, _⟩ => rfl
    · show (fst8 t _ * val_main_v57 (F := Ideal) _ - snd8 t _ * val_main_v60 (F := Ideal) _ : EReal) = _
      rw [fst8_apply t b s (⟨k.val / 64, by omega⟩ : Fin 8) (⟨k.val % 64, hlo⟩ : Fin 32) k (by show k.val = 64 * (k.val / 64) + k.val % 64; omega),
        snd8_apply t b s (⟨k.val / 64, by omega⟩ : Fin 8) (⟨k.val % 64, hlo⟩ : Fin 32) (⟨k.val + 32, by omega⟩ : Fin 512) (by show k.val + 32 = 64 * (k.val / 64) + k.val % 64 + 32; omega),
        cos8, sin8, hp, hp]
  · rw [if_neg hlo]
    refine (concatenate_pair_apply_right (s₁ := S8x4096x8x32) (s₂ := S8x4096x8x32) (t := S8x4096x8x64) 3 _ _ _ _ rfl rfl
      (ValueIdx.ix4 b s (⟨k.val / 64, by omega⟩ : Fin 8) (⟨k.val % 64 - 32, by omega⟩ : Fin 32)) (fun a ha => ?_) ?_).trans ?_
    · match a with
      | ⟨0, _⟩ => rfl
      | ⟨1, _⟩ => rfl
      | ⟨2, _⟩ => rfl
      | ⟨3, _⟩ => exact absurd rfl ha
    · show k.val % 64 - 32 + 32 = k.val % 64
      omega
    · show (snd8 t _ * val_main_v57 (F := Ideal) _ + fst8 t _ * val_main_v60 (F := Ideal) _ : EReal) = _
      rw [snd8_apply t b s (⟨k.val / 64, by omega⟩ : Fin 8) (⟨k.val % 64 - 32, by omega⟩ : Fin 32) k (by show k.val = 64 * (k.val / 64) + (k.val % 64 - 32) + 32; omega),
        fst8_apply t b s (⟨k.val / 64, by omega⟩ : Fin 8) (⟨k.val % 64 - 32, by omega⟩ : Fin 32) (⟨k.val - 32, by omega⟩ : Fin 512) (by show k.val - 32 = 64 * (k.val / 64) + (k.val % 64 - 32); omega),
        cos8, sin8, hp, hp]

theorem fst1_apply (t : FVec Ideal S8x4096x64 .f32) (b : Fin 8) (s : Fin 4096) (h : Fin 1) (j : Fin 32) (k : Fin 64) (hk : k.val = j.val) :
    fst1 t (ValueIdx.ix4 b s h j) = t (ValueIdx.ix3 b s k) := by
  unfold fst1
  refine (extractStridedSlice_apply _ _ _ (ValueIdx.ix4 b s h j) (ValueIdx.ix4 b s h (⟨j.val, by omega⟩ : Fin 64)) (fun a => ?_)).trans ?_
  · match a with
    | ⟨0, _⟩ => show b.val = 0 + b.val; omega
    | ⟨1, _⟩ => show s.val = 0 + s.val; omega
    | ⟨2, _⟩ => show h.val = 0 + h.val; omega
    | ⟨3, _⟩ => show j.val = 0 + j.val; omega
  · refine shapeCast_apply t _ _ (ValueIdx.ix3 b s k) ?_
    rewrite [Shape.rowMajor_val_three, Shape.rowMajor_val_four]
    show (b.val * 4096 + s.val) * 64 + k.val = ((b.val * 4096 + s.val) * 1 + h.val) * 64 + j.val
    omega

theorem snd1_apply (t : FVec Ideal S8x4096x64 .f32) (b : Fin 8) (s : Fin 4096) (h : Fin 1) (j : Fin 32) (k : Fin 64) (hk : k.val = j.val + 32) :
    snd1 t (ValueIdx.ix4 b s h j) = t (ValueIdx.ix3 b s k) := by
  unfold snd1
  refine (extractStridedSlice_apply _ _ _ (ValueIdx.ix4 b s h j) (ValueIdx.ix4 b s h (⟨32 + j.val, by omega⟩ : Fin 64)) (fun a => ?_)).trans ?_
  · match a with
    | ⟨0, _⟩ => show b.val = 0 + b.val; omega
    | ⟨1, _⟩ => show s.val = 0 + s.val; omega
    | ⟨2, _⟩ => show h.val = 0 + h.val; omega
    | ⟨3, _⟩ => rfl
  · refine shapeCast_apply t _ _ (ValueIdx.ix3 b s k) ?_
    rewrite [Shape.rowMajor_val_three, Shape.rowMajor_val_four]
    show (b.val * 4096 + s.val) * 64 + k.val = ((b.val * 4096 + s.val) * 1 + h.val) * 64 + (32 + j.val)
    omega

theorem rope1_apply (t : FVec Ideal S8x4096x64 .f32) (p : ℕ → EReal) (b : Fin 8) (s : Fin 4096)
    (hp : ∀ k : Fin 64, t (ValueIdx.ix3 b s k) = p k.val) (k : Fin 64) : rope1 t (ValueIdx.ix3 b s k) = rotv p (CO s) (SI s) k.val := by
  have hk := k.isLt
  unfold rope1
  refine (shapeCast_apply _ _ (ValueIdx.ix3 b s k) (ValueIdx.ix4 b s (0 : Fin 1) k) ?_).trans ?_
  · rewrite [Shape.rowMajor_val_three, Shape.rowMajor_val_four]
    show ((b.val * 4096 + s.val) * 1 + 0) * 64 + k.val = (b.val * 4096 + s.val) * 64 + k.val
    omega
  unfold rotv
  have e : k.val % 64 = k.val := by omega
  rw [e]
  by_cases hlo : k.val < 32
  · rw [if_pos hlo]
    refine (concatenate_pair_apply_left (s₁ := S8x4096x1x32) (s₂ := S8x4096x1x32) (t := S8x4096x1x64) 3 _ _ _ _ rfl
      (ValueIdx.ix4 b s (0 : Fin 1) (⟨k.val, hlo⟩ : Fin 32)) (fun a => ?_)).trans ?_
    · match a with
      | ⟨0, _⟩ => rfl
      | ⟨1, _⟩ => rfl
      | ⟨2, _⟩ => rfl
      | ⟨3, _⟩ => rfl
    · show (fst1 t _ * val_main_v110 (F := Ideal) _ - snd1 t _ * val_main_v113 (F := Ideal) _ : EReal) = _
      rw [fst1_apply t b s (0 : Fin 1) (⟨k.val, hlo⟩ : Fin 32) k rfl, snd1_apply t b s (0 : Fin 1) (⟨k.val, hlo⟩ : Fin 32) (⟨k.val + 32, by omega⟩ : Fin 64) rfl, cos1, sin1, hp, hp]
  · rw [if_neg hlo]
    refine (concatenate_pair_apply_right (s₁ := S8x4096x1x32) (s₂ := S8x4096x1x32) (t := S8x4096x1x64) 3 _ _ _ _ rfl rfl
      (ValueIdx.ix4 b s (0 : Fin 1) (⟨k.val - 32, by omega⟩ : Fin 32)) (fun a ha => ?_) ?_).trans ?_
    · match a with
      | ⟨0, _⟩ => rfl
      | ⟨1, _⟩ => rfl
      | ⟨2, _⟩ => rfl
      | ⟨3, _⟩ => exact absurd rfl ha
    · show k.val - 32 + 32 = k.val
      omega
    · show (snd1 t _ * val_main_v110 (F := Ideal) _ + fst1 t _ * val_main_v113 (F := Ideal) _ : EReal) = _
      rw [snd1_apply t b s (0 : Fin 1) (⟨k.val - 32, by omega⟩ : Fin 32) k (by show k.val = k.val - 32 + 32; omega),
        fst1_apply t b s (0 : Fin 1) (⟨k.val - 32, by omega⟩ : Fin 32) (⟨k.val - 32, by omega⟩ : Fin 64) rfl, cos1, sin1, hp, hp]

end Cert.Proj

end

end
-- ==== Proof.Proj.HostVal.lean ====
/- The projection call: the weights and tables of the grid, element by element. -/
module

public import proofs.«01_k».proof.Proof.Proj.Host
public import proofs.«01_k».proof.Proof.Proj.Spec

@[expose] public section

set_option maxRecDepth 16384

noncomputable section

namespace Cert.Proj

open Cert.Kernel3Ideal Cert.Kernel3Ideal.Gen Idealize.ShloMosaic Idealize.ShloMosaic.TcCoe

/-- The kernel's angles are the reference's. -/
theorem ang_eq : ang = Cert.Reference3Ideal.Read.val_main_v48 (F := Ideal) := by
  unfold ang
  unfold Cert.Reference3Ideal.Read.val_main_v48 Cert.Reference3Ideal.Read.val_main_v47 Cert.Reference3Ideal.Read.val_main_v46
    Cert.Reference3Ideal.Read.val_main_v45 Cert.Reference3Ideal.Read.val_main_v44 Cert.Reference3Ideal.Read.val_main_v43
    Cert.Reference3Ideal.Read.val_main_v42 Cert.Reference3Ideal.Read.val_main_v41 Cert.Reference3Ideal.Read.val_main_v40
    Cert.Reference3Ideal.Read.val_main_v39 Cert.Reference3Ideal.Read.val_main_v38 Cert.Reference3Ideal.Read.val_main_v37
    Cert.Reference3Ideal.Read.val_main_v36 Cert.Reference3Ideal.Read.val_main_v35 Cert.Reference3Ideal.Read.val_main_v34
    Cert.Reference3Ideal.Read.val_main_v33
  rfl

theorem cos_eq (s : Fin 4096) (j : Fin 32) : Host.cos ang (ValueIdx.ix2 s j) = CO s j.val := by
  rw [ang_eq]
  refine Eq.trans ?_ (dif_pos j.isLt).symm
  rfl

theorem sin_eq (s : Fin 4096) (j : Fin 32) : Host.sin ang (ValueIdx.ix2 s j) = SI s j.val := by
  rw [ang_eq]
  refine Eq.trans ?_ (dif_pos j.isLt).symm
  rfl

theorem nsin_eq (s : Fin 4096) (j : Fin 32) : Host.negf (Host.sin ang) (ValueIdx.ix2 s j) = -SI s j.val :=
  congrArg (fun z : EReal => -z) (sin_eq s j)

theorem pair_apply (a b : FVec Ideal S4096x32 .f32) (s : Fin 4096) (k : Fin 64) :
    concatenate S4096x64 1 [⟨S4096x32, a⟩, ⟨S4096x32, b⟩] concatenates_S4096x32_S4096x32_S4096x64_d1 (ValueIdx.ix2 s k)
      = if h : k.val < 32 then a (ValueIdx.ix2 s ⟨k.val, h⟩) else b (ValueIdx.ix2 s ⟨k.val - 32, by omega⟩) := by
  have hk := k.isLt
  by_cases h : k.val < 32
  · rw [dif_pos h]
    exact concatenate_apply_piece (t := S4096x64) 1 _ _ (ValueIdx.ix2 s k) 0 (by show 0 < 2; omega) S4096x32 _ rfl rfl 0 rfl (ValueIdx.ix2 s (⟨k.val, h⟩ : Fin 32)) (fun b hb => by
      match b with
      | ⟨0, _⟩ => rfl
      | ⟨1, _⟩ => exact absurd rfl hb) (by show 0 + k.val = k.val; omega)
  · rw [dif_neg h]
    exact concatenate_apply_piece (t := S4096x64) 1 _ _ (ValueIdx.ix2 s k) 1 (by show 1 < 2; omega) S4096x32 _ rfl rfl 32 rfl (ValueIdx.ix2 s (⟨k.val - 32, by omega⟩ : Fin 32)) (fun b hb => by
      match b with
      | ⟨0, _⟩ => rfl
      | ⟨1, _⟩ => exact absurd rfl hb) (by show 32 + (k.val - 32) = k.val; omega)

theorem headC_apply (s : Fin 4096) (k : Fin 64) : headC (ValueIdx.ix2 s k) = if k.val < 32 then CO s k.val else CO s (k.val - 32) := by
  unfold headC
  rw [pair_apply]
  split
  · exact cos_eq s _
  · exact cos_eq s _

theorem headS_apply (s : Fin 4096) (k : Fin 64) : headS (ValueIdx.ix2 s k) = if k.val < 32 then -SI s k.val else SI s (k.val - 32) := by
  unfold headS
  rw [pair_apply]
  split
  · exact nsin_eq s _
  · exact sin_eq s _

theorem tile8_apply (v : FVec Ideal S4096x64 .f32) (s : Fin 4096) (k : Fin 512) :
    tile8 v (ValueIdx.ix2 s k) = v (ValueIdx.ix2 s ⟨k.val % 64, by omega⟩) := by
  have hk := k.isLt
  unfold tile8
  refine (shapeCast_apply _ shapeCasts_S1x4096x8x64_S4096x512 (ValueIdx.ix2 s k) (ValueIdx.ix4 (0 : Fin 1) s (⟨k.val / 64, by omega⟩ : Fin 8) (⟨k.val % 64, by omega⟩ : Fin 64)) ?_).trans ?_
  · rewrite [Shape.rowMajor_val_two, Shape.rowMajor_val_four]
    show ((0 * 4096 + s.val) * 8 + k.val / 64) * 64 + k.val % 64 = s.val * 512 + k.val
    omega
  refine (broadcastInDim_apply _ _ _ _ (ValueIdx.ix4 (0 : Fin 1) s (0 : Fin 1) (⟨k.val % 64, by omega⟩ : Fin 64)) (fun a => ?_)).trans ?_
  · match a with
    | ⟨0, _⟩ => rfl
    | ⟨1, _⟩ => rfl
    | ⟨2, _⟩ => rfl
    | ⟨3, _⟩ => rfl
  · refine shapeCast_apply v _ _ (ValueIdx.ix2 s (⟨k.val % 64, by omega⟩ : Fin 64)) ?_
    rewrite [Shape.rowMajor_val_two, Shape.rowMajor_val_four]
    show s.val * 64 + k.val % 64 = ((0 * 4096 + s.val) * 1 + 0) * 64 + k.val % 64
    omega

theorem tile3_apply (v u : FVec Ideal S4096x64 .f32) (s : Fin 4096) (k : Fin 384) :
    tile3 v u (ValueIdx.ix2 s k) = if k.val % 128 < 64 then v (ValueIdx.ix2 s ⟨k.val % 64, by omega⟩) else u (ValueIdx.ix2 s ⟨k.val % 64, by omega⟩) := by
  have hk := k.isLt
  unfold tile3
  obtain h | h | h | h | h | h : k.val / 64 = 0 ∨ k.val / 64 = 1 ∨ k.val / 64 = 2 ∨ k.val / 64 = 3 ∨ k.val / 64 = 4 ∨ k.val / 64 = 5 := by omega
  all_goals
    first
    | rw [if_pos (show k.val % 128 < 64 by omega)]
    | rw [if_neg (show ¬k.val % 128 < 64 by omega)]
    refine concatenate_apply_piece (t := S4096x384) 1 _ _ (ValueIdx.ix2 s k) (k.val / 64) (by show _ < 6; omega) S4096x64 _ (by simp only [h]; rfl) rfl (k.val / 64 * 64) (by simp only [h]; rfl) (ValueIdx.ix2 s (⟨k.val % 64, by omega⟩ : Fin 64)) (fun b hb => ?_) ?_
    · match b with
      | ⟨0, _⟩ => rfl
      | ⟨1, _⟩ => exact absurd rfl hb
    · show k.val / 64 * 64 + k.val % 64 = k.val
      omega

/-- The tables of the queries and of the compressed keys and values. -/
theorem cq_apply (s : Fin 4096) (k : Fin 512) : tile8 headC (ValueIdx.ix2 s k) = if k.val % 64 < 32 then CO s (k.val % 64) else CO s (k.val % 64 - 32) := by
  rw [tile8_apply, headC_apply]
theorem sq_apply (s : Fin 4096) (k : Fin 512) : tile8 headS (ValueIdx.ix2 s k) = if k.val % 64 < 32 then -SI s (k.val % 64) else SI s (k.val % 64 - 32) := by
  rw [tile8_apply, headS_apply]
theorem ckv_apply (s : Fin 4096) (k : Fin 384) :
    tile3 headC (fill 0x3F800000#32) (ValueIdx.ix2 s k) = if k.val % 128 < 64 then (if k.val % 64 < 32 then CO s (k.val % 64) else CO s (k.val % 64 - 32)) else Ideal.ofBits .f32 0x3F800000#32 := by
  rw [tile3_apply, headC_apply]
  rfl
theorem skv_apply (s : Fin 4096) (k : Fin 384) :
    tile3 headS (fill 0x00000000#32) (ValueIdx.ix2 s k) = if k.val % 128 < 64 then (if k.val % 64 < 32 then -SI s (k.val % 64) else SI s (k.val % 64 - 32)) else Ideal.ofBits .f32 0x00000000#32 := by
  rw [tile3_apply, headS_apply]
  rfl

theorem cut_apply {n : ℕ} (w : FVec Ideal S1024x2456 .f32) (o : ℕ) (h : S1024x2456.Slices ![0, o] ⟨2, ![1024, n]⟩) (d : Fin 1024) (k : Fin n) (hk : o + k.val < 2456) :
    extractStridedSlice ⟨2, ![1024, n]⟩ ![0, o] w h (ValueIdx.ix2 d k) = w (ValueIdx.ix2 d ⟨o + k.val, hk⟩) := by
  refine extractStridedSlice_apply _ _ _ (ValueIdx.ix2 d k) _ (fun a => ?_)
  match a with
  | ⟨0, _⟩ => show d.val = 0 + d.val; omega
  | ⟨1, _⟩ => rfl

theorem kv_apply (w : FVec Ideal S1024x2456 .f32) (d : Fin 1024) (k : Fin 384) :
    concatenate S1024x384 1
       [⟨S1024x64, extractStridedSlice S1024x64 ![0, 512] w slices_S1024x2456_S1024x64_0_512⟩,
        ⟨S1024x64, extractStridedSlice S1024x64 ![0, 576] w slices_S1024x2456_S1024x64_0_576⟩,
        ⟨S1024x64, extractStridedSlice S1024x64 ![0, 640] w slices_S1024x2456_S1024x64_0_640⟩,
        ⟨S1024x64, extractStridedSlice S1024x64 ![0, 704] w slices_S1024x2456_S1024x64_0_704⟩,
        ⟨S1024x64, extractStridedSlice S1024x64 ![0, 768] w slices_S1024x2456_S1024x64_0_768⟩,
        ⟨S1024x64, extractStridedSlice S1024x64 ![0, 832] w slices_S1024x2456_S1024x64_0_832⟩]
       concatenates_S1024x64_S1024x64_S1024x64_S1024x64_S1024x64_S1024x64_S1024x384_d1 (ValueIdx.ix2 d k)
      = w (ValueIdx.ix2 d ⟨512 + k.val, by omega⟩) := by
  have hk := k.isLt
  obtain h | h | h | h | h | h : k.val / 64 = 0 ∨ k.val / 64 = 1 ∨ k.val / 64 = 2 ∨ k.val / 64 = 3 ∨ k.val / 64 = 4 ∨ k.val / 64 = 5 := by omega
  all_goals
    refine (concatenate_apply_piece (t := S1024x384) 1 _ _ (ValueIdx.ix2 d k) (k.val / 64) (by show _ < 6; omega) S1024x64 _ (by simp only [h]; rfl) rfl (k.val / 64 * 64) (by simp only [h]; rfl) (ValueIdx.ix2 d (⟨k.val % 64, by omega⟩ : Fin 64)) (fun b hb => ?_) ?_).trans
      ((cut_apply w _ _ d (⟨k.val % 64, by omega⟩ : Fin 64) (by show _ + k.val % 64 < 2456; omega)).trans (congrArg (fun z => w (ValueIdx.ix2 d z)) (Fin.ext ?_)))
    · match b with
      | ⟨0, _⟩ => rfl
      | ⟨1, _⟩ => exact absurd rfl hb
    · show k.val / 64 * 64 + k.val % 64 = k.val
      omega
    · show _ + k.val % 64 = 512 + k.val
      omega

theorem gate_col (w : FVec Ideal S1024x2456 .f32) (d : Fin 1024) (k : Fin 128) :
    pad S1024x128 ![0, 0] ![0, 104] ![0, 0] (extractStridedSlice S1024x24 ![0, 896] w slices_S1024x2456_S1024x24_0_896)
       (sitofp (F := Ideal) .f32 (constantI S_ 32 0#32)) pads_S1024x24_S1024x128_000_01040 h_S_ (ValueIdx.ix2 d k)
      = if h : k.val < 24 then w (ValueIdx.ix2 d ⟨896 + k.val, by omega⟩) else 0 := by
  by_cases hk : k.val < 24
  · rw [dif_pos hk, ← cut_apply w 896 slices_S1024x2456_S1024x24_0_896 d (⟨k.val, hk⟩ : Fin 24) (by show 896 + k.val < 2456; omega)]
    refine pad_apply_of_inside _ _ _ _ _ _ _ _ _ (fun a => ?_)
    match a with
    | ⟨0, _⟩ => show d.val = 0 + d.val * (0 + 1); omega
    | ⟨1, _⟩ => show k.val = 0 + k.val * (0 + 1); omega
  · rw [dif_neg hk]
    refine (pad_apply_of_not_inside _ _ _ _ _ _ _ _ (1 : Fin 2) (fun h => hk ?_)).trans ?_
    · have h' : (k.val - 0) / (0 + 1) < 24 := h.2.2
      omega
    · show ((((0#32 : BitVec 32).toInt : ℤ) : ℝ) : EReal) = 0
      simp

/-- The column of the kernel's weights: one of the given weights' columns, or zero. -/
def wcol (w : FVec Ideal S1024x2456 .f32) (d : Fin 1024) (c : ℕ) : EReal :=
  if h : c < 920 then w (ValueIdx.ix2 d ⟨c, by omega⟩) else if h' : 1024 ≤ c ∧ c < 2560 then w (ValueIdx.ix2 d ⟨c - 104, by omega⟩) else 0

theorem narrow_at {sh : Shape} (v : FVec Ideal sh .f32) (i : sh.Idx) : truncf (F := Ideal) .bf16 v bitsLt_bf16_f32 i = v i := rfl

theorem catW_apply (w : FVec Ideal S1024x2456 .f32) (d : Fin 1024) (c : Fin 2560) : catW w (ValueIdx.ix2 d c) = wcol w d c.val := by
  have hc := c.isLt
  unfold catW
  refine (narrow_at _ _).trans ?_
  have piece : ∀ {n : ℕ} (o : ℕ) (h : S1024x2456.Slices ![0, o] ⟨2, ![1024, n]⟩) (k : Fin n) (hk : o + k.val < 2456) (e : c.val < 920 ∧ c.val = o + k.val ∨ 1024 ≤ c.val ∧ c.val - 104 = o + k.val),
      extractStridedSlice ⟨2, ![1024, n]⟩ ![0, o] w h (ValueIdx.ix2 d k) = wcol w d c.val := by
    intro n o h k hk e
    rw [cut_apply w o h d k hk]
    unfold wcol
    obtain ⟨e1, e2⟩ | ⟨e1, e2⟩ := e
    · rw [dif_pos e1]
      exact congrArg (fun z => w (ValueIdx.ix2 d z)) (Fin.ext e2.symm)
    · rw [dif_neg (by omega), dif_pos ⟨e1, hc⟩]
      exact congrArg (fun z => w (ValueIdx.ix2 d z)) (Fin.ext e2.symm)
  by_cases h1 : c.val < 512
  · refine (concatenate_apply_piece (t := S1024x2560) 1 _ _ (ValueIdx.ix2 d c) 0 (by show 0 < 6; omega) S1024x512 _ rfl rfl 0 rfl (ValueIdx.ix2 d (⟨c.val, h1⟩ : Fin 512)) (fun b hb => ?_) (by show 0 + c.val = c.val; omega)).trans
      (piece 0 _ _ (by show 0 + c.val < 2456; omega) (by show _ ∧ c.val = 0 + c.val ∨ _; omega))
    match b with
    | ⟨0, _⟩ => rfl
    | ⟨1, _⟩ => exact absurd rfl hb
  by_cases h2 : c.val < 896
  · refine (concatenate_apply_piece (t := S1024x2560) 1 _ _ (ValueIdx.ix2 d c) 1 (by show 1 < 6; omega) S1024x384 _ rfl rfl 512 rfl (ValueIdx.ix2 d (⟨c.val - 512, by omega⟩ : Fin 384)) (fun b hb => ?_) (by show 512 + (c.val - 512) = c.val; omega)).trans
      ((kv_apply w d _).trans ?_)
    · match b with
      | ⟨0, _⟩ => rfl
      | ⟨1, _⟩ => exact absurd rfl hb
    · unfold wcol
      rw [dif_pos (by omega)]
      exact congrArg (fun z => w (ValueIdx.ix2 d z)) (Fin.ext (by show 512 + (c.val - 512) = c.val; omega))
  by_cases h3 : c.val < 1024
  · refine (concatenate_apply_piece (t := S1024x2560) 1 _ _ (ValueIdx.ix2 d c) 2 (by show 2 < 6; omega) S1024x128 _ rfl rfl 896 rfl (ValueIdx.ix2 d (⟨c.val - 896, by omega⟩ : Fin 128)) (fun b hb => ?_) (by show 896 + (c.val - 896) = c.val; omega)).trans
      ((gate_col w d _).trans ?_)
    · match b with
      | ⟨0, _⟩ => rfl
      | ⟨1, _⟩ => exact absurd rfl hb
    · unfold wcol
      by_cases h4 : c.val < 920
      · rw [dif_pos (show c.val - 896 < 24 by omega), dif_pos h4]
        exact congrArg (fun z => w (ValueIdx.ix2 d z)) (Fin.ext (by show 896 + (c.val - 896) = c.val; omega))
      · rw [dif_neg (show ¬c.val - 896 < 24 by omega), dif_neg h4, dif_neg (by omega)]
  by_cases h4 : c.val < 1536
  · refine (concatenate_apply_piece (t := S1024x2560) 1 _ _ (ValueIdx.ix2 d c) 3 (by show 3 < 6; omega) S1024x512 _ rfl rfl 1024 rfl (ValueIdx.ix2 d (⟨c.val - 1024, by omega⟩ : Fin 512)) (fun b hb => ?_) (by show 1024 + (c.val - 1024) = c.val; omega)).trans
      (piece 920 _ _ (by show 920 + (c.val - 1024) < 2456; omega) (by show _ ∨ _ ∧ c.val - 104 = 920 + (c.val - 1024); omega))
    match b with
    | ⟨0, _⟩ => rfl
    | ⟨1, _⟩ => exact absurd rfl hb
  by_cases h5 : c.val < 2048
  · refine (concatenate_apply_piece (t := S1024x2560) 1 _ _ (ValueIdx.ix2 d c) 4 (by show 4 < 6; omega) S1024x512 _ rfl rfl 1536 rfl (ValueIdx.ix2 d (⟨c.val - 1536, by omega⟩ : Fin 512)) (fun b hb => ?_) (by show 1536 + (c.val - 1536) = c.val; omega)).trans
      (piece 1432 _ _ (by show 1432 + (c.val - 1536) < 2456; omega) (by show _ ∨ _ ∧ c.val - 104 = 1432 + (c.val - 1536); omega))
    match b with
    | ⟨0, _⟩ => rfl
    | ⟨1, _⟩ => exact absurd rfl hb
  · refine (concatenate_apply_piece (t := S1024x2560) 1 _ _ (ValueIdx.ix2 d c) 5 (by show 5 < 6; omega) S1024x512 _ rfl rfl 2048 rfl (ValueIdx.ix2 d (⟨c.val - 2048, by omega⟩ : Fin 512)) (fun b hb => ?_) (by show 2048 + (c.val - 2048) = c.val; omega)).trans
      (piece 1944 _ _ (by show 1944 + (c.val - 2048) < 2456; omega) (by show _ ∨ _ ∧ c.val - 104 = 1944 + (c.val - 2048); omega))
    match b with
    | ⟨0, _⟩ => rfl
    | ⟨1, _⟩ => exact absurd rfl hb

end Cert.Proj

end

end
-- ==== Proof.Proj.Body.lean ====
/- The projection call: what one grid step computes, element by element. -/
module

public import proofs.«01_k».proof.Proof.Proj.HostVal
public import Idealize.ShloMosaic.Lib.MatmulPlain

@[expose] public section

set_option maxRecDepth 16384

noncomputable section

namespace Cert.Proj

open Cert.Kernel3Ideal Cert.Kernel3Ideal.Gen Idealize.ShloMosaic Idealize.ShloMosaic.TcCoe

/-- Whether a lane is in the first half of its head. -/
def half (w : BitVec 32) : BitVec 1 :=
  let v40 : BitVec 32 := Scalar.select (Scalar.cmpi .eq 64#32 0#32) 1#32 64#32
  let v42 : BitVec 32 := IntOp.remsi .vector w v40
  Scalar.cmpi .slt (Scalar.select (IntOp.andi (IntOp.xori (Scalar.cmpi .slt v42 0#32) (Scalar.cmpi .slt v40 0#32)) (Scalar.cmpi .ne v42 0#32)) (IntOp.addi v42 v40) v42) 32#32

theorem half_eq : ∀ k : Fin 512, half (BitVec.ofNat 32 k.val) = if k.val % 64 < 32 then 1#1 else 0#1 := by decide +kernel

theorem pick (k : ℕ) (hk : k < 512) (a b : EReal) : (if half (BitVec.ofNat 32 k) = 1#1 then a else b) = if k % 64 < 32 then a else b := by
  rw [half_eq ⟨k, hk⟩]
  show (if (if k % 64 < 32 then 1#1 else 0#1) = 1#1 then a else b) = _
  by_cases h : k % 64 < 32
  · rw [if_pos h, if_pos h, if_pos rfl]
  · rw [if_neg h, if_neg h, if_neg (by decide)]

theorem lane512 (r : Fin 256) (k : Fin 512) : iota .tc S256x512 32 [1] iota_S256x512_d1_w32 (ValueIdx.ix2 r k) = BitVec.ofNat 32 k.val :=
  iota_single_apply _ _ _ _ _ _
theorem lane384 (r : Fin 256) (k : Fin 384) : iota .tc S256x384 32 [1] iota_S256x384_d1_w32 (ValueIdx.ix2 r k) = BitVec.ofNat 32 k.val :=
  iota_single_apply _ _ _ _ _ _

/-- The other half of the head, at a lane. -/
def swap512 (t : FVec Ideal S256x512 .f32) (r : Fin 256) (k : Fin 512) : EReal :=
  if k.val % 64 < 32 then t (ValueIdx.ix2 r (⟨(k.val + 32) % 512, by omega⟩ : Fin 512)) else t (ValueIdx.ix2 r (⟨(k.val + 480) % 512, by omega⟩ : Fin 512))
def swap384 (t : FVec Ideal S256x384 .f32) (r : Fin 256) (k : Fin 384) : EReal :=
  if k.val % 64 < 32 then t (ValueIdx.ix2 r (⟨(k.val + 32) % 384, by omega⟩ : Fin 384)) else t (ValueIdx.ix2 r (⟨(k.val + 352) % 384, by omega⟩ : Fin 384))

theorem rot480 (t : FVec Ideal S256x512 .f32) (r : Fin 256) (k : Fin 512) :
    dynamicRotate 1 480#32 none t rotates_S256x512_d1 (ValueIdx.ix2 r k) = t (ValueIdx.ix2 r (⟨(k.val + 32) % 512, by omega⟩ : Fin 512)) := by
  refine dynamicRotate_apply _ _ _ _ _ _ (fun b => ?_)
  match b with
  | ⟨0, _⟩ => rfl
  | ⟨1, _⟩ => show (k.val + 32) % 512 = (k.val + 512 - 480 % 512) % 512; omega
theorem rot32 (t : FVec Ideal S256x512 .f32) (r : Fin 256) (k : Fin 512) :
    dynamicRotate 1 32#32 none t rotates_S256x512_d1 (ValueIdx.ix2 r k) = t (ValueIdx.ix2 r (⟨(k.val + 480) % 512, by omega⟩ : Fin 512)) := by
  refine dynamicRotate_apply _ _ _ _ _ _ (fun b => ?_)
  match b with
  | ⟨0, _⟩ => rfl
  | ⟨1, _⟩ => show (k.val + 480) % 512 = (k.val + 512 - 32 % 512) % 512; omega
theorem rot352 (t : FVec Ideal S256x384 .f32) (r : Fin 256) (k : Fin 384) :
    dynamicRotate 1 352#32 none t rotates_S256x384_d1 (ValueIdx.ix2 r k) = t (ValueIdx.ix2 r (⟨(k.val + 32) % 384, by omega⟩ : Fin 384)) := by
  refine dynamicRotate_apply _ _ _ _ _ _ (fun b => ?_)
  match b with
  | ⟨0, _⟩ => rfl
  | ⟨1, _⟩ => show (k.val + 32) % 384 = (k.val + 384 - 352 % 384) % 384; omega
theorem rot32' (t : FVec Ideal S256x384 .f32) (r : Fin 256) (k : Fin 384) :
    dynamicRotate 1 32#32 none t rotates_S256x384_d1 (ValueIdx.ix2 r k) = t (ValueIdx.ix2 r (⟨(k.val + 352) % 384, by omega⟩ : Fin 384)) := by
  refine dynamicRotate_apply _ _ _ _ _ _ (fun b => ?_)
  match b with
  | ⟨0, _⟩ => rfl
  | ⟨1, _⟩ => show (k.val + 352) % 384 = (k.val + 384 - 32 % 384) % 384; omega

theorem cast3 {n : ℕ} {φ : FTy} (v : FVec Ideal ⟨2, ![256, n]⟩ φ) (h : Shape.ShapeCasts ⟨2, ![256, n]⟩ ⟨3, ![1, 256, n]⟩) (r : Fin 256) (k : Fin n) :
    shapeCast ⟨3, ![1, 256, n]⟩ v h (ValueIdx.ix3 (0 : Fin 1) r k) = v (ValueIdx.ix2 r k) := by
  refine shapeCast_apply v h _ (ValueIdx.ix2 r k) ?_
  rewrite [Shape.rowMajor_val_two, Shape.rowMajor_val_three]
  show r.val * n + k.val = (0 * 256 + r.val) * n + k.val
  rw [Nat.zero_mul, Nat.zero_add]

/-- The queries' stores. -/
theorem pay8_apply (s t u : FVec Ideal S256x512 .f32) (r : Fin 256) (k : Fin 512) :
    k0_pay8 s t u (ValueIdx.ix3 (0 : Fin 1) r k) = ((u (ValueIdx.ix2 r k) : EReal) + swap512 t r k * s (ValueIdx.ix2 r k)) * Ideal.ofBits .f32 0x3E000000#32 := by
  unfold k0_pay8
  refine (cast3 (n := 512) _ shapeCasts_S256x512_S1x256x512 r k).trans ?_
  show ((u (ValueIdx.ix2 r k) : EReal) + (if half (iota .tc S256x512 32 [1] iota_S256x512_d1_w32 (ValueIdx.ix2 r k)) = 1#1 then dynamicRotate 1 480#32 none t rotates_S256x512_d1 (ValueIdx.ix2 r k) else dynamicRotate 1 32#32 none t rotates_S256x512_d1 (ValueIdx.ix2 r k)) * s (ValueIdx.ix2 r k)) * Ideal.ofBits .f32 0x3E000000#32 = _
  rw [lane512, pick k.val k.isLt, rot480, rot32]
  rfl

theorem pay28_apply (s t u : FVec Ideal S256x512 .f32) (r : Fin 256) (k : Fin 512) :
    k0_pay28 s u (dynamicRotate 1 480#32 none t rotates_S256x512_d1) (dynamicRotate 1 32#32 none t rotates_S256x512_d1) k0_pay27 32#32 (ValueIdx.ix3 (0 : Fin 1) r k)
      = ((u (ValueIdx.ix2 r k) : EReal) + swap512 t r k * s (ValueIdx.ix2 r k)) * Ideal.ofBits .f32 0x3E000000#32 := by
  unfold k0_pay28 k0_pay27
  refine (cast3 (n := 512) _ shapeCasts_S256x512_S1x256x512 r k).trans ?_
  show ((u (ValueIdx.ix2 r k) : EReal) + (if half (iota .tc S256x512 32 [1] iota_S256x512_d1_w32 (ValueIdx.ix2 r k)) = 1#1 then dynamicRotate 1 480#32 none t rotates_S256x512_d1 (ValueIdx.ix2 r k) else dynamicRotate 1 32#32 none t rotates_S256x512_d1 (ValueIdx.ix2 r k)) * s (ValueIdx.ix2 r k)) * Ideal.ofBits .f32 0x3E000000#32 = _
  rw [lane512, pick k.val k.isLt, rot480, rot32]
  rfl

/-- A slice of a matrix. -/
theorem slice_apply {n w : ℕ} (v : FVec Ideal ⟨2, ![256, w]⟩ .f32) (o : ℕ) (h : Shape.Slices ⟨2, ![256, w]⟩ ![0, o] ⟨2, ![256, n]⟩) (r : Fin 256) (k : Fin n) (hk : o + k.val < w) :
    extractStridedSlice ⟨2, ![256, n]⟩ ![0, o] v h (ValueIdx.ix2 r k) = v (ValueIdx.ix2 r ⟨o + k.val, hk⟩) := by
  refine extractStridedSlice_apply _ _ _ (ValueIdx.ix2 r k) _ (fun a => ?_)
  match a with
  | ⟨0, _⟩ => show r.val = 0 + r.val; omega
  | ⟨1, _⟩ => rfl

theorem pay29_apply (v : FVec Ideal S256x2560 .f32) (c s : FVec Ideal S256x512 .f32) (r : Fin 256) (k : Fin 512) :
    k0_pay29 v c s (ValueIdx.ix2 r k)
      = (extractStridedSlice S256x512 ![0, 1536] v slices_S256x2560_o0_1536_S256x512 (ValueIdx.ix2 r k) : EReal) * c (ValueIdx.ix2 r k)
        + swap512 (extractStridedSlice S256x512 ![0, 1536] v slices_S256x2560_o0_1536_S256x512) r k * s (ValueIdx.ix2 r k) := by
  unfold k0_pay29
  generalize extractStridedSlice S256x512 ![0, 1536] v slices_S256x2560_o0_1536_S256x512 = t
  show (t (ValueIdx.ix2 r k) : EReal) * c (ValueIdx.ix2 r k) + (if half (iota .tc S256x512 32 [1] iota_S256x512_d1_w32 (ValueIdx.ix2 r k)) = 1#1 then dynamicRotate 1 480#32 none t rotates_S256x512_d1 (ValueIdx.ix2 r k) else dynamicRotate 1 32#32 none t rotates_S256x512_d1 (ValueIdx.ix2 r k)) * s (ValueIdx.ix2 r k) = _
  rw [lane512, pick k.val k.isLt, rot480, rot32]
  rfl

theorem pay14_apply (s u t : FVec Ideal S256x384 .f32) (r : Fin 256) (k : Fin 384) :
    k0_pay14 s u (iota .tc S256x384 32 [1] iota_S256x384_d1_w32) (dynamicRotate 1 352#32 none t rotates_S256x384_d1) (dynamicRotate 1 32#32 none t rotates_S256x384_d1) 64#32 (ValueIdx.ix2 r k)
      = (u (ValueIdx.ix2 r k) : EReal) + swap384 t r k * s (ValueIdx.ix2 r k) := by
  unfold k0_pay14
  show (u (ValueIdx.ix2 r k) : EReal) + (if half (iota .tc S256x384 32 [1] iota_S256x384_d1_w32 (ValueIdx.ix2 r k)) = 1#1 then dynamicRotate 1 352#32 none t rotates_S256x384_d1 (ValueIdx.ix2 r k) else dynamicRotate 1 32#32 none t rotates_S256x384_d1 (ValueIdx.ix2 r k)) * s (ValueIdx.ix2 r k) = _
  have hk := k.isLt
  rw [lane384, pick k.val (by omega), rot352, rot32']
  rfl

/-- The mean of the keys' rows. -/
theorem pay1_apply (t : FVec Ideal S256x512 .f32) (k : Fin 512) :
    k0_pay1 t (ValueIdx.ix4 (0 : Fin 1) (0 : Fin 1) (0 : Fin 1) k) = Ideal.div (∑ r : Fin 256, (t (ValueIdx.ix2 r k) : EReal)) (Ideal.ofBits .f32 0x43800000#32) := by
  unfold k0_pay1
  refine (shapeCast_apply _ shapeCasts_S1x512_S1x1x1x512 _ (ValueIdx.ix2 (0 : Fin 1) k) ?_).trans ?_
  · rewrite [Shape.rowMajor_val_two, Shape.rowMajor_val_four]
    show 0 * 512 + k.val = ((0 * 1 + 0) * 1 + 0) * 512 + k.val
    omega
  refine congrArg (fun z : EReal => Ideal.div z (Ideal.ofBits .f32 0x43800000#32)) ?_
  refine (shapeCast_apply _ shapeCasts_S512_S1x512 _ (ValueIdx.ix1 k) ?_).trans ?_
  · rewrite [Shape.rowMajor_val_two, Shape.rowMajor_val_one]
    show k.val = 0 * 512 + k.val
    omega
  refine (Ideal.multiReduction_add_single t _ reduces_S256x512_S512 _ _ (ValueIdx.ix1 k)).trans ?_
  refine Finset.sum_congr rfl fun c _ => congrArg t (funext fun a => ?_)
  match a with
  | ⟨0, _⟩ => rfl
  | ⟨1, _⟩ => rfl

theorem rowsum (t : FVec Ideal S256x1024 .f32) (r : Fin 256) :
    shapeCast S256x1 (multiReduction .add [1] S256 t 0x00000000#32 reduces_S256x1024_S256 (.inl rfl) rfl) shapeCasts_S256_S256x1 (ValueIdx.ix2 r (0 : Fin 1)) = ∑ d : Fin 1024, (t (ValueIdx.ix2 r d) : EReal) := by
  refine (shapeCast_apply _ shapeCasts_S256_S256x1 _ (ValueIdx.ix1 r) ?_).trans ?_
  · rewrite [Shape.rowMajor_val_two, Shape.rowMajor_val_one]
    show r.val = r.val * 1 + 0
    omega
  refine (Ideal.multiReduction_add_single t _ reduces_S256x1024_S256 _ _ (ValueIdx.ix1 r)).trans ?_
  refine Finset.sum_congr rfl fun c _ => congrArg t (funext fun a => ?_)
  match a with
  | ⟨0, _⟩ => rfl
  | ⟨1, _⟩ => rfl

theorem mm (a : FVec Ideal S256x1024 .bf16) (b : FVec Ideal S1024x2560 .bf16) (r : Fin 256) (e : Fin 2560) :
    matmul dot_S256x1024_S1024x2560_S256x2560_1_0_0_1_n_n none a b (constant S256x2560 .f32 0x00000000#32) (ValueIdx.ix2 r e)
      = ∑ k : Fin 1024, a (ValueIdx.ix2 r k) * b (ValueIdx.ix2 k e) := by
  show FloatOps.matmul (DotDims.plain 256 1024 2560) none a b _ (ValueIdx.ix2 r e) = _
  rw [Ideal.matmul_plain_apply]
  show Ideal.ofBits .f32 0x00000000#32 + _ = _
  rw [Ideal.ofBits_zero_f32, zero_add]

theorem row_of (v : FVec Ideal S1x1024 .f32) (r : Fin 256) (d : Fin 1024) :
    broadcastTo S256x1024 v broadcasts_S1x1024_S256x1024 (ValueIdx.ix2 r d) = v (ValueIdx.ix2 (0 : Fin 1) d) := by
  refine broadcastTo_apply _ _ _ _ (fun a => ?_)
  match a with
  | ⟨0, _⟩ => rfl
  | ⟨1, _⟩ => rfl

theorem col_of (v : FVec Ideal S256x1 .f32) (r : Fin 256) (d : Fin 1024) :
    broadcastTo S256x1024 v broadcasts_S256x1_S256x1024 (ValueIdx.ix2 r d) = v (ValueIdx.ix2 r (0 : Fin 1)) := by
  refine broadcastTo_apply _ _ _ _ (fun a => ?_)
  match a with
  | ⟨0, _⟩ => rfl
  | ⟨1, _⟩ => rfl

theorem flat_x (x : Vec Ideal S1x256x1024 .f32) (r : Fin 256) (d : Fin 1024) :
    shapeCast S256x1024 x shapeCasts_S1x256x1024_S256x1024 (ValueIdx.ix2 r d) = x (ValueIdx.ix3 (0 : Fin 1) r d) := by
  refine shapeCast_apply x _ _ (ValueIdx.ix3 (0 : Fin 1) r d) ?_
  rewrite [Shape.rowMajor_val_two, Shape.rowMajor_val_three]
  show (0 * 256 + r.val) * 1024 + d.val = r.val * 1024 + d.val
  omega

theorem flat_m (x : Vec Ideal S1x1x1024 .f32) (d : Fin 1024) :
    shapeCast S1x1024 x shapeCasts_S1x1x1024_S1x1024 (ValueIdx.ix2 (0 : Fin 1) d) = x (ValueIdx.ix3 (0 : Fin 1) (0 : Fin 1) d) := by
  refine shapeCast_apply x _ _ (ValueIdx.ix3 (0 : Fin 1) (0 : Fin 1) d) ?_
  rewrite [Shape.rowMajor_val_two, Shape.rowMajor_val_three]
  show (0 * 1 + 0) * 1024 + d.val = 0 * 1024 + d.val
  omega

/-- The modulated norm of a row of the step's block. -/
def hrow (x : Vec Ideal S1x256x1024 .f32) (sh sc : Vec Ideal S1x1x1024 .f32) (g : Vec Ideal S1x1024 .f32) (r : Fin 256) (d : Fin 1024) : EReal :=
  x (ValueIdx.ix3 (0 : Fin 1) r d)
    * Ideal.rsqrt (Ideal.div (∑ d : Fin 1024, x (ValueIdx.ix3 (0 : Fin 1) r d) * x (ValueIdx.ix3 (0 : Fin 1) r d)) (Ideal.ofBits .f32 0x44800000#32) + Ideal.ofBits .f32 0x358637BD#32)
    * g (ValueIdx.ix2 (0 : Fin 1) d) * (Ideal.ofBits .f32 0x3F800000#32 + sc (ValueIdx.ix3 (0 : Fin 1) (0 : Fin 1) d)) + sh (ValueIdx.ix3 (0 : Fin 1) (0 : Fin 1) d)

theorem pay3_apply (x : Vec Ideal S1x256x1024 .f32) (sh sc : Vec Ideal S1x1x1024 .f32) (g : Vec Ideal S1x1024 .f32) (w : Vec Ideal S1024x2560 .bf16) (r : Fin 256) (c : Fin 2560) :
    k0_pay3 x sh sc g w (ValueIdx.ix2 r c) = ∑ d : Fin 1024, hrow x sh sc g r d * w (ValueIdx.ix2 d c) := by
  unfold k0_pay3
  refine (mm _ _ r c).trans (Finset.sum_congr rfl fun d _ => ?_)
  rw [shapeCast_self, shapeCast_self]
  refine congrArg (fun z : EReal => z * w (ValueIdx.ix2 d c)) ?_
  unfold hrow
  rw [← flat_m sh, ← flat_m sc, ← flat_x x, ← row_of (shapeCast S1x1024 sh shapeCasts_S1x1x1024_S1x1024) r d, ← row_of g r d]
  have e1 : (∑ d : Fin 1024, x (ValueIdx.ix3 (0 : Fin 1) r d) * x (ValueIdx.ix3 (0 : Fin 1) r d) : EReal)
      = shapeCast (α := Ideal .f32) S256x1 (multiReduction .add [1] S256 (mulf (shapeCast S256x1024 x shapeCasts_S1x256x1024_S256x1024) (shapeCast S256x1024 x shapeCasts_S1x256x1024_S256x1024)) 0x00000000#32 reduces_S256x1024_S256 (.inl rfl) rfl) shapeCasts_S256_S256x1 (ValueIdx.ix2 r (0 : Fin 1)) := by
    rw [rowsum]
    refine Finset.sum_congr rfl fun d _ => ?_
    rw [← flat_x x r d]
    rfl
  rw [e1]
  have e2 : (Ideal.ofBits .f32 0x3F800000#32 + shapeCast S1x1024 sc shapeCasts_S1x1x1024_S1x1024 (ValueIdx.ix2 (0 : Fin 1) d) : EReal)
      = broadcastTo S256x1024 (addf (broadcast S1x1024 (Scalar.ofBits .f32 0x3F800000#32)) (shapeCast S1x1024 sc shapeCasts_S1x1x1024_S1x1024)) broadcasts_S1x1024_S256x1024 (ValueIdx.ix2 r d) := by
    rw [row_of]
    rfl
  rw [e2]
  refine congrArg₂ (fun y z : EReal => y + z) (congrArg₂ (fun y z : EReal => y * z) (congrArg₂ (fun y z : EReal => y * z) (congrArg₂ (fun y z : EReal => y * z) rfl ?_) rfl) rfl) rfl
  refine (col_of _ r d).trans ?_
  rfl

end Cert.Proj

end

end
-- ==== Proof.Proj.Ref.lean ====
/- The projection call: every result of the reference, element by element, over the extended reals. -/
module

public import proofs.«01_k».proof.Proof.Proj.Spec
public import Idealize.ShloMosaic.Lib.KernelVsHost

@[expose] public section

set_option maxRecDepth 16384

noncomputable section

namespace Cert.Proj

open Cert.Reference3Ideal Cert.Reference3Ideal.Gen Cert.Reference3Ideal.Read Idealize.ShloMosaic Idealize.ShloMosaic.TcCoe

variable (x0 : FVec Ideal S8x4096x1024 .f32) (x1 : FVec Ideal S8x6x1024 .f32) (x2 : FVec Ideal S1024 .f32) (x3 : FVec Ideal S1024x2456 .f32)

/-- The modulated norm of a row, and its projection at a column. -/
def H (b : Fin 8) (s : Fin 4096) (d : Fin 1024) : EReal := val_main_v20 (F := Ideal) x0 x1 x2 (ValueIdx.ix3 b s d)
def P (b : Fin 8) (s : Fin 4096) (c : ℕ) : EReal := if h : c < 2456 then val_main_v21 (F := Ideal) x0 x1 x2 x3 (ValueIdx.ix3 b s ⟨c, h⟩) else 0

theorem P_sum (b : Fin 8) (s : Fin 4096) (c : Fin 2456) : P x0 x1 x2 x3 b s c.val = ∑ d : Fin 1024, H x0 x1 x2 b s d * x3 (ValueIdx.ix2 d c) := by
  refine (dif_pos c.isLt).trans ?_
  rw [val_main_v21_apply]
  refine Finset.sum_congr rfl fun d _ => ?_
  unfold H
  refine congrArg₂ (· * ·) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl

/-- The root of a row's mean square plus the small constant, inverted. -/
def inv (b : Fin 8) (s : Fin 4096) : EReal :=
  Ideal.rsqrt (Ideal.div (∑ d : Fin 1024, x0 (ValueIdx.ix3 b s d) * x0 (ValueIdx.ix3 b s d)) (Ideal.ofBits .f32 0x44800000#32) + Ideal.ofBits .f32 0x358637BD#32)

theorem H_eq (b : Fin 8) (s : Fin 4096) (d : Fin 1024) :
    H x0 x1 x2 b s d = x0 (ValueIdx.ix3 b s d) * inv x0 b s * x2 (ValueIdx.ix1 d)
      * (Ideal.ofBits .f32 0x3F800000#32 + x1 (ValueIdx.ix3 b (1 : Fin 6) d)) + x1 (ValueIdx.ix3 b (0 : Fin 6) d) := by
  have e1 : val_main_v8 (F := Ideal) x0 (ValueIdx.ix3 b s d) = inv x0 b s := by
    rw [val_main_v8_apply, val_main_v7_apply, val_main_v6_apply, val_main_v4_apply, val_main_v2_apply, val_main_v1_apply,
      val_main_v3_apply, val_main_v5_apply, val_main_cst_apply, val_main_cst_0_apply, val_main_cst_1_apply]
    unfold inv
    show Ideal.rsqrt (Ideal.div (Ideal.ofBits .f32 0x00000000#32 + _) _ + _) = _
    rw [Ideal.ofBits_zero_f32, zero_add]
    congr 3
    refine Finset.sum_congr rfl fun k _ => ?_
    have e : idx_main_v1 (idx_main_v2 (idx_main_v8 (ValueIdx.ix3 b s d))) k = ValueIdx.ix3 b s k := funext fun a => by
      match a with
      | ⟨0, _⟩ => rfl
      | ⟨1, _⟩ => rfl
      | ⟨2, _⟩ => rfl
    rw [e]
    rfl
  have e2 : val_main_v11 (F := Ideal) x2 (ValueIdx.ix3 b s d) = x2 (ValueIdx.ix1 d) := by
    rw [val_main_v11_apply, val_main_v10_apply]
    refine congrArg x2 (funext fun a => ?_)
    match a with
    | ⟨0, _⟩ => rfl
  have e3 : val_main_v16 (F := Ideal) x1 (ValueIdx.ix3 b s d) = Ideal.ofBits .f32 0x3F800000#32 + x1 (ValueIdx.ix3 b (1 : Fin 6) d) := by
    rw [val_main_v16_apply, val_main_v15_apply, val_main_v14_apply, val_main_v13_apply, val_main_cst_2_apply]
    refine congrArg (Ideal.ofBits .f32 0x3F800000#32 + ·) (congrArg x1 (funext fun a => ?_))
    match a with
    | ⟨0, _⟩ => rfl
    | ⟨1, _⟩ => rfl
    | ⟨2, _⟩ => rfl
  have e4 : val_main_v19 (F := Ideal) x1 (ValueIdx.ix3 b s d) = x1 (ValueIdx.ix3 b (0 : Fin 6) d) := by
    rw [val_main_v19_apply, val_main_v18_apply]
    refine congrArg x1 (funext fun a => ?_)
    match a with
    | ⟨0, _⟩ => rfl
    | ⟨1, _⟩ => rfl
    | ⟨2, _⟩ => rfl
  rw [← e1, ← e2, ← e3, ← e4]
  rfl

theorem part22 (b : Fin 8) (s : Fin 4096) (k : Fin 512) :
    val_main_v22 (F := Ideal) x0 x1 x2 x3 (ValueIdx.ix3 b s k) = P x0 x1 x2 x3 b s (0 + k.val) := by
  have hk := k.isLt
  refine Eq.trans ?_ (dif_pos (show 0 + k.val < 2456 by omega)).symm
  rw [val_main_v22_apply]
  refine congrArg (val_main_v21 (F := Ideal) x0 x1 x2 x3) (funext fun a => Fin.ext ?_)
  match a with
  | ⟨0, _⟩ => rfl
  | ⟨1, _⟩ => rfl
  | ⟨2, _⟩ => show k.val = 0 + k.val; omega

theorem part23 (b : Fin 8) (s : Fin 4096) (k : Fin 64) :
    val_main_v23 (F := Ideal) x0 x1 x2 x3 (ValueIdx.ix3 b s k) = P x0 x1 x2 x3 b s (512 + k.val) := by
  have hk := k.isLt
  refine Eq.trans ?_ (dif_pos (show 512 + k.val < 2456 by omega)).symm
  rw [val_main_v23_apply]
  refine congrArg (val_main_v21 (F := Ideal) x0 x1 x2 x3) (funext fun a => Fin.ext ?_)
  match a with
  | ⟨0, _⟩ => rfl
  | ⟨1, _⟩ => rfl
  | ⟨2, _⟩ => rfl

theorem part24 (b : Fin 8) (s : Fin 4096) (k : Fin 64) :
    val_main_v24 (F := Ideal) x0 x1 x2 x3 (ValueIdx.ix3 b s k) = P x0 x1 x2 x3 b s (576 + k.val) := by
  have hk := k.isLt
  refine Eq.trans ?_ (dif_pos (show 576 + k.val < 2456 by omega)).symm
  rw [val_main_v24_apply]
  refine congrArg (val_main_v21 (F := Ideal) x0 x1 x2 x3) (funext fun a => Fin.ext ?_)
  match a with
  | ⟨0, _⟩ => rfl
  | ⟨1, _⟩ => rfl
  | ⟨2, _⟩ => rfl

theorem part25 (b : Fin 8) (s : Fin 4096) (k : Fin 64) :
    val_main_v25 (F := Ideal) x0 x1 x2 x3 (ValueIdx.ix3 b s k) = P x0 x1 x2 x3 b s (640 + k.val) := by
  have hk := k.isLt
  refine Eq.trans ?_ (dif_pos (show 640 + k.val < 2456 by omega)).symm
  rw [val_main_v25_apply]
  refine congrArg (val_main_v21 (F := Ideal) x0 x1 x2 x3) (funext fun a => Fin.ext ?_)
  match a with
  | ⟨0, _⟩ => rfl
  | ⟨1, _⟩ => rfl
  | ⟨2, _⟩ => rfl

theorem part26 (b : Fin 8) (s : Fin 4096) (k : Fin 64) :
    val_main_v26 (F := Ideal) x0 x1 x2 x3 (ValueIdx.ix3 b s k) = P x0 x1 x2 x3 b s (704 + k.val) := by
  have hk := k.isLt
  refine Eq.trans ?_ (dif_pos (show 704 + k.val < 2456 by omega)).symm
  rw [val_main_v26_apply]
  refine congrArg (val_main_v21 (F := Ideal) x0 x1 x2 x3) (funext fun a => Fin.ext ?_)
  match a with
  | ⟨0, _⟩ => rfl
  | ⟨1, _⟩ => rfl
  | ⟨2, _⟩ => rfl

theorem part27 (b : Fin 8) (s : Fin 4096) (k : Fin 64) :
    val_main_v27 (F := Ideal) x0 x1 x2 x3 (ValueIdx.ix3 b s k) = P x0 x1 x2 x3 b s (768 + k.val) := by
  have hk := k.isLt
  refine Eq.trans ?_ (dif_pos (show 768 + k.val < 2456 by omega)).symm
  rw [val_main_v27_apply]
  refine congrArg (val_main_v21 (F := Ideal) x0 x1 x2 x3) (funext fun a => Fin.ext ?_)
  match a with
  | ⟨0, _⟩ => rfl
  | ⟨1, _⟩ => rfl
  | ⟨2, _⟩ => rfl

theorem part28 (b : Fin 8) (s : Fin 4096) (k : Fin 64) :
    val_main_v28 (F := Ideal) x0 x1 x2 x3 (ValueIdx.ix3 b s k) = P x0 x1 x2 x3 b s (832 + k.val) := by
  have hk := k.isLt
  refine Eq.trans ?_ (dif_pos (show 832 + k.val < 2456 by omega)).symm
  rw [val_main_v28_apply]
  refine congrArg (val_main_v21 (F := Ideal) x0 x1 x2 x3) (funext fun a => Fin.ext ?_)
  match a with
  | ⟨0, _⟩ => rfl
  | ⟨1, _⟩ => rfl
  | ⟨2, _⟩ => rfl

theorem part29 (b : Fin 8) (s : Fin 4096) (k : Fin 24) :
    val_main_v29 (F := Ideal) x0 x1 x2 x3 (ValueIdx.ix3 b s k) = P x0 x1 x2 x3 b s (896 + k.val) := by
  have hk := k.isLt
  refine Eq.trans ?_ (dif_pos (show 896 + k.val < 2456 by omega)).symm
  rw [val_main_v29_apply]
  refine congrArg (val_main_v21 (F := Ideal) x0 x1 x2 x3) (funext fun a => Fin.ext ?_)
  match a with
  | ⟨0, _⟩ => rfl
  | ⟨1, _⟩ => rfl
  | ⟨2, _⟩ => rfl

theorem part30 (b : Fin 8) (s : Fin 4096) (k : Fin 512) :
    val_main_v30 (F := Ideal) x0 x1 x2 x3 (ValueIdx.ix3 b s k) = P x0 x1 x2 x3 b s (920 + k.val) := by
  have hk := k.isLt
  refine Eq.trans ?_ (dif_pos (show 920 + k.val < 2456 by omega)).symm
  rw [val_main_v30_apply]
  refine congrArg (val_main_v21 (F := Ideal) x0 x1 x2 x3) (funext fun a => Fin.ext ?_)
  match a with
  | ⟨0, _⟩ => rfl
  | ⟨1, _⟩ => rfl
  | ⟨2, _⟩ => rfl

theorem part31 (b : Fin 8) (s : Fin 4096) (k : Fin 512) :
    val_main_v31 (F := Ideal) x0 x1 x2 x3 (ValueIdx.ix3 b s k) = P x0 x1 x2 x3 b s (1432 + k.val) := by
  have hk := k.isLt
  refine Eq.trans ?_ (dif_pos (show 1432 + k.val < 2456 by omega)).symm
  rw [val_main_v31_apply]
  refine congrArg (val_main_v21 (F := Ideal) x0 x1 x2 x3) (funext fun a => Fin.ext ?_)
  match a with
  | ⟨0, _⟩ => rfl
  | ⟨1, _⟩ => rfl
  | ⟨2, _⟩ => rfl

theorem part32 (b : Fin 8) (s : Fin 4096) (k : Fin 512) :
    val_main_v32 (F := Ideal) x0 x1 x2 x3 (ValueIdx.ix3 b s k) = P x0 x1 x2 x3 b s (1944 + k.val) := by
  have hk := k.isLt
  refine Eq.trans ?_ (dif_pos (show 1944 + k.val < 2456 by omega)).symm
  rw [val_main_v32_apply]
  refine congrArg (val_main_v21 (F := Ideal) x0 x1 x2 x3) (funext fun a => Fin.ext ?_)
  match a with
  | ⟨0, _⟩ => rfl
  | ⟨1, _⟩ => rfl
  | ⟨2, _⟩ => rfl

/-- The scale of the queries. -/
abbrev eighth : EReal := Ideal.ofBits .f32 0x3E000000#32

theorem rope_qa : val_main_v102 (F := Ideal) x0 x1 x2 x3 = rope8 (val_main_v22 (F := Ideal) x0 x1 x2 x3) := by
  unfold rope8 fst8 snd8
  unfold val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84
  unfold val_main_v57 val_main_v56 val_main_v60 val_main_v59
  rfl

theorem ref_qa (b : Fin 8) (s : Fin 4096) (k : Fin 512) :
    val_main_v105 (F := Ideal) x0 x1 x2 x3 (ValueIdx.ix3 b s k) = rotv (fun j => P x0 x1 x2 x3 b s (0 + j)) (CO s) (SI s) k.val * eighth := by
  rw [val_main_v105_apply, val_main_v104_apply, val_main_v103_apply, val_main_cst_11_apply, rope_qa]
  show rope8 (val_main_v22 (F := Ideal) x0 x1 x2 x3) (ValueIdx.ix3 b s k) * eighth = _
  rw [rope8_apply _ (fun j => P x0 x1 x2 x3 b s (0 + j)) b s (part22 x0 x1 x2 x3 b s) k]

theorem rope_qb : val_main_v187 (F := Ideal) x0 x1 x2 x3 = rope8 (val_main_v30 (F := Ideal) x0 x1 x2 x3) := by
  unfold rope8 fst8 snd8
  unfold val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169
  unfold val_main_v57 val_main_v56 val_main_v60 val_main_v59
  rfl

theorem ref_qb (b : Fin 8) (s : Fin 4096) (k : Fin 512) :
    val_main_v190 (F := Ideal) x0 x1 x2 x3 (ValueIdx.ix3 b s k) = rotv (fun j => P x0 x1 x2 x3 b s (920 + j)) (CO s) (SI s) k.val * eighth := by
  rw [val_main_v190_apply, val_main_v189_apply, val_main_v188_apply, val_main_cst_12_apply, rope_qb]
  show rope8 (val_main_v30 (F := Ideal) x0 x1 x2 x3) (ValueIdx.ix3 b s k) * eighth = _
  rw [rope8_apply _ (fun j => P x0 x1 x2 x3 b s (920 + j)) b s (part30 x0 x1 x2 x3 b s) k]

theorem ref_kb71 (b : Fin 8) (s : Fin 4096) (k : Fin 512) :
    val_main_v71 (F := Ideal) x0 x1 x2 x3 (ValueIdx.ix3 b s k) = rotv (fun j => P x0 x1 x2 x3 b s (1432 + j)) (CO s) (SI s) k.val :=
  rope8_apply (val_main_v31 (F := Ideal) x0 x1 x2 x3) (fun j => P x0 x1 x2 x3 b s (1432 + j)) b s (part31 x0 x1 x2 x3 b s) k

theorem ref_kb (b : Fin 8) (s : Fin 4096) (k : Fin 512) :
    val_main_v191 (F := Ideal) x0 x1 x2 x3 (ValueIdx.ix3 b s k) = rotv (fun j => P x0 x1 x2 x3 b s (1432 + j)) (CO s) (SI s) k.val := by
  rw [val_main_v191_apply]
  exact ref_kb71 x0 x1 x2 x3 b s k

theorem rope_kc : val_main_v124 (F := Ideal) x0 x1 x2 x3 = rope1 (val_main_v23 (F := Ideal) x0 x1 x2 x3) := by
  unfold rope1 fst1 snd1
  unfold val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106

  rfl

theorem ref_kc (b : Fin 8) (s : Fin 4096) (k : Fin 64) :
    val_main_v125 (F := Ideal) x0 x1 x2 x3 (ValueIdx.ix3 b s k) = rotv (fun j => P x0 x1 x2 x3 b s (512 + j)) (CO s) (SI s) k.val := by
  rw [val_main_v125_apply, rope_kc]
  exact rope1_apply (val_main_v23 (F := Ideal) x0 x1 x2 x3) (fun j => P x0 x1 x2 x3 b s (512 + j)) b s (part23 x0 x1 x2 x3 b s) k

theorem rope_ks : val_main_v145 (F := Ideal) x0 x1 x2 x3 = rope1 (val_main_v25 (F := Ideal) x0 x1 x2 x3) := by
  unfold rope1 fst1 snd1
  unfold val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127
  unfold val_main_v110 val_main_v109 val_main_v113 val_main_v112
  rfl

theorem ref_ks (b : Fin 8) (s : Fin 4096) (k : Fin 64) :
    val_main_v146 (F := Ideal) x0 x1 x2 x3 (ValueIdx.ix3 b s k) = rotv (fun j => P x0 x1 x2 x3 b s (640 + j)) (CO s) (SI s) k.val := by
  rw [val_main_v146_apply, rope_ks]
  exact rope1_apply (val_main_v25 (F := Ideal) x0 x1 x2 x3) (fun j => P x0 x1 x2 x3 b s (640 + j)) b s (part25 x0 x1 x2 x3 b s) k

theorem rope_kw : val_main_v166 (F := Ideal) x0 x1 x2 x3 = rope1 (val_main_v27 (F := Ideal) x0 x1 x2 x3) := by
  unfold rope1 fst1 snd1
  unfold val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148
  unfold val_main_v110 val_main_v109 val_main_v113 val_main_v112
  rfl

theorem ref_kw (b : Fin 8) (s : Fin 4096) (k : Fin 64) :
    val_main_v167 (F := Ideal) x0 x1 x2 x3 (ValueIdx.ix3 b s k) = rotv (fun j => P x0 x1 x2 x3 b s (768 + j)) (CO s) (SI s) k.val := by
  rw [val_main_v167_apply, rope_kw]
  exact rope1_apply (val_main_v27 (F := Ideal) x0 x1 x2 x3) (fun j => P x0 x1 x2 x3 b s (768 + j)) b s (part27 x0 x1 x2 x3 b s) k

theorem ref_vc (b : Fin 8) (s : Fin 4096) (k : Fin 64) :
    val_main_v126 (F := Ideal) x0 x1 x2 x3 (ValueIdx.ix3 b s k) = P x0 x1 x2 x3 b s (576 + k.val) :=
  part24 x0 x1 x2 x3 b s k

theorem ref_vs (b : Fin 8) (s : Fin 4096) (k : Fin 64) :
    val_main_v147 (F := Ideal) x0 x1 x2 x3 (ValueIdx.ix3 b s k) = P x0 x1 x2 x3 b s (704 + k.val) :=
  part26 x0 x1 x2 x3 b s k

theorem ref_vw (b : Fin 8) (s : Fin 4096) (k : Fin 64) :
    val_main_v168 (F := Ideal) x0 x1 x2 x3 (ValueIdx.ix3 b s k) = P x0 x1 x2 x3 b s (832 + k.val) :=
  part28 x0 x1 x2 x3 b s k

theorem ref_vb (b : Fin 8) (s : Fin 4096) (k : Fin 512) :
    val_main_v192 (F := Ideal) x0 x1 x2 x3 (ValueIdx.ix3 b s k) = P x0 x1 x2 x3 b s (1944 + k.val) :=
  part32 x0 x1 x2 x3 b s k

theorem one32 : Ideal.ofBits .f32 0x3F800000#32 = 1 := by simp [Ideal.ofBits, Ideal.ieee, -EReal.coe_mul]; norm_num

theorem ref_gates (b : Fin 8) (s : Fin 4096) (k : Fin 128) :
    val_main_v83 (F := Ideal) x0 x1 x2 x3 (ValueIdx.ix3 b s k) = Ideal.logistic (if k.val < 24 then P x0 x1 x2 x3 b s (896 + k.val) else 0) := by
  have e : val_main_v77 (F := Ideal) x0 x1 x2 x3 (ValueIdx.ix3 b s k) = if k.val < 24 then P x0 x1 x2 x3 b s (896 + k.val) else 0 := by
    unfold val_main_v77
    by_cases hk : k.val < 24
    · rw [if_pos hk, ← part29 x0 x1 x2 x3 b s ⟨k.val, hk⟩]
      refine pad_apply_of_inside _ _ _ _ _ _ _ _ _ (fun a => ?_)
      match a with
      | ⟨0, _⟩ => show b.val = 0 + b.val * (0 + 1); omega
      | ⟨1, _⟩ => show s.val = 0 + s.val * (0 + 1); omega
      | ⟨2, _⟩ => show k.val = 0 + k.val * (0 + 1); omega
    · rw [if_neg hk]
      refine (pad_apply_of_not_inside _ _ _ _ _ _ _ _ (2 : Fin 3) (fun h => hk ?_)).trans ?_
      · have h' : (k.val - 0) / (0 + 1) < 24 := h.2.2
        omega
      · show ((((0#32 : BitVec 32).toInt : ℤ) : ℝ) : EReal) = 0
        simp
  rw [← e, val_main_v83_apply, val_main_v82_apply, val_main_v81_apply, val_main_v80_apply, val_main_v79_apply, val_main_v78_apply,
    val_main_cst_9_apply, val_main_cst_10_apply]
  show Ideal.div (Ideal.ofBits .f32 0x3F800000#32) (Ideal.ofBits .f32 0x3F800000#32 + Ideal.exp (-(val_main_v77 (F := Ideal) x0 x1 x2 x3 (ValueIdx.ix3 b s k)))) = _
  rw [one32]
  rfl

theorem ref_mean (b : Fin 8) (i : Fin 16) (z : Fin 1) (k : Fin 512) :
    val_main_v76 (F := Ideal) x0 x1 x2 x3 (ValueIdx.ix4 b i z k)
      = Ideal.div (∑ r : Fin 256, rotv (fun j => P x0 x1 x2 x3 b ⟨256 * i.val + r.val, by omega⟩ (1432 + j))
          (CO ⟨256 * i.val + r.val, by omega⟩) (SI ⟨256 * i.val + r.val, by omega⟩) k.val) (Ideal.ofBits .f32 0x43800000#32) := by
  rw [val_main_v76_apply, val_main_v74_apply, val_main_v75_apply, val_main_v73_apply, val_main_cst_7_apply, val_main_cst_8_apply]
  show Ideal.div (Ideal.ofBits .f32 0x00000000#32 + _) _ = _
  rw [Ideal.ofBits_zero_f32, zero_add]
  refine congrArg (Ideal.div · _) (Finset.sum_congr rfl fun r _ => ?_)
  rw [val_main_v72_apply, ← ref_kb71]
  refine congrArg (val_main_v71 (F := Ideal) x0 x1 x2 x3) (funext fun a => Fin.ext ?_)
  have hb := b.isLt
  have hi := i.isLt
  have hr := r.isLt
  have hk := k.isLt
  match a with
  | ⟨0, _⟩ => show (((b.val * 16 + i.val) * 256 + r.val) * 512 + k.val) / 2097152 = b.val; omega
  | ⟨1, _⟩ => show (((b.val * 16 + i.val) * 256 + r.val) * 512 + k.val) / 512 % 4096 = 256 * i.val + r.val; omega
  | ⟨2, _⟩ => show (((b.val * 16 + i.val) * 256 + r.val) * 512 + k.val) % 512 = k.val; omega

end Cert.Proj

end

end
-- ==== Proof.Proj.Block.lean ====
/- The projection call: the values one grid step leaves in its blocks are the reference's there. -/
module

public import proofs.«01_k».proof.Proof.Proj.Body
public import proofs.«01_k».proof.Proof.Proj.Ref

@[expose] public section

set_option maxRecDepth 16384

noncomputable section

namespace Cert.Proj

open Cert.Kernel3Ideal Cert.Kernel3Ideal.Gen Idealize.ShloMosaic Idealize.ShloMosaic.TcCoe

/-- A row of the sequence, of its block and its row there. -/
def pos (i : Fin 16) (r : Fin 256) : Fin 4096 := ⟨256 * i.val + r.val, by omega⟩

/-- A rotation read at a lane: this lane by its cosine, the other half by its signed sine. -/
theorem link (p c s : ℕ → EReal) (t : FVec Ideal S256x512 .f32) (r : Fin 256) (ht : ∀ j : Fin 512, t (ValueIdx.ix2 r j) = p j.val) (k : Fin 512) (x y : EReal)
    (hx : x = if k.val % 64 < 32 then c (k.val % 64) else c (k.val % 64 - 32)) (hy : y = if k.val % 64 < 32 then -s (k.val % 64) else s (k.val % 64 - 32)) :
    (t (ValueIdx.ix2 r k) : EReal) * x + swap512 t r k * y = rotv p c s k.val := by
  have hk := k.isLt
  unfold swap512 rotv
  rw [hx, hy, ht k]
  by_cases h : k.val % 64 < 32
  · rw [if_pos h, if_pos h, if_pos h, if_pos h, ht]
    have e : (k.val + 32) % 512 = k.val + 32 := by omega
    show p k.val * c (k.val % 64) + p ((k.val + 32) % 512) * -s (k.val % 64) = _
    rw [e, mul_neg, sub_eq_add_neg]
  · rw [if_neg h, if_neg h, if_neg h, if_neg h, ht]
    have e : (k.val + 480) % 512 = k.val - 32 := by omega
    show p k.val * c (k.val % 64 - 32) + p ((k.val + 480) % 512) * s (k.val % 64 - 32) = _
    rw [e]

theorem link3 (p c s : ℕ → EReal) (t : FVec Ideal S256x384 .f32) (r : Fin 256) (ht : ∀ j : Fin 384, t (ValueIdx.ix2 r j) = p j.val) (k : Fin 384) (hk : k.val % 128 < 64) (x y : EReal)
    (hx : x = if k.val % 64 < 32 then c (k.val % 64) else c (k.val % 64 - 32)) (hy : y = if k.val % 64 < 32 then -s (k.val % 64) else s (k.val % 64 - 32)) :
    (t (ValueIdx.ix2 r k) : EReal) * x + swap384 t r k * y = rotv p c s k.val := by
  have hk' := k.isLt
  unfold swap384 rotv
  rw [hx, hy, ht k]
  by_cases h : k.val % 64 < 32
  · rw [if_pos h, if_pos h, if_pos h, if_pos h, ht]
    have e : (k.val + 32) % 384 = k.val + 32 := by omega
    show p k.val * c (k.val % 64) + p ((k.val + 32) % 384) * -s (k.val % 64) = _
    rw [e, mul_neg, sub_eq_add_neg]
  · rw [if_neg h, if_neg h, if_neg h, if_neg h, ht]
    have e : (k.val + 352) % 384 = k.val - 32 := by omega
    show p k.val * c (k.val % 64 - 32) + p ((k.val + 352) % 384) * s (k.val % 64 - 32) = _
    rw [e]

/-- The rotation of a slice is the rotation read further on. -/
theorem rotv_shift (p c s : ℕ → EReal) (o : ℕ) (ho : o % 64 = 0) (k : ℕ) : rotv p c s (o + k) = rotv (fun j => p (o + j)) c s k := by
  have e : (o + k) % 64 = k % 64 := by omega
  unfold rotv
  rw [e]
  by_cases h : k % 64 < 32
  · rw [if_pos h, if_pos h]
    rfl
  · rw [if_neg h, if_neg h]
    have e' : o + k - 32 = o + (k - 32) := by omega
    rw [e']

variable (x0 : Vec Ideal S1x256x1024 .f32) (x1 : Vec Ideal S1x6x1024 .f32) (x2 : Vec Ideal S1x1024 .f32) (x3 : Vec Ideal S1024x2560 .bf16)
  (x4 x5 : Vec Ideal S256x512 .f32) (x6 x7 : Vec Ideal S256x384 .f32)
  (X0 : FVec Ideal S8x4096x1024 .f32) (X1 : FVec Ideal S8x6x1024 .f32) (X2 : FVec Ideal S1024 .f32) (X3 : FVec Ideal S1024x2456 .f32)
  (b : Fin 8) (i : Fin 16)

/-- The step's blocks are blocks of the arguments and of the tables. -/
structure Blocks : Prop where
  h0 : ∀ (r : Fin 256) (d : Fin 1024), x0 (ValueIdx.ix3 (0 : Fin 1) r d) = X0 (ValueIdx.ix3 b (pos i r) d)
  h1 : ∀ (q : Fin 6) (d : Fin 1024), x1 (ValueIdx.ix3 (0 : Fin 1) q d) = X1 (ValueIdx.ix3 b q d)
  h2 : ∀ d : Fin 1024, x2 (ValueIdx.ix2 (0 : Fin 1) d) = X2 (ValueIdx.ix1 d)
  h3 : ∀ (d : Fin 1024) (c : Fin 2560), x3 (ValueIdx.ix2 d c) = wcol X3 d c.val
  h4 : ∀ (r : Fin 256) (k : Fin 512), x4 (ValueIdx.ix2 r k) = tile8 headC (ValueIdx.ix2 (pos i r) k)
  h5 : ∀ (r : Fin 256) (k : Fin 512), x5 (ValueIdx.ix2 r k) = tile8 headS (ValueIdx.ix2 (pos i r) k)
  h6 : ∀ (r : Fin 256) (k : Fin 384), x6 (ValueIdx.ix2 r k) = tile3 headC (fill 0x3F800000#32) (ValueIdx.ix2 (pos i r) k)
  h7 : ∀ (r : Fin 256) (k : Fin 384), x7 (ValueIdx.ix2 r k) = tile3 headS (fill 0x00000000#32) (ValueIdx.ix2 (pos i r) k)

theorem z2 : (![0, 0] : Fin 2 → ℕ) = fun _ => 0 := funext fun a => by fin_cases a <;> rfl
theorem z3 : (![0, 0, 0] : Fin 3 → ℕ) = fun _ => 0 := funext fun a => by fin_cases a <;> rfl
theorem z4 : (![0, 0, 0, 0] : Fin 4 → ℕ) = fun _ => 0 := funext fun a => by fin_cases a <;> rfl

theorem ld0 : View.ld x0 r0_0 = x0 := View.ld_unit_zero z3 _ x0
theorem ld2 : View.ld x2 r0_3 = x2 := View.ld_unit_zero z2 _ x2
theorem ld3 : View.ld x3 r0_4 = x3 := View.ld_unit_zero z2 _ x3
theorem ld4 : View.ld x4 r0_5 = x4 := View.ld_unit_zero z2 _ x4
theorem ld6 : View.ld x6 r0_7 = x6 := View.ld_unit_zero z2 _ x6
theorem ld1 (d : Fin 1024) : View.ld x1 r0_1 (ValueIdx.ix3 (0 : Fin 1) (0 : Fin 1) d) = x1 (ValueIdx.ix3 (0 : Fin 1) (0 : Fin 6) d) := by
  refine congrArg x1 (funext fun a => Fin.ext ((Rect.idx_unit_val _ _ _ _ a).trans ?_))
  match a with
  | ⟨0, _⟩ => rfl
  | ⟨1, _⟩ => rfl
  | ⟨2, _⟩ => show 0 + d.val = d.val; omega
theorem ld1' (d : Fin 1024) : View.ld x1 r0_2 (ValueIdx.ix3 (0 : Fin 1) (0 : Fin 1) d) = x1 (ValueIdx.ix3 (0 : Fin 1) (1 : Fin 6) d) := by
  refine congrArg x1 (funext fun a => Fin.ext ((Rect.idx_unit_val _ _ _ _ a).trans ?_))
  match a with
  | ⟨0, _⟩ => rfl
  | ⟨1, _⟩ => rfl
  | ⟨2, _⟩ => show 0 + d.val = d.val; omega

/-- The projection as the step lays it out: the gates' columns padded to a multiple of 128. -/
def Q (s : Fin 4096) (c : ℕ) : EReal :=
  if c < 920 then P X0 X1 X2 X3 b s c else if 1024 ≤ c ∧ c < 2560 then P X0 X1 X2 X3 b s (c - 104) else 0

theorem Q_lo (s : Fin 4096) (c : ℕ) (h : c < 920) : Q X0 X1 X2 X3 b s c = P X0 X1 X2 X3 b s c := if_pos h
theorem Q_hi (s : Fin 4096) (c : ℕ) (h : 1024 ≤ c) (h' : c < 2560) : Q X0 X1 X2 X3 b s c = P X0 X1 X2 X3 b s (c - 104) :=
  (if_neg (by omega)).trans (if_pos ⟨h, h'⟩)
theorem Q_mid (s : Fin 4096) (c : ℕ) (h : 920 ≤ c) (h' : c < 1024) : Q X0 X1 X2 X3 b s c = 0 :=
  (if_neg (by omega)).trans (if_neg (by omega))

variable (h : Blocks x0 x1 x2 x3 x4 x5 x6 x7 X0 X1 X2 X3 b i)

include h in
theorem hrow_eq (r : Fin 256) (d : Fin 1024) : hrow x0 (View.ld x1 r0_1) (View.ld x1 r0_2) x2 r d = H X0 X1 X2 b (pos i r) d := by
  rw [H_eq]
  unfold hrow inv
  rw [ld1, ld1', h.h1, h.h1, h.h2, h.h0 r d]
  have e : (∑ d : Fin 1024, x0 (ValueIdx.ix3 (0 : Fin 1) r d) * x0 (ValueIdx.ix3 (0 : Fin 1) r d) : EReal)
      = ∑ d : Fin 1024, X0 (ValueIdx.ix3 b (pos i r) d) * X0 (ValueIdx.ix3 b (pos i r) d) :=
    Finset.sum_congr rfl fun d _ => by rw [h.h0 r d]
  rw [e]

include h in
theorem proj (r : Fin 256) (c : Fin 2560) : k0_pay31 x0 x1 x2 x3 x4 x5 x6 x7 (ValueIdx.ix2 r c) = Q X0 X1 X2 X3 b (pos i r) c.val := by
  have hc := c.isLt
  unfold k0_pay31
  rw [ld0, ld2, ld3]
  refine (pay3_apply x0 (View.ld x1 r0_1) (View.ld x1 r0_2) x2 x3 r c).trans ?_
  have e : (∑ d : Fin 1024, hrow x0 (View.ld x1 r0_1) (View.ld x1 r0_2) x2 r d * x3 (ValueIdx.ix2 d c) : EReal)
      = ∑ d : Fin 1024, H X0 X1 X2 b (pos i r) d * wcol X3 d c.val :=
    Finset.sum_congr rfl fun d _ => by rw [hrow_eq x0 x1 x2 x3 x4 x5 x6 x7 X0 X1 X2 X3 b i h r d, h.h3]
  refine e.trans ?_
  by_cases h1 : c.val < 920
  · rw [Q_lo _ _ _ _ _ _ _ h1]
    refine Eq.trans ?_ (P_sum X0 X1 X2 X3 b (pos i r) ⟨c.val, by omega⟩).symm
    refine Finset.sum_congr rfl fun d _ => congrArg (fun z : EReal => H X0 X1 X2 b (pos i r) d * z) ?_
    exact dif_pos h1
  · by_cases h2 : 1024 ≤ c.val
    · rw [Q_hi _ _ _ _ _ _ _ h2 hc]
      refine Eq.trans ?_ (P_sum X0 X1 X2 X3 b (pos i r) ⟨c.val - 104, by omega⟩).symm
      refine Finset.sum_congr rfl fun d _ => congrArg (fun z : EReal => H X0 X1 X2 b (pos i r) d * z) ?_
      exact (dif_neg h1).trans (dif_pos ⟨h2, hc⟩)
    · rw [Q_mid _ _ _ _ _ _ _ (by omega) (by omega)]
      refine Finset.sum_eq_zero fun d _ => ?_
      have e0 : wcol X3 d c.val = 0 := (dif_neg h1).trans (dif_neg (by omega))
      rw [e0, mul_zero]

/-- A slice of the projection. -/
theorem part {n : ℕ} (o : ℕ) (v : FVec Ideal S256x2560 .f32) (p : ℕ → EReal) (r : Fin 256) (hv : ∀ c : Fin 2560, v (ValueIdx.ix2 r c) = p c.val)
    (hs : Shape.Slices S256x2560 ![0, o] ⟨2, ![256, n]⟩) (hn : o + n ≤ 2560) (k : Fin n) :
    extractStridedSlice ⟨2, ![256, n]⟩ ![0, o] v hs (ValueIdx.ix2 r k) = p (o + k.val) :=
  (slice_apply v o hs r k (by have := k.isLt; omega)).trans (hv _)

end Cert.Proj

end

end
-- ==== Proof.Proj.Out.lean ====
/- The projection call: each of the twelve blocks a grid step leaves is the reference's. -/
module

public import proofs.«01_k».proof.Proof.Proj.Block

@[expose] public section

set_option maxRecDepth 16384

noncomputable section

namespace Cert.Proj

open Cert.Kernel3Ideal Cert.Kernel3Ideal.Gen Idealize.ShloMosaic Idealize.ShloMosaic.TcCoe

variable (x0 : Vec Ideal S1x256x1024 .f32) (x1 : Vec Ideal S1x6x1024 .f32) (x2 : Vec Ideal S1x1024 .f32) (x3 : Vec Ideal S1024x2560 .bf16)
  (x4 x5 : Vec Ideal S256x512 .f32) (x6 x7 : Vec Ideal S256x384 .f32)
  (X0 : FVec Ideal S8x4096x1024 .f32) (X1 : FVec Ideal S8x6x1024 .f32) (X2 : FVec Ideal S1024 .f32) (X3 : FVec Ideal S1024x2456 .f32)
  (b : Fin 8) (i : Fin 16)

variable (h : Blocks x0 x1 x2 x3 x4 x5 x6 x7 X0 X1 X2 X3 b i)

theorem same512 (v : FVec Ideal S256x512 .f32) : shapeCast S256x512 v shapeCasts_S256x512_S256x512 = v := shapeCast_self _ _
theorem same384 (v : FVec Ideal S256x384 .f32) : shapeCast S256x384 v shapeCasts_S256x384_S256x384 = v := shapeCast_self _ _

theorem cos512 : k0_pay32 x0 x1 x2 x3 x4 x5 x6 x7 = x4 := by
  unfold k0_pay32 k0_pay4
  rw [ld4]
  exact same512 x4
theorem sin512 : k0_pay33 x0 x1 x2 x3 x4 x5 x6 x7 = x5 := by
  unfold k0_pay33 k0_pay5
  rw [ld4]
  exact same512 x5
theorem sin384 : k0_pay35 x0 x1 x2 x3 x4 x5 x6 x7 = x7 := by
  unfold k0_pay35 k0_pay10
  rw [ld6]
  exact same384 x7

/-- A rotated slice of the projection, 512 wide. -/
theorem rot512 (t : FVec Ideal S256x512 .f32) (o : ℕ) (ho : 1024 ≤ o ∧ o + 512 ≤ 2560 ∨ o = 0) (u : ℕ) (hu : o = 0 ∧ u = 0 ∨ 1024 ≤ o ∧ u + 104 = o)
    (r : Fin 256) (ht : ∀ j : Fin 512, t (ValueIdx.ix2 r j) = Q X0 X1 X2 X3 b (pos i r) (o + j.val)) (k : Fin 512)
    (hx4 : x4 (ValueIdx.ix2 r k) = tile8 headC (ValueIdx.ix2 (pos i r) k)) (hx5 : x5 (ValueIdx.ix2 r k) = tile8 headS (ValueIdx.ix2 (pos i r) k)) :
    (t (ValueIdx.ix2 r k) : EReal) * x4 (ValueIdx.ix2 r k) + swap512 t r k * x5 (ValueIdx.ix2 r k)
      = rotv (fun j => P X0 X1 X2 X3 b (pos i r) (u + j)) (CO (pos i r)) (SI (pos i r)) k.val := by
  refine link (fun j => P X0 X1 X2 X3 b (pos i r) (u + j)) (CO (pos i r)) (SI (pos i r)) t r (fun j => ?_) k _ _ (hx4.trans (cq_apply _ k)) (hx5.trans (sq_apply _ k))
  have hj := j.isLt
  rw [ht j]
  show _ = P X0 X1 X2 X3 b (pos i r) (u + j.val)
  by_cases h0 : o = 0
  · rw [Q_lo _ _ _ _ _ _ _ (by omega)]
    have e : u = o := by omega
    rw [e]
  · rw [Q_hi _ _ _ _ _ _ _ (by omega) (by omega)]
    have e : o + j.val - 104 = u + j.val := by omega
    rw [e]

/-- The slice at column 0. -/
def cols0 : FVec Ideal S256x512 .f32 := extractStridedSlice S256x512 ![0, 0] (k0_pay31 x0 x1 x2 x3 x4 x5 x6 x7) slices_S256x2560_o0_0_S256x512
include h in
theorem wide0 (r : Fin 256) (j : Fin 512) : cols0 x0 x1 x2 x3 x4 x5 x6 x7 (ValueIdx.ix2 r j)
    = Q X0 X1 X2 X3 b (pos i r) (0 + j.val) :=
  part 0 (k0_pay31 x0 x1 x2 x3 x4 x5 x6 x7) (Q X0 X1 X2 X3 b (pos i r)) r (proj x0 x1 x2 x3 x4 x5 x6 x7 X0 X1 X2 X3 b i h r) slices_S256x2560_o0_0_S256x512 (by omega) j

/-- The slice at column 1024. -/
def cols1024 : FVec Ideal S256x512 .f32 := extractStridedSlice S256x512 ![0, 1024] (k0_pay31 x0 x1 x2 x3 x4 x5 x6 x7) slices_S256x2560_o0_1024_S256x512
include h in
theorem wide1024 (r : Fin 256) (j : Fin 512) : cols1024 x0 x1 x2 x3 x4 x5 x6 x7 (ValueIdx.ix2 r j)
    = Q X0 X1 X2 X3 b (pos i r) (1024 + j.val) :=
  part 1024 (k0_pay31 x0 x1 x2 x3 x4 x5 x6 x7) (Q X0 X1 X2 X3 b (pos i r)) r (proj x0 x1 x2 x3 x4 x5 x6 x7 X0 X1 X2 X3 b i h r) slices_S256x2560_o0_1024_S256x512 (by omega) j

/-- The slice at column 1536. -/
def cols1536 : FVec Ideal S256x512 .f32 := extractStridedSlice S256x512 ![0, 1536] (k0_pay31 x0 x1 x2 x3 x4 x5 x6 x7) slices_S256x2560_o0_1536_S256x512
include h in
theorem wide1536 (r : Fin 256) (j : Fin 512) : cols1536 x0 x1 x2 x3 x4 x5 x6 x7 (ValueIdx.ix2 r j)
    = Q X0 X1 X2 X3 b (pos i r) (1536 + j.val) :=
  part 1536 (k0_pay31 x0 x1 x2 x3 x4 x5 x6 x7) (Q X0 X1 X2 X3 b (pos i r)) r (proj x0 x1 x2 x3 x4 x5 x6 x7 X0 X1 X2 X3 b i h r) slices_S256x2560_o0_1536_S256x512 (by omega) j

include h in
theorem out8_eq (r : Fin 256) (k : Fin 512) : out0_8 x0 x1 x2 x3 x4 x5 x6 x7 (ValueIdx.ix3 (0 : Fin 1) r k)
    = Cert.Reference3Ideal.Read.val_main_v105 (F := Ideal) X0 X1 X2 X3 (ValueIdx.ix3 b (pos i r) k) := by
  rw [ref_qa]
  unfold out0_8
  rw [View.canon_unit_zero z3]
  refine (pay8_apply _ _ _ r k).trans ?_
  rw [sin512]
  refine congrArg (fun z : EReal => z * Ideal.ofBits .f32 0x3E000000#32) ?_
  refine Eq.trans ?_ (rot512 x4 x5 X0 X1 X2 X3 b i (cols0 x0 x1 x2 x3 x4 x5 x6 x7) 0 (Or.inr rfl) 0 (Or.inl ⟨rfl, rfl⟩) r
    (wide0 x0 x1 x2 x3 x4 x5 x6 x7 X0 X1 X2 X3 b i h r) k (h.h4 r k) (h.h5 r k))
  unfold k0_pay7 k0_pay4
  rw [ld4, same512]
  rfl

include h in
theorem out16_eq (r : Fin 256) (k : Fin 512) : out0_16 x0 x1 x2 x3 x4 x5 x6 x7 (ValueIdx.ix3 (0 : Fin 1) r k)
    = Cert.Reference3Ideal.Read.val_main_v190 (F := Ideal) X0 X1 X2 X3 (ValueIdx.ix3 b (pos i r) k) := by
  rw [ref_qb]
  unfold out0_16
  rw [View.canon_unit_zero z3]
  unfold k0_pay24 k0_pay25 k0_pay26 k0_pay23
  refine (pay28_apply _ _ _ r k).trans ?_
  rw [sin512, cos512]
  refine congrArg (fun z : EReal => z * Ideal.ofBits .f32 0x3E000000#32) ?_
  exact (rot512 x4 x5 X0 X1 X2 X3 b i (cols1024 x0 x1 x2 x3 x4 x5 x6 x7) 1024 (Or.inl ⟨by omega, by omega⟩) 920 (Or.inr ⟨by omega, by omega⟩) r
    (wide1024 x0 x1 x2 x3 x4 x5 x6 x7 X0 X1 X2 X3 b i h r) k (h.h4 r k) (h.h5 r k))

include h in
/-- The rotated keys of the second attention. -/
theorem keys (r : Fin 256) (k : Fin 512) : k0_pay29 (k0_pay31 x0 x1 x2 x3 x4 x5 x6 x7) x4 x5 (ValueIdx.ix2 r k)
    = rotv (fun j => P X0 X1 X2 X3 b (pos i r) (1432 + j)) (CO (pos i r)) (SI (pos i r)) k.val :=
  (pay29_apply _ x4 x5 r k).trans (rot512 x4 x5 X0 X1 X2 X3 b i (cols1536 x0 x1 x2 x3 x4 x5 x6 x7) 1536 (Or.inl ⟨by omega, by omega⟩) 1432 (Or.inr ⟨by omega, by omega⟩) r
    (wide1536 x0 x1 x2 x3 x4 x5 x6 x7 X0 X1 X2 X3 b i h r) k (h.h4 r k) (h.h5 r k))

include h in
theorem out17_eq (r : Fin 256) (k : Fin 512) : out0_17 x0 x1 x2 x3 x4 x5 x6 x7 (ValueIdx.ix3 (0 : Fin 1) r k)
    = Cert.Reference3Ideal.Read.val_main_v191 (F := Ideal) X0 X1 X2 X3 (ValueIdx.ix3 b (pos i r) k) := by
  rw [ref_kb]
  unfold out0_17
  rw [View.canon_unit_zero z3, sin512, cos512]
  unfold k0_pay30
  exact (cast3 (n := 512) _ shapeCasts_S256x512_S1x256x512 r k).trans (keys x0 x1 x2 x3 x4 x5 x6 x7 X0 X1 X2 X3 b i h r k)

include h in
theorem out19_eq (k : Fin 512) : out0_19 x0 x1 x2 x3 x4 x5 x6 x7 (ValueIdx.ix4 (0 : Fin 1) (0 : Fin 1) (0 : Fin 1) k)
    = Cert.Reference3Ideal.Read.val_main_v76 (F := Ideal) X0 X1 X2 X3 (ValueIdx.ix4 b i (0 : Fin 1) k) := by
  rw [ref_mean]
  unfold out0_19
  rw [View.canon_unit_zero z4, sin512, cos512]
  refine (pay1_apply _ k).trans (congrArg (fun z : EReal => Ideal.div z (Ideal.ofBits .f32 0x43800000#32)) ?_)
  exact Finset.sum_congr rfl fun r _ => keys x0 x1 x2 x3 x4 x5 x6 x7 X0 X1 X2 X3 b i h r k

include h in
theorem out18_eq (r : Fin 256) (k : Fin 512) : out0_18 x0 x1 x2 x3 x4 x5 x6 x7 (ValueIdx.ix3 (0 : Fin 1) r k)
    = Cert.Reference3Ideal.Read.val_main_v192 (F := Ideal) X0 X1 X2 X3 (ValueIdx.ix3 b (pos i r) k) := by
  have hk := k.isLt
  rw [ref_vb]
  unfold out0_18
  rw [View.canon_unit_zero z3]
  unfold k0_pay2
  refine (cast3 (n := 512) _ shapeCasts_S256x512_S1x256x512 r k).trans ?_
  refine (part 2048 _ (Q X0 X1 X2 X3 b (pos i r)) r (proj x0 x1 x2 x3 x4 x5 x6 x7 X0 X1 X2 X3 b i h r) slices_S256x2560_o0_2048_S256x512 (by omega) k).trans ?_
  rw [Q_hi _ _ _ _ _ _ _ (by omega) (by omega)]
  have e : 2048 + k.val - 104 = 1944 + k.val := by omega
  rw [e]

include h in
theorem out15_eq (r : Fin 256) (k : Fin 128) : out0_15 x0 x1 x2 x3 x4 x5 x6 x7 (ValueIdx.ix3 (0 : Fin 1) r k)
    = Cert.Reference3Ideal.Read.val_main_v83 (F := Ideal) X0 X1 X2 X3 (ValueIdx.ix3 b (pos i r) k) := by
  have hk := k.isLt
  rw [ref_gates]
  unfold out0_15
  rw [View.canon_unit_zero z3]
  unfold k0_pay22
  refine (cast3 (n := 128) _ shapeCasts_S256x128_S1x256x128 r k).trans (congrArg Ideal.logistic ?_)
  refine (part 896 _ (Q X0 X1 X2 X3 b (pos i r)) r (proj x0 x1 x2 x3 x4 x5 x6 x7 X0 X1 X2 X3 b i h r) slices_S256x2560_o0_896_S256x128 (by omega) k).trans ?_
  by_cases h1 : k.val < 24
  · rw [if_pos h1, Q_lo _ _ _ _ _ _ _ (by omega)]
  · rw [if_neg h1, Q_mid _ _ _ _ _ _ _ (by omega) (by omega)]

/-- The keys and values of the first attention, side by side. -/
def kv : FVec Ideal S256x384 .f32 :=
  k0_pay14 (k0_pay35 x0 x1 x2 x3 x4 x5 x6 x7) (k0_pay36 x0 x1 x2 x3 x4 x5 x6 x7) (k0_pay34 x0 x1 x2 x3 x4 x5 x6 x7) (k0_pay37 x0 x1 x2 x3 x4 x5 x6 x7) (k0_pay38 x0 x1 x2 x3 x4 x5 x6 x7) 64#32

theorem kv_eq (r : Fin 256) (k : Fin 384) : kv x0 x1 x2 x3 x4 x5 x6 x7 (ValueIdx.ix2 r k)
    = (k0_pay9 (k0_pay31 x0 x1 x2 x3 x4 x5 x6 x7) (ValueIdx.ix2 r k) : EReal) * x6 (ValueIdx.ix2 r k)
      + swap384 (k0_pay9 (k0_pay31 x0 x1 x2 x3 x4 x5 x6 x7)) r k * x7 (ValueIdx.ix2 r k) := by
  unfold kv k0_pay36 k0_pay34 k0_pay37 k0_pay38 k0_pay11 k0_pay12 k0_pay13
  rw [sin384, ld6, same384]
  exact pay14_apply _ _ _ r k

include h in
theorem kvpart (r : Fin 256) (j : Fin 384) : k0_pay9 (k0_pay31 x0 x1 x2 x3 x4 x5 x6 x7) (ValueIdx.ix2 r j) = P X0 X1 X2 X3 b (pos i r) (512 + j.val) := by
  have hj := j.isLt
  unfold k0_pay9
  exact (part 512 _ (Q X0 X1 X2 X3 b (pos i r)) r (proj x0 x1 x2 x3 x4 x5 x6 x7 X0 X1 X2 X3 b i h r) slices_S256x2560_o0_512_S256x384 (by omega) j).trans
    (Q_lo _ _ _ _ _ _ _ (by omega))

include h in
theorem kv_key (r : Fin 256) (k : Fin 384) (hk : k.val % 128 < 64) : kv x0 x1 x2 x3 x4 x5 x6 x7 (ValueIdx.ix2 r k)
    = rotv (fun j => P X0 X1 X2 X3 b (pos i r) (512 + j)) (CO (pos i r)) (SI (pos i r)) k.val := by
  refine (kv_eq x0 x1 x2 x3 x4 x5 x6 x7 r k).trans ?_
  refine link3 _ _ _ _ r (kvpart x0 x1 x2 x3 x4 x5 x6 x7 X0 X1 X2 X3 b i h r) k hk _ _ ?_ ?_
  · rw [h.h6, ckv_apply, if_pos hk]
  · rw [h.h7, skv_apply, if_pos hk]

include h in
theorem kv_val (r : Fin 256) (k : Fin 384) (hk : ¬ k.val % 128 < 64) : kv x0 x1 x2 x3 x4 x5 x6 x7 (ValueIdx.ix2 r k)
    = P X0 X1 X2 X3 b (pos i r) (512 + k.val) := by
  refine (kv_eq x0 x1 x2 x3 x4 x5 x6 x7 r k).trans ?_
  rw [h.h6, h.h7, ckv_apply, skv_apply, if_neg hk, if_neg hk, one32, Ideal.ofBits_zero_f32, mul_one, mul_zero, add_zero]
  exact kvpart x0 x1 x2 x3 x4 x5 x6 x7 X0 X1 X2 X3 b i h r k

include h in
/-- A key of the first attention, and a value, as the step stores it. -/
theorem key_cols (o : ℕ) (ho : o % 128 = 0) (hn : o + 64 ≤ 384) (hs : S256x384.Slices ![0, o] S256x64) (r : Fin 256) (k : Fin 64) :
    extractStridedSlice S256x64 ![0, o] (kv x0 x1 x2 x3 x4 x5 x6 x7) hs (ValueIdx.ix2 r k)
      = rotv (fun j => P X0 X1 X2 X3 b (pos i r) (512 + o + j)) (CO (pos i r)) (SI (pos i r)) k.val := by
  have hk := k.isLt
  refine (slice_apply (kv x0 x1 x2 x3 x4 x5 x6 x7) o hs r k (by omega)).trans ?_
  refine (kv_key x0 x1 x2 x3 x4 x5 x6 x7 X0 X1 X2 X3 b i h r _ (by show (o + k.val) % 128 < 64; omega)).trans ?_
  refine (rotv_shift (fun j => P X0 X1 X2 X3 b (pos i r) (512 + j)) _ _ o (by omega) k.val).trans ?_
  refine congrArg (fun p => rotv p (CO (pos i r)) (SI (pos i r)) k.val) (funext fun j => ?_)
  show P X0 X1 X2 X3 b (pos i r) (512 + (o + j)) = _
  rw [← Nat.add_assoc]

include h in
theorem val_cols (o : ℕ) (ho : o % 128 = 64) (hn : o + 64 ≤ 384) (hs : S256x384.Slices ![0, o] S256x64) (r : Fin 256) (k : Fin 64) :
    extractStridedSlice S256x64 ![0, o] (kv x0 x1 x2 x3 x4 x5 x6 x7) hs (ValueIdx.ix2 r k) = P X0 X1 X2 X3 b (pos i r) (512 + o + k.val) := by
  have hk := k.isLt
  refine (slice_apply (kv x0 x1 x2 x3 x4 x5 x6 x7) o hs r k (by omega)).trans ?_
  refine (kv_val x0 x1 x2 x3 x4 x5 x6 x7 X0 X1 X2 X3 b i h r _ (by show ¬ (o + k.val) % 128 < 64; omega)).trans ?_
  show P X0 X1 X2 X3 b (pos i r) (512 + (o + k.val)) = _
  rw [← Nat.add_assoc]

include h in
theorem out9_eq (r : Fin 256) (k : Fin 64) : out0_9 x0 x1 x2 x3 x4 x5 x6 x7 (ValueIdx.ix3 (0 : Fin 1) r k)
    = Cert.Reference3Ideal.Read.val_main_v125 (F := Ideal) X0 X1 X2 X3 (ValueIdx.ix3 b (pos i r) k) := by
  rw [ref_kc]
  unfold out0_9
  rw [View.canon_unit_zero z3]
  unfold k0_pay15
  exact (cast3 (n := 64) _ shapeCasts_S256x64_S1x256x64 r k).trans
    (key_cols x0 x1 x2 x3 x4 x5 x6 x7 X0 X1 X2 X3 b i h 0 rfl (by omega) slices_S256x384_o0_0_S256x64 r k)

include h in
theorem out10_eq (r : Fin 256) (k : Fin 64) : out0_10 x0 x1 x2 x3 x4 x5 x6 x7 (ValueIdx.ix3 (0 : Fin 1) r k)
    = Cert.Reference3Ideal.Read.val_main_v126 (F := Ideal) X0 X1 X2 X3 (ValueIdx.ix3 b (pos i r) k) := by
  rw [ref_vc]
  unfold out0_10
  rw [View.canon_unit_zero z3]
  unfold k0_pay16
  exact (cast3 (n := 64) _ shapeCasts_S256x64_S1x256x64 r k).trans
    (val_cols x0 x1 x2 x3 x4 x5 x6 x7 X0 X1 X2 X3 b i h 64 rfl (by omega) slices_S256x384_o0_64_S256x64 r k)

include h in
theorem out11_eq (r : Fin 256) (k : Fin 64) : out0_11 x0 x1 x2 x3 x4 x5 x6 x7 (ValueIdx.ix3 (0 : Fin 1) r k)
    = Cert.Reference3Ideal.Read.val_main_v146 (F := Ideal) X0 X1 X2 X3 (ValueIdx.ix3 b (pos i r) k) := by
  rw [ref_ks]
  unfold out0_11
  rw [View.canon_unit_zero z3]
  unfold k0_pay17
  exact (cast3 (n := 64) _ shapeCasts_S256x64_S1x256x64 r k).trans
    (key_cols x0 x1 x2 x3 x4 x5 x6 x7 X0 X1 X2 X3 b i h 128 rfl (by omega) slices_S256x384_o0_128_S256x64 r k)

include h in
theorem out12_eq (r : Fin 256) (k : Fin 64) : out0_12 x0 x1 x2 x3 x4 x5 x6 x7 (ValueIdx.ix3 (0 : Fin 1) r k)
    = Cert.Reference3Ideal.Read.val_main_v147 (F := Ideal) X0 X1 X2 X3 (ValueIdx.ix3 b (pos i r) k) := by
  rw [ref_vs]
  unfold out0_12
  rw [View.canon_unit_zero z3]
  unfold k0_pay19 k0_pay18
  exact (cast3 (n := 64) _ shapeCasts_S256x64_S1x256x64 r k).trans
    (val_cols x0 x1 x2 x3 x4 x5 x6 x7 X0 X1 X2 X3 b i h 192 rfl (by omega) slices_S256x384_o0_192_S256x64 r k)

include h in
theorem out13_eq (r : Fin 256) (k : Fin 64) : out0_13 x0 x1 x2 x3 x4 x5 x6 x7 (ValueIdx.ix3 (0 : Fin 1) r k)
    = Cert.Reference3Ideal.Read.val_main_v167 (F := Ideal) X0 X1 X2 X3 (ValueIdx.ix3 b (pos i r) k) := by
  rw [ref_kw]
  unfold out0_13
  rw [View.canon_unit_zero z3]
  unfold k0_pay20 k0_pay39
  exact (cast3 (n := 64) _ shapeCasts_S256x64_S1x256x64 r k).trans
    (key_cols x0 x1 x2 x3 x4 x5 x6 x7 X0 X1 X2 X3 b i h 256 rfl (by omega) slices_S256x384_o0_256_S256x64 r k)

include h in
theorem out14_eq (r : Fin 256) (k : Fin 64) : out0_14 x0 x1 x2 x3 x4 x5 x6 x7 (ValueIdx.ix3 (0 : Fin 1) r k)
    = Cert.Reference3Ideal.Read.val_main_v168 (F := Ideal) X0 X1 X2 X3 (ValueIdx.ix3 b (pos i r) k) := by
  rw [ref_vw]
  unfold out0_14
  rw [View.canon_unit_zero z3]
  unfold k0_pay21 k0_pay39
  exact (cast3 (n := 64) _ shapeCasts_S256x64_S1x256x64 r k).trans
    (val_cols x0 x1 x2 x3 x4 x5 x6 x7 X0 X1 X2 X3 b i h 320 rfl (by omega) slices_S256x384_o0_320_S256x64 r k)

end Cert.Proj

end

end
-- ==== Proof.Proj.Call.lean ====
/- The projection call: what the twelve output arrays hold at the end, and the arguments unchanged. -/
module

public import proofs.«01_k».proof.Proof.Proj.Out
public import proofs.«01_k».proof.Proof.Proj.Host
public import proofs.«01_k».proof.Proof.Gen.Kernel3Ideal.Value
public import Idealize.ShloMosaic.Lib.Pipeline.ValueKit.Geometry

@[expose] public section

set_option maxRecDepth 16384

noncomputable section

namespace Cert.Proj

open Cert.Kernel3Ideal Cert.Kernel3Ideal.Gen Cert.Kernel3Ideal.Value Idealize.ShloMosaic Idealize.ShloMosaic.TcCoe
open Idealize.SL.Sem

variable (m : (ℓ : Loc nD τ sig) → Buf (Elt Ideal) ℓ) (ρ : Dev nD → PrngReg)

theorem coords0 (t : Fin cfg0.N) : (grid0.coords t 0).val = t.val / 16 % 8 :=
  Pipeline.Grid.coords_val (G := grid0) t 0 (S := 16) (B := 8) (by decide) rfl
theorem coords1 (t : Fin cfg0.N) : (grid0.coords t 1).val = t.val / 1 % 16 :=
  Pipeline.Grid.coords_val (G := grid0) t 1 (S := 1) (B := 16) (by decide) rfl

/-- A point's batch and block of rows. -/
def batch (t : Fin cfg0.N) : Fin 8 := grid0.coords t 0
def rows (t : Fin cfg0.N) : Fin 16 := grid0.coords t 1

theorem word (n k : ℕ) (h : n < 4294967296) : (BitVec.ofNat 32 n).toNat * k = n * k := by
  rw [BitVec.toNat_ofNat, Nat.mod_eq_of_lt h]

theorem iblk0 (c : Dev nD) (t : Fin cfg0.N) (r : Fin 256) (d : Fin 1024) :
    iblk m c 0 t (ValueIdx.ix3 (0 : Fin 1) r d) = m ((c : Thread nD τ).loc main_arg0) (ValueIdx.ix3 (batch t) (pos (rows t) r) d) := by
  have h0 := (batch t).isLt
  have h2 := (rows t).isLt
  refine (show iblk m c 0 t (ValueIdx.ix3 (0 : Fin 1) r d) = V m c main_arg0 (((cfg0.win 0).rect t).emb (ValueIdx.ix3 (0 : Fin 1) r d)) from rfl).trans ?_
  refine (congrFun (V_main_arg0 m c) _).trans ?_
  refine Eq.trans (congrArg _ (funext fun a => Fin.ext ?_)) (rfl : m ((c : Thread nD τ).loc main_arg0) (ValueIdx.ix3 (batch t) (pos (rows t) r) d) = _)
  refine (Pipeline.Window.rect_emb_val (cfg0.win 0) t _ a).trans ?_
  match a with
  | ⟨0, _⟩ => show (BitVec.ofNat 32 (batch t).val).toNat * 1 + 0 = (batch t).val; rw [word _ _ (by omega)]; omega
  | ⟨1, _⟩ => show (BitVec.ofNat 32 (rows t).val).toNat * 256 + r.val = 256 * (rows t).val + r.val; rw [word _ _ (by omega)]; omega
  | ⟨2, _⟩ => show 0 * 1024 + d.val = d.val; omega

theorem iblk1 (c : Dev nD) (t : Fin cfg0.N) (q : Fin 6) (d : Fin 1024) :
    iblk m c 1 t (ValueIdx.ix3 (0 : Fin 1) q d) = m ((c : Thread nD τ).loc main_arg1) (ValueIdx.ix3 (batch t) q d) := by
  have h0 := (batch t).isLt
  have h2 := (rows t).isLt
  refine (show iblk m c 1 t (ValueIdx.ix3 (0 : Fin 1) q d) = V m c main_arg1 (((cfg0.win 1).rect t).emb (ValueIdx.ix3 (0 : Fin 1) q d)) from rfl).trans ?_
  refine (congrFun (V_main_arg1 m c) _).trans ?_
  refine Eq.trans (congrArg _ (funext fun a => Fin.ext ?_)) (rfl : m ((c : Thread nD τ).loc main_arg1) (ValueIdx.ix3 (batch t) q d) = _)
  refine (Pipeline.Window.rect_emb_val (cfg0.win 1) t _ a).trans ?_
  match a with
  | ⟨0, _⟩ => show (BitVec.ofNat 32 (batch t).val).toNat * 1 + 0 = (batch t).val; rw [word _ _ (by omega)]; omega
  | ⟨1, _⟩ => show 0 * 6 + q.val = q.val; omega
  | ⟨2, _⟩ => show 0 * 1024 + d.val = d.val; omega

theorem flat_g (g : FVec Ideal S1024 .f32) (d : Fin 1024) : shapeCast S1x1024 g shapeCasts_S1024_S1x1024 (ValueIdx.ix2 (0 : Fin 1) d) = g (ValueIdx.ix1 d) := by
  refine shapeCast_apply g shapeCasts_S1024_S1x1024 _ (ValueIdx.ix1 d) ?_
  rewrite [Shape.rowMajor_val_two, Shape.rowMajor_val_one]
  show d.val = 0 * 1024 + d.val
  omega

theorem iblk2 (c : Dev nD) (t : Fin cfg0.N) (d : Fin 1024) :
    iblk m c 2 t (ValueIdx.ix2 (0 : Fin 1) d) = m ((c : Thread nD τ).loc main_arg2) (ValueIdx.ix1 d) := by
  have h0 := (batch t).isLt
  have h2 := (rows t).isLt
  refine (show iblk m c 2 t (ValueIdx.ix2 (0 : Fin 1) d) = V m c main_v46 (((cfg0.win 2).rect t).emb (ValueIdx.ix2 (0 : Fin 1) d)) from rfl).trans ?_
  refine (congrFun (V_g m c) _).trans ?_
  refine Eq.trans (congrArg _ (funext fun a => Fin.ext ?_)) (flat_g (m ((c : Thread nD τ).loc main_arg2)) d)
  refine (Pipeline.Window.rect_emb_val (cfg0.win 2) t _ a).trans ?_
  match a with
  | ⟨0, _⟩ => show 0 * 1 + 0 = 0; omega
  | ⟨1, _⟩ => show 0 * 1024 + d.val = d.val; omega

theorem iblk3 (c : Dev nD) (t : Fin cfg0.N) (d : Fin 1024) (e : Fin 2560) :
    iblk m c 3 t (ValueIdx.ix2 d e) = wcol (m ((c : Thread nD τ).loc main_arg3)) d e.val := by
  have h0 := (batch t).isLt
  have h2 := (rows t).isLt
  refine (show iblk m c 3 t (ValueIdx.ix2 d e) = V m c main_v14 (((cfg0.win 3).rect t).emb (ValueIdx.ix2 d e)) from rfl).trans ?_
  refine (congrFun (V_w m c) _).trans ?_
  refine Eq.trans (congrArg _ (funext fun a => Fin.ext ?_)) (catW_apply (m ((c : Thread nD τ).loc main_arg3)) d e)
  refine (Pipeline.Window.rect_emb_val (cfg0.win 3) t _ a).trans ?_
  match a with
  | ⟨0, _⟩ => show 0 * 1024 + d.val = d.val; omega
  | ⟨1, _⟩ => show 0 * 2560 + e.val = e.val; omega

theorem iblk4 (c : Dev nD) (t : Fin cfg0.N) (r : Fin 256) (k : Fin 512) :
    iblk m c 4 t (ValueIdx.ix2 r k) = tile8 headC (ValueIdx.ix2 (pos (rows t) r) k) := by
  have h0 := (batch t).isLt
  have h2 := (rows t).isLt
  refine (show iblk m c 4 t (ValueIdx.ix2 r k) = V m c main_v38 (((cfg0.win 4).rect t).emb (ValueIdx.ix2 r k)) from rfl).trans ?_
  refine (congrFun (V_cq m c) _).trans ?_
  refine Eq.trans (congrArg _ (funext fun a => Fin.ext ?_)) (rfl : tile8 headC (ValueIdx.ix2 (pos (rows t) r) k) = _)
  refine (Pipeline.Window.rect_emb_val (cfg0.win 4) t _ a).trans ?_
  match a with
  | ⟨0, _⟩ => show (BitVec.ofNat 32 (rows t).val).toNat * 256 + r.val = 256 * (rows t).val + r.val; rw [word _ _ (by omega)]; omega
  | ⟨1, _⟩ => show 0 * 512 + k.val = k.val; omega

theorem iblk5 (c : Dev nD) (t : Fin cfg0.N) (r : Fin 256) (k : Fin 512) :
    iblk m c 5 t (ValueIdx.ix2 r k) = tile8 headS (ValueIdx.ix2 (pos (rows t) r) k) := by
  have h0 := (batch t).isLt
  have h2 := (rows t).isLt
  refine (show iblk m c 5 t (ValueIdx.ix2 r k) = V m c main_v41 (((cfg0.win 5).rect t).emb (ValueIdx.ix2 r k)) from rfl).trans ?_
  refine (congrFun (V_sq m c) _).trans ?_
  refine Eq.trans (congrArg _ (funext fun a => Fin.ext ?_)) (rfl : tile8 headS (ValueIdx.ix2 (pos (rows t) r) k) = _)
  refine (Pipeline.Window.rect_emb_val (cfg0.win 5) t _ a).trans ?_
  match a with
  | ⟨0, _⟩ => show (BitVec.ofNat 32 (rows t).val).toNat * 256 + r.val = 256 * (rows t).val + r.val; rw [word _ _ (by omega)]; omega
  | ⟨1, _⟩ => show 0 * 512 + k.val = k.val; omega

theorem iblk6 (c : Dev nD) (t : Fin cfg0.N) (r : Fin 256) (k : Fin 384) :
    iblk m c 6 t (ValueIdx.ix2 r k) = tile3 headC (fill 0x3F800000#32) (ValueIdx.ix2 (pos (rows t) r) k) := by
  have h0 := (batch t).isLt
  have h2 := (rows t).isLt
  refine (show iblk m c 6 t (ValueIdx.ix2 r k) = V m c main_v44 (((cfg0.win 6).rect t).emb (ValueIdx.ix2 r k)) from rfl).trans ?_
  refine (congrFun (V_ckv m c) _).trans ?_
  refine Eq.trans (congrArg _ (funext fun a => Fin.ext ?_)) (rfl : tile3 headC (fill 0x3F800000#32) (ValueIdx.ix2 (pos (rows t) r) k) = _)
  refine (Pipeline.Window.rect_emb_val (cfg0.win 6) t _ a).trans ?_
  match a with
  | ⟨0, _⟩ => show (BitVec.ofNat 32 (rows t).val).toNat * 256 + r.val = 256 * (rows t).val + r.val; rw [word _ _ (by omega)]; omega
  | ⟨1, _⟩ => show 0 * 384 + k.val = k.val; omega

theorem iblk7 (c : Dev nD) (t : Fin cfg0.N) (r : Fin 256) (k : Fin 384) :
    iblk m c 7 t (ValueIdx.ix2 r k) = tile3 headS (fill 0x00000000#32) (ValueIdx.ix2 (pos (rows t) r) k) := by
  have h0 := (batch t).isLt
  have h2 := (rows t).isLt
  refine (show iblk m c 7 t (ValueIdx.ix2 r k) = V m c main_v45 (((cfg0.win 7).rect t).emb (ValueIdx.ix2 r k)) from rfl).trans ?_
  refine (congrFun (V_skv m c) _).trans ?_
  refine Eq.trans (congrArg _ (funext fun a => Fin.ext ?_)) (rfl : tile3 headS (fill 0x00000000#32) (ValueIdx.ix2 (pos (rows t) r) k) = _)
  refine (Pipeline.Window.rect_emb_val (cfg0.win 7) t _ a).trans ?_
  match a with
  | ⟨0, _⟩ => show (BitVec.ofNat 32 (rows t).val).toNat * 256 + r.val = 256 * (rows t).val + r.val; rw [word _ _ (by omega)]; omega
  | ⟨1, _⟩ => show 0 * 384 + k.val = k.val; omega

/-- Every point's blocks are blocks of the arguments and of the tables. -/
theorem blocks (c : Dev nD) (t : Fin cfg0.N) : Blocks (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2)) (m ((c : Thread nD τ).loc main_arg3)) (batch t) (rows t) where
  h0 := iblk0 m c t
  h1 := iblk1 m c t
  h2 := iblk2 m c t
  h3 := iblk3 m c t
  h4 := iblk4 m c t
  h5 := iblk5 m c t
  h6 := iblk6 m c t
  h7 := iblk7 m c t

/-- The reference's result 0, of the call's own arguments. -/
def want0 (c : Dev nD) : Buf (Elt Ideal) ((c : Thread nD τ).loc main_v47_0) :=
  Cert.Reference3Ideal.Read.val_main_v105 (F := Ideal) (m ((c : Thread nD τ).loc main_arg0)) (m ((c : Thread nD τ).loc main_arg1)) (m ((c : Thread nD τ).loc main_arg2)) (m ((c : Thread nD τ).loc main_arg3))

/-- The reference's result 1, of the call's own arguments. -/
def want1 (c : Dev nD) : Buf (Elt Ideal) ((c : Thread nD τ).loc main_v47_1) :=
  Cert.Reference3Ideal.Read.val_main_v125 (F := Ideal) (m ((c : Thread nD τ).loc main_arg0)) (m ((c : Thread nD τ).loc main_arg1)) (m ((c : Thread nD τ).loc main_arg2)) (m ((c : Thread nD τ).loc main_arg3))

/-- The reference's result 2, of the call's own arguments. -/
def want2 (c : Dev nD) : Buf (Elt Ideal) ((c : Thread nD τ).loc main_v47_2) :=
  Cert.Reference3Ideal.Read.val_main_v126 (F := Ideal) (m ((c : Thread nD τ).loc main_arg0)) (m ((c : Thread nD τ).loc main_arg1)) (m ((c : Thread nD τ).loc main_arg2)) (m ((c : Thread nD τ).loc main_arg3))

/-- The reference's result 3, of the call's own arguments. -/
def want3 (c : Dev nD) : Buf (Elt Ideal) ((c : Thread nD τ).loc main_v47_3) :=
  Cert.Reference3Ideal.Read.val_main_v146 (F := Ideal) (m ((c : Thread nD τ).loc main_arg0)) (m ((c : Thread nD τ).loc main_arg1)) (m ((c : Thread nD τ).loc main_arg2)) (m ((c : Thread nD τ).loc main_arg3))

/-- The reference's result 4, of the call's own arguments. -/
def want4 (c : Dev nD) : Buf (Elt Ideal) ((c : Thread nD τ).loc main_v47_4) :=
  Cert.Reference3Ideal.Read.val_main_v147 (F := Ideal) (m ((c : Thread nD τ).loc main_arg0)) (m ((c : Thread nD τ).loc main_arg1)) (m ((c : Thread nD τ).loc main_arg2)) (m ((c : Thread nD τ).loc main_arg3))

/-- The reference's result 5, of the call's own arguments. -/
def want5 (c : Dev nD) : Buf (Elt Ideal) ((c : Thread nD τ).loc main_v47_5) :=
  Cert.Reference3Ideal.Read.val_main_v167 (F := Ideal) (m ((c : Thread nD τ).loc main_arg0)) (m ((c : Thread nD τ).loc main_arg1)) (m ((c : Thread nD τ).loc main_arg2)) (m ((c : Thread nD τ).loc main_arg3))

/-- The reference's result 6, of the call's own arguments. -/
def want6 (c : Dev nD) : Buf (Elt Ideal) ((c : Thread nD τ).loc main_v47_6) :=
  Cert.Reference3Ideal.Read.val_main_v168 (F := Ideal) (m ((c : Thread nD τ).loc main_arg0)) (m ((c : Thread nD τ).loc main_arg1)) (m ((c : Thread nD τ).loc main_arg2)) (m ((c : Thread nD τ).loc main_arg3))

/-- The reference's result 7, of the call's own arguments. -/
def want7 (c : Dev nD) : Buf (Elt Ideal) ((c : Thread nD τ).loc main_v47_7) :=
  Cert.Reference3Ideal.Read.val_main_v83 (F := Ideal) (m ((c : Thread nD τ).loc main_arg0)) (m ((c : Thread nD τ).loc main_arg1)) (m ((c : Thread nD τ).loc main_arg2)) (m ((c : Thread nD τ).loc main_arg3))

/-- The reference's result 8, of the call's own arguments. -/
def want8 (c : Dev nD) : Buf (Elt Ideal) ((c : Thread nD τ).loc main_v47_8) :=
  Cert.Reference3Ideal.Read.val_main_v190 (F := Ideal) (m ((c : Thread nD τ).loc main_arg0)) (m ((c : Thread nD τ).loc main_arg1)) (m ((c : Thread nD τ).loc main_arg2)) (m ((c : Thread nD τ).loc main_arg3))

/-- The reference's result 9, of the call's own arguments. -/
def want9 (c : Dev nD) : Buf (Elt Ideal) ((c : Thread nD τ).loc main_v47_9) :=
  Cert.Reference3Ideal.Read.val_main_v191 (F := Ideal) (m ((c : Thread nD τ).loc main_arg0)) (m ((c : Thread nD τ).loc main_arg1)) (m ((c : Thread nD τ).loc main_arg2)) (m ((c : Thread nD τ).loc main_arg3))

/-- The reference's result 10, of the call's own arguments. -/
def want10 (c : Dev nD) : Buf (Elt Ideal) ((c : Thread nD τ).loc main_v47_10) :=
  Cert.Reference3Ideal.Read.val_main_v192 (F := Ideal) (m ((c : Thread nD τ).loc main_arg0)) (m ((c : Thread nD τ).loc main_arg1)) (m ((c : Thread nD τ).loc main_arg2)) (m ((c : Thread nD τ).loc main_arg3))

/-- The reference's result 11, of the call's own arguments. -/
def want11 (c : Dev nD) : Buf (Elt Ideal) ((c : Thread nD τ).loc main_v47_11) :=
  Cert.Reference3Ideal.Read.val_main_v76 (F := Ideal) (m ((c : Thread nD τ).loc main_arg0)) (m ((c : Thread nD τ).loc main_arg1)) (m ((c : Thread nD τ).loc main_arg2)) (m ((c : Thread nD τ).loc main_arg3))

/-- An index of an output block, and of the array that it is written to. -/
abbrev Blk (k : ℕ) : Type := (⟨3, ![1, 256, k]⟩ : Shape).Idx
abbrev Arr (k : ℕ) : Type := (⟨3, ![8, 4096, k]⟩ : Shape).Idx

/-- Where a point's block of 256 rows lies in its array. -/
theorem place {k : ℕ} (e : Arr k) (t : Fin cfg0.N) (y : Blk k)
    (h0 : (e 0).val = (BitVec.ofNat 32 (batch t).val).toNat * 1 + (y 0).val)
    (h1 : (e 1).val = (BitVec.ofNat 32 (rows t).val).toNat * 256 + (y 1).val) (h2 : (e 2).val = 0 * k + (y 2).val) :
    e = ValueIdx.ix3 (batch t) (pos (rows t) (y 1)) (y 2) := by
  have b0 := (batch t).isLt
  have b1 := (rows t).isLt
  have hy : (y 0).val < 1 := (y 0).isLt
  refine funext fun a => Fin.ext ?_
  match a with
  | ⟨0, _⟩ => show (e 0).val = (batch t).val; rw [h0, word _ _ (by omega)]; omega
  | ⟨1, _⟩ => show (e 1).val = 256 * (rows t).val + (y 1).val; rw [h1, word _ _ (by omega)]; omega
  | ⟨2, _⟩ => show (e 2).val = (y 2).val; rw [h2, Nat.zero_mul, Nat.zero_add]

/-- Every element of such an array is in some point's block. -/
theorem reach {k : ℕ} (i : Arr k) : ∃ (t : Fin cfg0.N) (y : Blk k), (ValueIdx.ix3 (batch t) (pos (rows t) (y 1)) (y 2) : Arr k) = i := by
  have h0 : (i 0).val < 8 := (i 0).isLt
  have h1 : (i 1).val < 4096 := (i 1).isLt
  have hN : (i 0).val * 16 + (i 1).val / 256 < cfg0.N :=
    show (i 0).val * 16 + (i 1).val / 256 < 128 by omega
  have k0 := coords0 ⟨_, hN⟩
  have k1 := coords1 ⟨_, hN⟩
  refine ⟨⟨_, hN⟩, ValueIdx.ix3 (0 : Fin 1) (⟨(i 1).val % 256, by omega⟩ : Fin 256) (i 2), ?_⟩
  funext a
  match a with
  | ⟨0, _⟩ => refine Fin.ext (k0.trans ?_); show ((i 0).val * 16 + (i 1).val / 256) / 16 % 8 = (i 0).val; omega
  | ⟨1, _⟩ =>
    refine Fin.ext ((congrArg (fun z => 256 * z + (i 1).val % 256) k1).trans ?_)
    show 256 * (((i 0).val * 16 + (i 1).val / 256) / 1 % 16) + (i 1).val % 256 = (i 1).val; omega
  | ⟨2, _⟩ => rfl

theorem unit_row {k : ℕ} (y : Blk k) : y = ValueIdx.ix3 (0 : Fin 1) (y 1) (y 2) := by
  funext a
  match a with
  | ⟨0, _⟩ => exact Fin.ext (by have : (y 0).val < 1 := (y 0).isLt; show (y 0).val = 0; omega)
  | ⟨1, _⟩ => rfl
  | ⟨2, _⟩ => rfl

theorem emb8 (t : Fin cfg0.N) (y : S1x256x512.Idx) :
    (((cfg0.win 8).rect t).emb y : S8x4096x512.Idx) = ValueIdx.ix3 (batch t) (pos (rows t) (y 1)) (y 2) :=
  place (k := 512) _ t y (Pipeline.Window.rect_emb_val (cfg0.win 8) t y 0) (Pipeline.Window.rect_emb_val (cfg0.win 8) t y 1)
    (Pipeline.Window.rect_emb_val (cfg0.win 8) t y 2)

theorem final8_of (c : Dev nD) (G : Buf (Elt Ideal) ((c : Thread nD τ).loc main_v47_0)) (O : Fin cfg0.N → Vec Ideal S1x256x512 .bf16)
    (ho : ∀ t : Fin cfg0.N, (dats m 0 c).after 8 t = O t)
    (h : ∀ (t : Fin cfg0.N) (y : S1x256x512.Idx), O t y = G (((cfg0.win 8).rect t).emb y)) :
    (dats m 0 c).arrAt 8 cfg0.N = G := by
  refine (dats m 0 c).arrAt_eq_of_emb 8 G (fun t _ y => ?_) (fun i => ?_)
  · rw [ho]
    exact h t y
  · obtain ⟨t, y, e⟩ := reach (k := 512) i
    exact ⟨t, flush0_8 t, (congrArg (· ∈ _) ((emb8 t y).trans e)).mp (Finset.mem_map.mpr ⟨y, Finset.mem_univ _, rfl⟩)⟩

theorem final8 (c : Dev nD) : (dats m 0 c).arrAt 8 cfg0.N = want0 m c :=
  final8_of m c (want0 m c) (fun t => out0_8 (iblk m c 0 t) (iblk m c 1 t) (iblk m c 2 t) (iblk m c 3 t) (iblk m c 4 t) (iblk m c 5 t) (iblk m c 6 t) (iblk m c 7 t)) (after0_8 m c) fun t y => by
    rw [emb8 t y]
    exact (congrArg _ (unit_row (k := 512) y)).trans (out8_eq _ _ _ _ _ _ _ _ _ _ _ _ (batch t) (rows t) (blocks m c t) (y 1) (y 2))

theorem emb9 (t : Fin cfg0.N) (y : S1x256x64.Idx) :
    (((cfg0.win 9).rect t).emb y : S8x4096x64.Idx) = ValueIdx.ix3 (batch t) (pos (rows t) (y 1)) (y 2) :=
  place (k := 64) _ t y (Pipeline.Window.rect_emb_val (cfg0.win 9) t y 0) (Pipeline.Window.rect_emb_val (cfg0.win 9) t y 1)
    (Pipeline.Window.rect_emb_val (cfg0.win 9) t y 2)

theorem final9_of (c : Dev nD) (G : Buf (Elt Ideal) ((c : Thread nD τ).loc main_v47_1)) (O : Fin cfg0.N → Vec Ideal S1x256x64 .bf16)
    (ho : ∀ t : Fin cfg0.N, (dats m 0 c).after 9 t = O t)
    (h : ∀ (t : Fin cfg0.N) (y : S1x256x64.Idx), O t y = G (((cfg0.win 9).rect t).emb y)) :
    (dats m 0 c).arrAt 9 cfg0.N = G := by
  refine (dats m 0 c).arrAt_eq_of_emb 9 G (fun t _ y => ?_) (fun i => ?_)
  · rw [ho]
    exact h t y
  · obtain ⟨t, y, e⟩ := reach (k := 64) i
    exact ⟨t, flush0_9 t, (congrArg (· ∈ _) ((emb9 t y).trans e)).mp (Finset.mem_map.mpr ⟨y, Finset.mem_univ _, rfl⟩)⟩

theorem final9 (c : Dev nD) : (dats m 0 c).arrAt 9 cfg0.N = want1 m c :=
  final9_of m c (want1 m c) (fun t => out0_9 (iblk m c 0 t) (iblk m c 1 t) (iblk m c 2 t) (iblk m c 3 t) (iblk m c 4 t) (iblk m c 5 t) (iblk m c 6 t) (iblk m c 7 t)) (after0_9 m c) fun t y => by
    rw [emb9 t y]
    exact (congrArg _ (unit_row (k := 64) y)).trans (out9_eq _ _ _ _ _ _ _ _ _ _ _ _ (batch t) (rows t) (blocks m c t) (y 1) (y 2))

theorem emb10 (t : Fin cfg0.N) (y : S1x256x64.Idx) :
    (((cfg0.win 10).rect t).emb y : S8x4096x64.Idx) = ValueIdx.ix3 (batch t) (pos (rows t) (y 1)) (y 2) :=
  place (k := 64) _ t y (Pipeline.Window.rect_emb_val (cfg0.win 10) t y 0) (Pipeline.Window.rect_emb_val (cfg0.win 10) t y 1)
    (Pipeline.Window.rect_emb_val (cfg0.win 10) t y 2)

theorem final10_of (c : Dev nD) (G : Buf (Elt Ideal) ((c : Thread nD τ).loc main_v47_2)) (O : Fin cfg0.N → Vec Ideal S1x256x64 .bf16)
    (ho : ∀ t : Fin cfg0.N, (dats m 0 c).after 10 t = O t)
    (h : ∀ (t : Fin cfg0.N) (y : S1x256x64.Idx), O t y = G (((cfg0.win 10).rect t).emb y)) :
    (dats m 0 c).arrAt 10 cfg0.N = G := by
  refine (dats m 0 c).arrAt_eq_of_emb 10 G (fun t _ y => ?_) (fun i => ?_)
  · rw [ho]
    exact h t y
  · obtain ⟨t, y, e⟩ := reach (k := 64) i
    exact ⟨t, flush0_10 t, (congrArg (· ∈ _) ((emb10 t y).trans e)).mp (Finset.mem_map.mpr ⟨y, Finset.mem_univ _, rfl⟩)⟩

theorem final10 (c : Dev nD) : (dats m 0 c).arrAt 10 cfg0.N = want2 m c :=
  final10_of m c (want2 m c) (fun t => out0_10 (iblk m c 0 t) (iblk m c 1 t) (iblk m c 2 t) (iblk m c 3 t) (iblk m c 4 t) (iblk m c 5 t) (iblk m c 6 t) (iblk m c 7 t)) (after0_10 m c) fun t y => by
    rw [emb10 t y]
    exact (congrArg _ (unit_row (k := 64) y)).trans (out10_eq _ _ _ _ _ _ _ _ _ _ _ _ (batch t) (rows t) (blocks m c t) (y 1) (y 2))

theorem emb11 (t : Fin cfg0.N) (y : S1x256x64.Idx) :
    (((cfg0.win 11).rect t).emb y : S8x4096x64.Idx) = ValueIdx.ix3 (batch t) (pos (rows t) (y 1)) (y 2) :=
  place (k := 64) _ t y (Pipeline.Window.rect_emb_val (cfg0.win 11) t y 0) (Pipeline.Window.rect_emb_val (cfg0.win 11) t y 1)
    (Pipeline.Window.rect_emb_val (cfg0.win 11) t y 2)

theorem final11_of (c : Dev nD) (G : Buf (Elt Ideal) ((c : Thread nD τ).loc main_v47_3)) (O : Fin cfg0.N → Vec Ideal S1x256x64 .bf16)
    (ho : ∀ t : Fin cfg0.N, (dats m 0 c).after 11 t = O t)
    (h : ∀ (t : Fin cfg0.N) (y : S1x256x64.Idx), O t y = G (((cfg0.win 11).rect t).emb y)) :
    (dats m 0 c).arrAt 11 cfg0.N = G := by
  refine (dats m 0 c).arrAt_eq_of_emb 11 G (fun t _ y => ?_) (fun i => ?_)
  · rw [ho]
    exact h t y
  · obtain ⟨t, y, e⟩ := reach (k := 64) i
    exact ⟨t, flush0_11 t, (congrArg (· ∈ _) ((emb11 t y).trans e)).mp (Finset.mem_map.mpr ⟨y, Finset.mem_univ _, rfl⟩)⟩

theorem final11 (c : Dev nD) : (dats m 0 c).arrAt 11 cfg0.N = want3 m c :=
  final11_of m c (want3 m c) (fun t => out0_11 (iblk m c 0 t) (iblk m c 1 t) (iblk m c 2 t) (iblk m c 3 t) (iblk m c 4 t) (iblk m c 5 t) (iblk m c 6 t) (iblk m c 7 t)) (after0_11 m c) fun t y => by
    rw [emb11 t y]
    exact (congrArg _ (unit_row (k := 64) y)).trans (out11_eq _ _ _ _ _ _ _ _ _ _ _ _ (batch t) (rows t) (blocks m c t) (y 1) (y 2))

theorem emb12 (t : Fin cfg0.N) (y : S1x256x64.Idx) :
    (((cfg0.win 12).rect t).emb y : S8x4096x64.Idx) = ValueIdx.ix3 (batch t) (pos (rows t) (y 1)) (y 2) :=
  place (k := 64) _ t y (Pipeline.Window.rect_emb_val (cfg0.win 12) t y 0) (Pipeline.Window.rect_emb_val (cfg0.win 12) t y 1)
    (Pipeline.Window.rect_emb_val (cfg0.win 12) t y 2)

theorem final12_of (c : Dev nD) (G : Buf (Elt Ideal) ((c : Thread nD τ).loc main_v47_4)) (O : Fin cfg0.N → Vec Ideal S1x256x64 .bf16)
    (ho : ∀ t : Fin cfg0.N, (dats m 0 c).after 12 t = O t)
    (h : ∀ (t : Fin cfg0.N) (y : S1x256x64.Idx), O t y = G (((cfg0.win 12).rect t).emb y)) :
    (dats m 0 c).arrAt 12 cfg0.N = G := by
  refine (dats m 0 c).arrAt_eq_of_emb 12 G (fun t _ y => ?_) (fun i => ?_)
  · rw [ho]
    exact h t y
  · obtain ⟨t, y, e⟩ := reach (k := 64) i
    exact ⟨t, flush0_12 t, (congrArg (· ∈ _) ((emb12 t y).trans e)).mp (Finset.mem_map.mpr ⟨y, Finset.mem_univ _, rfl⟩)⟩

theorem final12 (c : Dev nD) : (dats m 0 c).arrAt 12 cfg0.N = want4 m c :=
  final12_of m c (want4 m c) (fun t => out0_12 (iblk m c 0 t) (iblk m c 1 t) (iblk m c 2 t) (iblk m c 3 t) (iblk m c 4 t) (iblk m c 5 t) (iblk m c 6 t) (iblk m c 7 t)) (after0_12 m c) fun t y => by
    rw [emb12 t y]
    exact (congrArg _ (unit_row (k := 64) y)).trans (out12_eq _ _ _ _ _ _ _ _ _ _ _ _ (batch t) (rows t) (blocks m c t) (y 1) (y 2))

theorem emb13 (t : Fin cfg0.N) (y : S1x256x64.Idx) :
    (((cfg0.win 13).rect t).emb y : S8x4096x64.Idx) = ValueIdx.ix3 (batch t) (pos (rows t) (y 1)) (y 2) :=
  place (k := 64) _ t y (Pipeline.Window.rect_emb_val (cfg0.win 13) t y 0) (Pipeline.Window.rect_emb_val (cfg0.win 13) t y 1)
    (Pipeline.Window.rect_emb_val (cfg0.win 13) t y 2)

theorem final13_of (c : Dev nD) (G : Buf (Elt Ideal) ((c : Thread nD τ).loc main_v47_5)) (O : Fin cfg0.N → Vec Ideal S1x256x64 .bf16)
    (ho : ∀ t : Fin cfg0.N, (dats m 0 c).after 13 t = O t)
    (h : ∀ (t : Fin cfg0.N) (y : S1x256x64.Idx), O t y = G (((cfg0.win 13).rect t).emb y)) :
    (dats m 0 c).arrAt 13 cfg0.N = G := by
  refine (dats m 0 c).arrAt_eq_of_emb 13 G (fun t _ y => ?_) (fun i => ?_)
  · rw [ho]
    exact h t y
  · obtain ⟨t, y, e⟩ := reach (k := 64) i
    exact ⟨t, flush0_13 t, (congrArg (· ∈ _) ((emb13 t y).trans e)).mp (Finset.mem_map.mpr ⟨y, Finset.mem_univ _, rfl⟩)⟩

theorem final13 (c : Dev nD) : (dats m 0 c).arrAt 13 cfg0.N = want5 m c :=
  final13_of m c (want5 m c) (fun t => out0_13 (iblk m c 0 t) (iblk m c 1 t) (iblk m c 2 t) (iblk m c 3 t) (iblk m c 4 t) (iblk m c 5 t) (iblk m c 6 t) (iblk m c 7 t)) (after0_13 m c) fun t y => by
    rw [emb13 t y]
    exact (congrArg _ (unit_row (k := 64) y)).trans (out13_eq _ _ _ _ _ _ _ _ _ _ _ _ (batch t) (rows t) (blocks m c t) (y 1) (y 2))

theorem emb14 (t : Fin cfg0.N) (y : S1x256x64.Idx) :
    (((cfg0.win 14).rect t).emb y : S8x4096x64.Idx) = ValueIdx.ix3 (batch t) (pos (rows t) (y 1)) (y 2) :=
  place (k := 64) _ t y (Pipeline.Window.rect_emb_val (cfg0.win 14) t y 0) (Pipeline.Window.rect_emb_val (cfg0.win 14) t y 1)
    (Pipeline.Window.rect_emb_val (cfg0.win 14) t y 2)

theorem final14_of (c : Dev nD) (G : Buf (Elt Ideal) ((c : Thread nD τ).loc main_v47_6)) (O : Fin cfg0.N → Vec Ideal S1x256x64 .bf16)
    (ho : ∀ t : Fin cfg0.N, (dats m 0 c).after 14 t = O t)
    (h : ∀ (t : Fin cfg0.N) (y : S1x256x64.Idx), O t y = G (((cfg0.win 14).rect t).emb y)) :
    (dats m 0 c).arrAt 14 cfg0.N = G := by
  refine (dats m 0 c).arrAt_eq_of_emb 14 G (fun t _ y => ?_) (fun i => ?_)
  · rw [ho]
    exact h t y
  · obtain ⟨t, y, e⟩ := reach (k := 64) i
    exact ⟨t, flush0_14 t, (congrArg (· ∈ _) ((emb14 t y).trans e)).mp (Finset.mem_map.mpr ⟨y, Finset.mem_univ _, rfl⟩)⟩

theorem final14 (c : Dev nD) : (dats m 0 c).arrAt 14 cfg0.N = want6 m c :=
  final14_of m c (want6 m c) (fun t => out0_14 (iblk m c 0 t) (iblk m c 1 t) (iblk m c 2 t) (iblk m c 3 t) (iblk m c 4 t) (iblk m c 5 t) (iblk m c 6 t) (iblk m c 7 t)) (after0_14 m c) fun t y => by
    rw [emb14 t y]
    exact (congrArg _ (unit_row (k := 64) y)).trans (out14_eq _ _ _ _ _ _ _ _ _ _ _ _ (batch t) (rows t) (blocks m c t) (y 1) (y 2))

theorem emb15 (t : Fin cfg0.N) (y : S1x256x128.Idx) :
    (((cfg0.win 15).rect t).emb y : S8x4096x128.Idx) = ValueIdx.ix3 (batch t) (pos (rows t) (y 1)) (y 2) :=
  place (k := 128) _ t y (Pipeline.Window.rect_emb_val (cfg0.win 15) t y 0) (Pipeline.Window.rect_emb_val (cfg0.win 15) t y 1)
    (Pipeline.Window.rect_emb_val (cfg0.win 15) t y 2)

theorem final15_of (c : Dev nD) (G : Buf (Elt Ideal) ((c : Thread nD τ).loc main_v47_7)) (O : Fin cfg0.N → Vec Ideal S1x256x128 .f32)
    (ho : ∀ t : Fin cfg0.N, (dats m 0 c).after 15 t = O t)
    (h : ∀ (t : Fin cfg0.N) (y : S1x256x128.Idx), O t y = G (((cfg0.win 15).rect t).emb y)) :
    (dats m 0 c).arrAt 15 cfg0.N = G := by
  refine (dats m 0 c).arrAt_eq_of_emb 15 G (fun t _ y => ?_) (fun i => ?_)
  · rw [ho]
    exact h t y
  · obtain ⟨t, y, e⟩ := reach (k := 128) i
    exact ⟨t, flush0_15 t, (congrArg (· ∈ _) ((emb15 t y).trans e)).mp (Finset.mem_map.mpr ⟨y, Finset.mem_univ _, rfl⟩)⟩

theorem final15 (c : Dev nD) : (dats m 0 c).arrAt 15 cfg0.N = want7 m c :=
  final15_of m c (want7 m c) (fun t => out0_15 (iblk m c 0 t) (iblk m c 1 t) (iblk m c 2 t) (iblk m c 3 t) (iblk m c 4 t) (iblk m c 5 t) (iblk m c 6 t) (iblk m c 7 t)) (after0_15 m c) fun t y => by
    rw [emb15 t y]
    exact (congrArg _ (unit_row (k := 128) y)).trans (out15_eq _ _ _ _ _ _ _ _ _ _ _ _ (batch t) (rows t) (blocks m c t) (y 1) (y 2))

theorem emb16 (t : Fin cfg0.N) (y : S1x256x512.Idx) :
    (((cfg0.win 16).rect t).emb y : S8x4096x512.Idx) = ValueIdx.ix3 (batch t) (pos (rows t) (y 1)) (y 2) :=
  place (k := 512) _ t y (Pipeline.Window.rect_emb_val (cfg0.win 16) t y 0) (Pipeline.Window.rect_emb_val (cfg0.win 16) t y 1)
    (Pipeline.Window.rect_emb_val (cfg0.win 16) t y 2)

theorem final16_of (c : Dev nD) (G : Buf (Elt Ideal) ((c : Thread nD τ).loc main_v47_8)) (O : Fin cfg0.N → Vec Ideal S1x256x512 .bf16)
    (ho : ∀ t : Fin cfg0.N, (dats m 0 c).after 16 t = O t)
    (h : ∀ (t : Fin cfg0.N) (y : S1x256x512.Idx), O t y = G (((cfg0.win 16).rect t).emb y)) :
    (dats m 0 c).arrAt 16 cfg0.N = G := by
  refine (dats m 0 c).arrAt_eq_of_emb 16 G (fun t _ y => ?_) (fun i => ?_)
  · rw [ho]
    exact h t y
  · obtain ⟨t, y, e⟩ := reach (k := 512) i
    exact ⟨t, flush0_16 t, (congrArg (· ∈ _) ((emb16 t y).trans e)).mp (Finset.mem_map.mpr ⟨y, Finset.mem_univ _, rfl⟩)⟩

theorem final16 (c : Dev nD) : (dats m 0 c).arrAt 16 cfg0.N = want8 m c :=
  final16_of m c (want8 m c) (fun t => out0_16 (iblk m c 0 t) (iblk m c 1 t) (iblk m c 2 t) (iblk m c 3 t) (iblk m c 4 t) (iblk m c 5 t) (iblk m c 6 t) (iblk m c 7 t)) (after0_16 m c) fun t y => by
    rw [emb16 t y]
    exact (congrArg _ (unit_row (k := 512) y)).trans (out16_eq _ _ _ _ _ _ _ _ _ _ _ _ (batch t) (rows t) (blocks m c t) (y 1) (y 2))

theorem emb17 (t : Fin cfg0.N) (y : S1x256x512.Idx) :
    (((cfg0.win 17).rect t).emb y : S8x4096x512.Idx) = ValueIdx.ix3 (batch t) (pos (rows t) (y 1)) (y 2) :=
  place (k := 512) _ t y (Pipeline.Window.rect_emb_val (cfg0.win 17) t y 0) (Pipeline.Window.rect_emb_val (cfg0.win 17) t y 1)
    (Pipeline.Window.rect_emb_val (cfg0.win 17) t y 2)

theorem final17_of (c : Dev nD) (G : Buf (Elt Ideal) ((c : Thread nD τ).loc main_v47_9)) (O : Fin cfg0.N → Vec Ideal S1x256x512 .bf16)
    (ho : ∀ t : Fin cfg0.N, (dats m 0 c).after 17 t = O t)
    (h : ∀ (t : Fin cfg0.N) (y : S1x256x512.Idx), O t y = G (((cfg0.win 17).rect t).emb y)) :
    (dats m 0 c).arrAt 17 cfg0.N = G := by
  refine (dats m 0 c).arrAt_eq_of_emb 17 G (fun t _ y => ?_) (fun i => ?_)
  · rw [ho]
    exact h t y
  · obtain ⟨t, y, e⟩ := reach (k := 512) i
    exact ⟨t, flush0_17 t, (congrArg (· ∈ _) ((emb17 t y).trans e)).mp (Finset.mem_map.mpr ⟨y, Finset.mem_univ _, rfl⟩)⟩

theorem final17 (c : Dev nD) : (dats m 0 c).arrAt 17 cfg0.N = want9 m c :=
  final17_of m c (want9 m c) (fun t => out0_17 (iblk m c 0 t) (iblk m c 1 t) (iblk m c 2 t) (iblk m c 3 t) (iblk m c 4 t) (iblk m c 5 t) (iblk m c 6 t) (iblk m c 7 t)) (after0_17 m c) fun t y => by
    rw [emb17 t y]
    exact (congrArg _ (unit_row (k := 512) y)).trans (out17_eq _ _ _ _ _ _ _ _ _ _ _ _ (batch t) (rows t) (blocks m c t) (y 1) (y 2))

theorem emb18 (t : Fin cfg0.N) (y : S1x256x512.Idx) :
    (((cfg0.win 18).rect t).emb y : S8x4096x512.Idx) = ValueIdx.ix3 (batch t) (pos (rows t) (y 1)) (y 2) :=
  place (k := 512) _ t y (Pipeline.Window.rect_emb_val (cfg0.win 18) t y 0) (Pipeline.Window.rect_emb_val (cfg0.win 18) t y 1)
    (Pipeline.Window.rect_emb_val (cfg0.win 18) t y 2)

theorem final18_of (c : Dev nD) (G : Buf (Elt Ideal) ((c : Thread nD τ).loc main_v47_10)) (O : Fin cfg0.N → Vec Ideal S1x256x512 .bf16)
    (ho : ∀ t : Fin cfg0.N, (dats m 0 c).after 18 t = O t)
    (h : ∀ (t : Fin cfg0.N) (y : S1x256x512.Idx), O t y = G (((cfg0.win 18).rect t).emb y)) :
    (dats m 0 c).arrAt 18 cfg0.N = G := by
  refine (dats m 0 c).arrAt_eq_of_emb 18 G (fun t _ y => ?_) (fun i => ?_)
  · rw [ho]
    exact h t y
  · obtain ⟨t, y, e⟩ := reach (k := 512) i
    exact ⟨t, flush0_18 t, (congrArg (· ∈ _) ((emb18 t y).trans e)).mp (Finset.mem_map.mpr ⟨y, Finset.mem_univ _, rfl⟩)⟩

theorem final18 (c : Dev nD) : (dats m 0 c).arrAt 18 cfg0.N = want10 m c :=
  final18_of m c (want10 m c) (fun t => out0_18 (iblk m c 0 t) (iblk m c 1 t) (iblk m c 2 t) (iblk m c 3 t) (iblk m c 4 t) (iblk m c 5 t) (iblk m c 6 t) (iblk m c 7 t)) (after0_18 m c) fun t y => by
    rw [emb18 t y]
    exact (congrArg _ (unit_row (k := 512) y)).trans (out18_eq _ _ _ _ _ _ _ _ _ _ _ _ (batch t) (rows t) (blocks m c t) (y 1) (y 2))

theorem emb19 (t : Fin cfg0.N) (y : S1x1x1x512.Idx) :
    (((cfg0.win 19).rect t).emb y : S8x16x1x512.Idx) = ValueIdx.ix4 (batch t) (rows t) (0 : Fin 1) (y 3) := by
  have h0 := (batch t).isLt
  have h2 := (rows t).isLt
  have hy : (y 0).val < 1 := (y 0).isLt
  have hy1 : (y 1).val < 1 := (y 1).isLt
  have hy2 : (y 2).val < 1 := (y 2).isLt
  refine funext fun a => Fin.ext ?_
  refine (Pipeline.Window.rect_emb_val (cfg0.win 19) t y a).trans ?_
  match a with
  | ⟨0, _⟩ => show (BitVec.ofNat 32 (batch t).val).toNat * 1 + (y 0).val = (batch t).val; rw [word _ _ (by omega)]; omega
  | ⟨1, _⟩ => show (BitVec.ofNat 32 (rows t).val).toNat * 1 + (y 1).val = (rows t).val; rw [word _ _ (by omega)]; omega
  | ⟨2, _⟩ => show 0 * 1 + (y 2).val = 0; omega
  | ⟨3, _⟩ => show 0 * 512 + (y 3).val = (y 3).val; omega

theorem after19 (c : Dev nD) (t : Fin cfg0.N) (y : S1x1x1x512.Idx) :
    out0_19 (iblk m c 0 t) (iblk m c 1 t) (iblk m c 2 t) (iblk m c 3 t) (iblk m c 4 t) (iblk m c 5 t) (iblk m c 6 t) (iblk m c 7 t) y = want11 m c (((cfg0.win 19).rect t).emb y) := by
  have hy : y = ValueIdx.ix4 (0 : Fin 1) (0 : Fin 1) (0 : Fin 1) (y 3) := by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => exact Fin.ext (by have : (y 2).val < 1 := (y 2).isLt; show (y 2).val = 0; omega)
    | ⟨3, _⟩ => rfl
  rw [emb19 t y]
  refine Eq.trans (congrArg _ hy) ?_
  exact out19_eq _ _ _ _ _ _ _ _ _ _ _ _ (batch t) (rows t) (blocks m c t) (y 3)

theorem cover19 (i : S8x16x1x512.Idx) :
    ∃ t : Fin cfg0.N, (cfg0.win 19).flush t = true ∧ i ∈ ((cfg0.win 19).blk t).view.set := by
  have h0 : (i 0).val < 8 := (i 0).isLt
  have h1 : (i 1).val < 16 := (i 1).isLt
  have h2 : (i 2).val < 1 := (i 2).isLt
  have h3 : (i 3).val < 512 := (i 3).isLt
  have hN : (i 0).val * 16 + (i 1).val < cfg0.N :=
    show (i 0).val * 16 + (i 1).val < 128 by omega
  refine ⟨⟨_, hN⟩, flush0_19 _, ?_⟩
  have e : ((cfg0.win 19).rect ⟨_, hN⟩).emb
      (ValueIdx.ix4 (0 : Fin 1) (0 : Fin 1) (0 : Fin 1) (⟨(i 3).val, h3⟩ : Fin 512)) = i := by
    refine (emb19 _ _).trans ?_
    have k0 := coords0 ⟨_, hN⟩
    have k1 := coords1 ⟨_, hN⟩
    funext a
    match a with
    | ⟨0, _⟩ => refine Fin.ext (k0.trans ?_); show ((i 0).val * 16 + (i 1).val) / 16 % 8 = (i 0).val; omega
    | ⟨1, _⟩ => refine Fin.ext (k1.trans ?_); show ((i 0).val * 16 + (i 1).val) / 1 % 16 = (i 1).val; omega
    | ⟨2, _⟩ => refine Fin.ext ?_; show 0 = (i 2).val; omega
    | ⟨3, _⟩ => rfl
  refine (congrArg (· ∈ _) e).mp ?_
  exact Finset.mem_map.mpr ⟨_, Finset.mem_univ _, rfl⟩

theorem final19_of (c : Dev nD) (G : Buf (Elt Ideal) ((c : Thread nD τ).loc main_v47_11)) (O : Fin cfg0.N → Vec Ideal S1x1x1x512 .f32)
    (ho : ∀ t : Fin cfg0.N, (dats m 0 c).after 19 t = O t)
    (h : ∀ (t : Fin cfg0.N) (y : S1x1x1x512.Idx), O t y = G (((cfg0.win 19).rect t).emb y)) :
    (dats m 0 c).arrAt 19 cfg0.N = G := by
  refine (dats m 0 c).arrAt_eq_of_emb 19 G (fun t _ y => ?_) cover19
  rw [ho]
  exact h t y

theorem final19 (c : Dev nD) : (dats m 0 c).arrAt 19 cfg0.N = want11 m c :=
  final19_of m c (want11 m c) (fun t => out0_19 (iblk m c 0 t) (iblk m c 1 t) (iblk m c 2 t) (iblk m c 3 t) (iblk m c 4 t) (iblk m c 5 t) (iblk m c 6 t) (iblk m c 7 t)) (after0_19 m c) (after19 m c)

/-- The call's run: the twelve results, and the arguments unchanged. -/
theorem run : θ_run defs (onTc (τ := τ) (main (F := Ideal))) ⟨m, fun _ => 0, ρ⟩ fun r => ∀ c : Dev nD,
    r.2.mem ((c.tc : Thread nD τ).loc main_v47_0) = want0 m c
      ∧ r.2.mem ((c.tc : Thread nD τ).loc main_v47_1) = want1 m c
      ∧ r.2.mem ((c.tc : Thread nD τ).loc main_v47_2) = want2 m c
      ∧ r.2.mem ((c.tc : Thread nD τ).loc main_v47_3) = want3 m c
      ∧ r.2.mem ((c.tc : Thread nD τ).loc main_v47_4) = want4 m c
      ∧ r.2.mem ((c.tc : Thread nD τ).loc main_v47_5) = want5 m c
      ∧ r.2.mem ((c.tc : Thread nD τ).loc main_v47_6) = want6 m c
      ∧ r.2.mem ((c.tc : Thread nD τ).loc main_v47_7) = want7 m c
      ∧ r.2.mem ((c.tc : Thread nD τ).loc main_v47_8) = want8 m c
      ∧ r.2.mem ((c.tc : Thread nD τ).loc main_v47_9) = want9 m c
      ∧ r.2.mem ((c.tc : Thread nD τ).loc main_v47_10) = want10 m c
      ∧ r.2.mem ((c.tc : Thread nD τ).loc main_v47_11) = want11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ k c => ?_) (run_blocks m ρ)
  obtain ⟨k0, k1, k2, k3, k4, k5, k6, k7, k8, k9, k10, k11, ka⟩ := k c
  exact ⟨k0.trans (final8 m c), k1.trans (final9 m c), k2.trans (final10 m c), k3.trans (final11 m c), k4.trans (final12 m c), k5.trans (final13 m c), k6.trans (final14 m c), k7.trans (final15 m c), k8.trans (final16 m c), k9.trans (final17 m c), k10.trans (final18 m c), k11.trans (final19 m c), ka⟩

end Cert.Proj

end

end
-- ==== Proof.Proj.Claim.lean ====
/- The claims about the projection call. -/
module

public import proofs.«01_k».proof.Defs
public import proofs.«01_k».proof.Proof.Gen.Kernel3
public import proofs.«01_k».proof.Proof.Gen.Kernel3.Frame
public import proofs.«01_k».proof.Proof.Gen.Reference3Ideal.Run
public import proofs.«01_k».proof.Proof.Proj.Call

@[expose] public section

set_option maxRecDepth 16384

noncomputable section

namespace Cert.Proj

open Idealize.ShloMosaic Idealize.ShloMosaic.TcCoe Idealize.SL.Sem

theorem frame_p : Cert.quiescent_Kernel3 := fun m ρ _ => Cert.Kernel3.Gen.frame m ρ

theorem frame_i : Cert.quiescent_Kernel3Ideal := fun m ρ _ => Cert.Kernel3Ideal.Gen.frame m ρ

theorem frame_r : Cert.quiescent_Reference3Ideal := fun m ρ _ =>
  (θ_run Cert.Reference3Ideal.defs _ _).mono (fun r k => ⟨fun c => (k c).2.2.2.2.2.2.2.2.2.2.2.2, sem_eq_zero_of_no_sems (by decide) r.2⟩)
    (Cert.Reference3Ideal.Value.run (F := Ideal) m ρ)

theorem preserves : Cert.preserves_Kernel3_Kernel3Ideal := trivial

/-- A function of four equal arguments. -/
theorem same {A B C D E : Type} (f : A → B → C → D → E) {a a' : A} {b b' : B} {c c' : C} {d d' : D} (h0 : a = a') (h1 : b = b') (h2 : c = c') (h3 : d = d') :
    f a b c d = f a' b' c' d' := by rw [h0, h1, h2, h3]

theorem algebraic : Cert.algebraic_Kernel3Ideal_Reference3Ideal := by
  intro m ρ m' ρ' _ hagree
  refine ⟨want0 m, want1 m, want2 m, want3 m, want4 m, want5 m, want6 m, want7 m, want8 m, want9 m, want10 m, want11 m, run m ρ, ?_⟩
  refine (θ_run Cert.Reference3Ideal.defs _ _).mono (fun r k c => ?_) (Cert.Reference3Ideal.Value.run (F := Ideal) m' ρ')
  obtain ⟨h0, h1, h2, h3⟩ := hagree c
  obtain ⟨k0, k1, k2, k3, k4, k5, k6, k7, k8, k9, k10, k11, ka⟩ := k c
  exact ⟨k0.trans ((Cert.Reference3Ideal.Read.val_main_v105_eq (F := Ideal) _).trans (same (Cert.Reference3Ideal.Read.val_main_v105 (F := Ideal)) h0 h1 h2 h3)),
    k1.trans ((Cert.Reference3Ideal.Read.val_main_v125_eq (F := Ideal) _).trans (same (Cert.Reference3Ideal.Read.val_main_v125 (F := Ideal)) h0 h1 h2 h3)),
    k2.trans ((Cert.Reference3Ideal.Read.val_main_v126_eq (F := Ideal) _).trans (same (Cert.Reference3Ideal.Read.val_main_v126 (F := Ideal)) h0 h1 h2 h3)),
    k3.trans ((Cert.Reference3Ideal.Read.val_main_v146_eq (F := Ideal) _).trans (same (Cert.Reference3Ideal.Read.val_main_v146 (F := Ideal)) h0 h1 h2 h3)),
    k4.trans ((Cert.Reference3Ideal.Read.val_main_v147_eq (F := Ideal) _).trans (same (Cert.Reference3Ideal.Read.val_main_v147 (F := Ideal)) h0 h1 h2 h3)),
    k5.trans ((Cert.Reference3Ideal.Read.val_main_v167_eq (F := Ideal) _).trans (same (Cert.Reference3Ideal.Read.val_main_v167 (F := Ideal)) h0 h1 h2 h3)),
    k6.trans ((Cert.Reference3Ideal.Read.val_main_v168_eq (F := Ideal) _).trans (same (Cert.Reference3Ideal.Read.val_main_v168 (F := Ideal)) h0 h1 h2 h3)),
    k7.trans ((Cert.Reference3Ideal.Read.val_main_v83_eq (F := Ideal) _).trans (same (Cert.Reference3Ideal.Read.val_main_v83 (F := Ideal)) h0 h1 h2 h3)),
    k8.trans ((Cert.Reference3Ideal.Read.val_main_v190_eq (F := Ideal) _).trans (same (Cert.Reference3Ideal.Read.val_main_v190 (F := Ideal)) h0 h1 h2 h3)),
    k9.trans ((Cert.Reference3Ideal.Read.val_main_v191_eq (F := Ideal) _).trans (same (Cert.Reference3Ideal.Read.val_main_v191 (F := Ideal)) h0 h1 h2 h3)),
    k10.trans ((Cert.Reference3Ideal.Read.val_main_v192_eq (F := Ideal) _).trans (same (Cert.Reference3Ideal.Read.val_main_v192 (F := Ideal)) h0 h1 h2 h3)),
    k11.trans ((Cert.Reference3Ideal.Read.val_main_v76_eq (F := Ideal) _).trans (same (Cert.Reference3Ideal.Read.val_main_v76 (F := Ideal)) h0 h1 h2 h3)), ka⟩

end Cert.Proj

end

end
-- ==== Proof.lean ====
/- The claims, put together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Pre_finite
public import proofs.«01_k».proof.Proof.Gen.Pre_in_range
public import proofs.«01_k».proof.Proof.Experts.Claim
public import proofs.«01_k».proof.Proof.Moba.Claim
public import proofs.«01_k».proof.Proof.Gen.Kernel3
public import proofs.«01_k».proof.Proof.Gen.Kernel3Ideal
public import proofs.«01_k».proof.Proof.Gen.Reference3Ideal
public import proofs.«01_k».proof.Proof.Proj.Claim
public import Idealize.ShloMosaic.Adequacy
public import Idealize.ShloMosaic.Init

@[expose] public section

noncomputable section

namespace Cert.Proof

open Idealize.ShloMosaic Idealize.SL.Sem Cert.Kernel

/-- The attention call runs and changes no argument, over machine floats and over the extended reals. -/
theorem frame_p : Cert.quiescent_Kernel := fun m ρ _ => Cert.Kernel.Gen.frame m ρ

theorem frame_i : Cert.quiescent_KernelIdeal := fun m ρ _ => Cert.KernelIdeal.Gen.frame m ρ

theorem frame_r : Cert.quiescent_ReferenceIdeal := fun m ρ _ =>
  (θ_run Cert.ReferenceIdeal.defs _ _).mono (fun r k => ⟨fun c => (k c).2, sem_eq_zero_of_no_sems (by decide) r.2⟩)
    (Cert.ReferenceIdeal.Value.run (F := Ideal) m ρ)

theorem frame_i_finite : Cert.quiescent_KernelIdeal_pre_finite := fun m ρ _ => Cert.KernelIdeal.Gen.frame m ρ

theorem frame_r_finite : Cert.quiescent_ReferenceIdeal_pre_finite := fun m ρ _ =>
  (θ_run Cert.ReferenceIdeal.defs _ _).mono (fun r k => ⟨fun c => (k c).2, sem_eq_zero_of_no_sems (by decide) r.2⟩)
    (Cert.ReferenceIdeal.Value.run (F := Ideal) m ρ)

/-- The mask's name stands for −∞. -/
theorem preserves : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, Cert.Pre_finite.Gen.facts,
  Cert.Pre_in_range.Gen.facts, frame_p, frame_i, frame_i_finite, frame_r, frame_r_finite, Cert.Experts.frame_p, Cert.Experts.frame_i, Cert.Experts.frame_r,
  Cert.Proj.frame_p, Cert.Proj.frame_i, Cert.Proj.frame_r, preserves, Cert.Moba.algebraic,
  Cert.Experts.preserves, Cert.Experts.algebraic, Cert.Proj.preserves, Cert.Proj.algebraic⟩

end Cert.Proof

end
